-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def preserves_Kernel2_Kernel2Ideal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def preserves_Kernel8_Kernel8Ideal : Prop :=
  True

def preserves_Kernel9_Kernel9Ideal : Prop :=
  True

def preserves_Kernel10_Kernel10Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v30) = v3 c
          ∧ r.2.mem ((c.tc : Thread Cert.Reference3Ideal.nD Cert.Reference3Ideal.τ).loc Cert.Reference3Ideal.main_v32) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)) (v4 : (c : Dev Cert.Kernel4Ideal.nD) → Buf (Elt Ideal) ((c.tc : Thread Cert.Kernel4Ideal.nD Cert.Kernel4Ideal.τ).loc Cert.Kernel4Ideal.main_v3_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_v3_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_v28) = v3 c
          ∧ r.2.mem ((c.tc : Thread Cert.Reference4Ideal.nD Cert.Reference4Ideal.τ).loc Cert.Reference4Ideal.main_v30) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v36) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v91) = v0 c
          ∧ r.2.mem ((c.tc : Thread Cert.Reference10Ideal.nD Cert.Reference10Ideal.τ).loc Cert.Reference10Ideal.main_v83) = v1 c
          ∧ r.2.mem ((c.tc : Thread Cert.Reference10Ideal.nD Cert.Reference10Ideal.τ).loc Cert.Reference10Ideal.main_v94) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ preserves_Kernel_KernelIdeal
    ∧ preserves_Kernel2_Kernel2Ideal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ preserves_Kernel8_Kernel8Ideal
    ∧ preserves_Kernel9_Kernel9Ideal
    ∧ preserves_Kernel10_Kernel10Ideal
    ∧ algebraic_Kernel2Ideal_Reference2Ideal (hKernel2Ideal := hKernel2Ideal) (hReference2Ideal := hReference2Ideal)
    ∧ algebraic_KernelIdeal_ReferenceIdeal_pre_finite (hKernelIdeal := hKernelIdeal) (hReferenceIdeal := hReferenceIdeal) (hPre_finite := hPre_finite)
    ∧ algebraic_Kernel3Ideal_Reference3Ideal (hKernel3Ideal := hKernel3Ideal) (hReference3Ideal := hReference3Ideal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
    ∧ algebraic_Kernel9Ideal_Reference9Ideal (hKernel9Ideal := hKernel9Ideal) (hReference9Ideal := hReference9Ideal)
    ∧ algebraic_Kernel10Ideal_Reference10Ideal_pre_finite10 (hKernel10Ideal := hKernel10Ideal) (hReference10Ideal := hReference10Ideal) (hPre_finite10 := hPre_finite10)
-- ==== Pre_finite.lean ====
abbrev S16x16384x64 : Shape := ⟨3, ![16, 16384, 64]⟩
abbrev S16x64x64x256 : Shape := ⟨4, ![16, 64, 64, 256]⟩
abbrev S16 : Shape := ⟨1, ![16]⟩
abbrev S_ : Shape := ⟨0, ![]⟩

class Facts : Prop where
  bitsLt_bf16_f32 : FTy.bits .bf16 < FTy.bits .f32
  bcast_S_S16x16384x64 : S_.BroadcastsInDim S16x16384x64 (![] : Fin 0 → Fin S16x16384x64.rank)
  reducesTo_S16x16384x64_S_d0_1_2 : S16x16384x64.ReducesTo [0, 1, 2] S_
  h_S_ : 0 < S_.numel
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16x16384x64 .bf16) (main_arg1 : FVec F S16x64x64x256 .bf16) (main_arg2 : FVec F S16x16384x64 .bf16) (main_arg3 : FVec F S16 .f32) : IVec S_ 1 :=
  let main_v0 : FVec F S16x16384x64 .f32 := (extf .f32 · bitsLt_bf16_f32) main_arg0
  let main_v1 : FVec F S16x16384x64 .f32 := Host.absf main_v0
  let main_cst : FVec F S_ .f32 := constant S_ .f32 0x7F800000#32
  let main_v2 : FVec F S16x16384x64 .f32 := broadcastInDim S16x16384x64 ![] bcast_S_S16x16384x64 main_cst
  let main_v3 : IVec S16x16384x64 1 := cmpf .olt main_v1 main_v2
  let main_c : IVec S_ 1 := constantI S_ 1 1#1
  let main_v4 : IVec S_ 1 := (fun x v => Host.reduce IntOp.andi x v reducesTo_S16x16384x64_S_d0_1_2 h_S_) main_v3 main_c
  let main_v5 : FVec F S16x64x64x256 .f32 := (extf .f32 · bitsLt_bf16_f32) main_arg1
  let main_v6 : FVec F S16x64x64x256 .f32 := Host.absf main_v5
  let main_cst_0 : FVec F S_ .f32 := constant S_ .f32 0x7F800000#32
  let main_v7 : FVec F S16x64x64x256 .f32 := broadcastInDim S16x64x64x256 ![] bcast_S_S16x64x64x256 main_cst_0
  let main_v8 : IVec S16x64x64x256 1 := cmpf .olt main_v6 main_v7
  let main_c_1 : IVec S_ 1 := constantI S_ 1 1#1
  let main_v9 : IVec S_ 1 := (fun x v => Host.reduce IntOp.andi x v reducesTo_S16x64x64x256_S_d0_1_2_3 h_S_) main_v8 main_c_1
  let main_v10 : IVec S_ 1 := andi main_v4 main_v9
  let main_v11 : FVec F S16 .f32 := Host.absf main_arg3
  let main_cst_2 : FVec F S_ .f32 := constant S_ .f32 0x7F800000#32
  let main_v12 : FVec F S16 .f32 := broadcastInDim S16 ![] bcast_S_S16 main_cst_2
  let main_v13 : IVec S16 1 := cmpf .olt main_v11 main_v12
  let main_c_3 : IVec S_ 1 := constantI S_ 1 1#1
  let main_v14 : IVec S_ 1 := (fun x v => Host.reduce IntOp.andi x v reducesTo_S16_S_d0 h_S_) main_v13 main_c_3
  let main_v15 : IVec S_ 1 := andi main_v10 main_v14
  main_v15
-- ==== Pre_finite10.lean ====
abbrev S8x16384x64 : Shape := ⟨3, ![8, 16384, 64]⟩
abbrev S8x64x64x256 : Shape := ⟨4, ![8, 64, 64, 256]⟩
abbrev S8x16384x128 : Shape := ⟨3, ![8, 16384, 128]⟩
abbrev S16384x1024 : Shape := ⟨2, ![16384, 1024]⟩
abbrev S16384x128 : Shape := ⟨2, ![16384, 128]⟩
abbrev S16 : Shape := ⟨1, ![16]⟩
abbrev S8x128 : Shape := ⟨2, ![8, 128]⟩
abbrev S_ : Shape := ⟨0, ![]⟩
abbrev S16384x16 : Shape := ⟨2, ![16384, 16]⟩

class Facts : Prop where
  bitsLt_bf16_f32 : FTy.bits .bf16 < FTy.bits .f32
  bcast_S_S8x16384x64 : S_.BroadcastsInDim S8x16384x64 (![] : Fin 0 → Fin S8x16384x64.rank)
  reducesTo_S8x16384x64_S_d0_1_2 : S8x16384x64.ReducesTo [0, 1, 2] S_
  h_S_ : 0 < S_.numel
  bcast_S_S8x64x64x256 : S_.BroadcastsInDim S8x64x64x256 (![] : Fin 0 → Fin S8x64x64x256.rank)
  reducesTo_S8x64x64x256_S_d0_1_2_3 : S8x64x64x256.ReducesTo [0, 1, 2, 3] S_
  bcast_S_S8x16384x128 : S_.BroadcastsInDim S8x16384x128 (![] : Fin 0 → Fin S8x16384x128.rank)
  reducesTo_S8x16384x128_S_d0_1_2 : S8x16384x128.ReducesTo [0, 1, 2] S_
  slices_S16384x128_S16384x16_0_0 : S16384x128.Slices ![0, 0] S16384x16
  bcast_S_S16384x16 : S_.BroadcastsInDim S16384x16 (![] : Fin 0 → Fin S16384x16.rank)
  reducesTo_S16384x16_S_d0_1 : S16384x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v16 : IVec S_ 1) (main_v17 : FVec F S16384x16 .f32) : IVec S_ 1 :=
  let main_v18 : FVec F S16384x16 .f32 := Host.absf main_v17
  let main_cst_4 : FVec F S_ .f32 := constant S_ .f32 0x7F800000#32
  let main_v19 : FVec F S16384x16 .f32 := broadcastInDim S16384x16 ![] bcast_S_S16384x16 main_cst_4
  let main_v20 : IVec S16384x16 1 := cmpf .olt main_v18 main_v19
  let main_c_5 : IVec S_ 1 := constantI S_ 1 1#1
  let main_v21 : IVec S_ 1 := (fun x v => Host.reduce IntOp.andi x v reducesTo_S16384x16_S_d0_1 h_S_) main_v20 main_c_5
  let main_v22 : IVec S_ 1 := andi main_v16 main_v21
  let main_v23 : FVec F S16 .f32 := Host.absf main_arg5
  let main_cst_6 : FVec F S_ .f32 := constant S_ .f32 0x7F800000#32
  let main_v24 : FVec F S16 .f32 := broadcastInDim S16 ![] bcast_S_S16 main_cst_6
  let main_v25 : IVec S16 1 := cmpf .olt main_v23 main_v24
  let main_c_7 : IVec S_ 1 := constantI S_ 1 1#1
  let main_v26 : IVec S_ 1 := (fun x v => Host.reduce IntOp.andi x v reducesTo_S16_S_d0 h_S_) main_v25 main_c_7
  let main_v27 : IVec S_ 1 := andi main_v22 main_v26
  main_v27

def fn {F : FTy → Type} [FloatOps F] (main_arg0 : FVec F S8x16384x64 .bf16) (main_arg1 : FVec F S8x64x64x256 .bf16) (main_arg2 : FVec F S8x16384x128 .bf16) (main_arg3 : FVec F S16384x1024 .f32) (main_arg4 : FVec F S16384x128 .f32) (main_arg5 : FVec F S16 .f32) (main_arg6 : FVec F S8x128 .f32) : IVec S_ 1 :=
  let main_v0 : FVec F S8x16384x64 .f32 := (extf .f32 · bitsLt_bf16_f32) main_arg0
  let main_v1 : FVec F S8x16384x64 .f32 := Host.absf main_v0
  let main_cst : FVec F S_ .f32 := constant S_ .f32 0x7F800000#32
  let main_v2 : FVec F S8x16384x64 .f32 := broadcastInDim S8x16384x64 ![] bcast_S_S8x16384x64 main_cst
  let main_v3 : IVec S8x16384x64 1 := cmpf .olt main_v1 main_v2
  let main_c : IVec S_ 1 := constantI S_ 1 1#1
  let main_v4 : IVec S_ 1 := (fun x v => Host.reduce IntOp.andi x v reducesTo_S8x16384x64_S_d0_1_2 h_S_) main_v3 main_c
  let main_v5 : FVec F S8x64x64x256 .f32 := (extf .f32 · bitsLt_bf16_f32) main_arg1
  let main_v6 : FVec F S8x64x64x256 .f32 := Host.absf main_v5
  let main_cst_0 : FVec F S_ .f32 := constant S_ .f32 0x7F800000#32
  let main_v7 : FVec F S8x64x64x256 .f32 := broadcastInDim S8x64x64x256 ![] bcast_S_S8x64x64x256 main_cst_0
  let main_v8 : IVec S8x64x64x256 1 := cmpf .olt main_v6 main_v7
  let main_c_1 : IVec S_ 1 := constantI S_ 1 1#1
  let main_v9 : IVec S_ 1 := (fun x v => Host.reduce IntOp.andi x v reducesTo_S8x64x64x256_S_d0_1_2_3 h_S_) main_v8 main_c_1
  let main_v10 : IVec S_ 1 := andi main_v4 main_v9
  let main_v11 : FVec F S8x16384x128 .f32 := (extf .f32 · bitsLt_bf16_f32) main_arg2
  let main_v12 : FVec F S8x16384x128 .f32 := Host.absf main_v11
  let main_cst_2 : FVec F S_ .f32 := constant S_ .f32 0x7F800000#32
  let main_v13 : FVec F S8x16384x128 .f32 := broadcastInDim S8x16384x128 ![] bcast_S_S8x16384x128 main_cst_2
  let main_v14 : IVec S8x16384x128 1 := cmpf .olt main_v12 main_v13
  let main_c_3 : IVec S_ 1 := constantI S_ 1 1#1
  let main_v15 : IVec S_ 1 := (fun x v => Host.reduce IntOp.andi x v reducesTo_S8x16384x128_S_d0_1_2 h_S_) main_v14 main_c_3
  let main_v16 : IVec S_ 1 := andi main_v10 main_v15
  let main_v17 : FVec F S16384x16 .f32 := (extractStridedSlice S16384x16 ![0, 0] · slices_S16384x128_S16384x16_0_0) main_arg4
  fn_part1 (F := F) main_arg5 main_v16 main_v17
-- ==== Kernel.lean ====
abbrev S16x16384x64 : Shape := ⟨3, ![16, 16384, 64]⟩
abbrev S16x64x64x256 : Shape := ⟨4, ![16, 64, 64, 256]⟩
abbrev S16 : Shape := ⟨1, ![16]⟩
abbrev S256x256 : Shape := ⟨2, ![256, 256]⟩
abbrev S16384x1024 : Shape := ⟨2, ![16384, 1024]⟩
abbrev S2x256x64 : Shape := ⟨3, ![2, 256, 64]⟩
abbrev S2x8x64x256 : Shape := ⟨4, ![2, 8, 64, 256]⟩
abbrev S2x2048x64 : Shape := ⟨3, ![2, 2048, 64]⟩
abbrev S256x128 : Shape := ⟨2, ![256, 128]⟩
abbrev S2x256x128 : Shape := ⟨3, ![2, 256, 128]⟩
abbrev S1x256x64 : Shape := ⟨3, ![1, 256, 64]⟩
abbrev S256x64 : Shape := ⟨2, ![256, 64]⟩
abbrev S1x1x64x256 : Shape := ⟨4, ![1, 1, 64, 256]⟩
abbrev S64x256 : Shape := ⟨2, ![64, 256]⟩
abbrev S1 : Shape := ⟨1, ![1]⟩
abbrev S1x256x128 : Shape := ⟨3, ![1, 256, 128]⟩
abbrev S256x1 : Shape := ⟨2, ![256, 1]⟩

abbrev nBuf : Space → Nat
  | .hbm => 9
  | .vmem => 11
  | .smem => 1
  | _ => 0

abbrev bufTy : (tb : Table) → Fin (tcTables nBuf tb) → BufTy
  | .hbm, ⟨0, _⟩ => ⟨S16x16384x64, .bf16⟩
  | .hbm, ⟨1, _⟩ => ⟨S16x64x64x256, .bf16⟩
  | .hbm, ⟨2, _⟩ => ⟨S16x16384x64, .bf16⟩
  | .hbm, ⟨3, _⟩ => ⟨S16, .f32⟩
  | .hbm, ⟨4, _⟩ => ⟨S256x256, .i32⟩
  | .hbm, ⟨5, _⟩ => ⟨S256x256, .i32⟩
  | .hbm, ⟨6, _⟩ => ⟨S256x256, .i1⟩
  | .hbm, ⟨7, _⟩ => ⟨S256x256, .bf16⟩
  | .hbm, ⟨8, _⟩ => ⟨S16384x1024, .bf16⟩
  | .local _ .vmem, ⟨0, _⟩ => ⟨S2x256x64, .bf16⟩
  | .local _ .vmem, ⟨1, _⟩ => ⟨S2x256x64, .bf16⟩
  | .local _ .vmem, ⟨2, _⟩ => ⟨S2x8x64x256, .bf16⟩
  | .local _ .vmem, ⟨3, _⟩ => ⟨S2x8x64x256, .bf16⟩
  | .local _ .vmem, ⟨4, _⟩ => ⟨S2x2048x64, .bf16⟩
  | .local _ .vmem, ⟨5, _⟩ => ⟨S2x2048x64, .bf16⟩
  | .local _ .vmem, ⟨6, _⟩ => ⟨S256x256, .bf16⟩
  | .local _ .vmem, ⟨7, _⟩ => ⟨S256x128, .bf16⟩
  | .local _ .vmem, ⟨8, _⟩ => ⟨S256x128, .bf16⟩
  | .local _ .vmem, ⟨9, _⟩ => ⟨S2x256x128, .f32⟩
  | .local _ .vmem, ⟨10, _⟩ => ⟨S2x256x64, .f32⟩
  | .local _ .smem, ⟨0, _⟩ => ⟨S16, .f32⟩
  | _, _ => ⟨S16x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 8, 8], ![false, false, false]⟩

def k0_off1 (i : grid0.Coords) : Fin 4 → Nat :=
  let c0_11 : Index := 0#32
  let arg2 : BitVec 32 := BitVec.ofNat 32 (i 2).val
  let v15 : Index := Scalar.indexCast arg2
  let c0_12 : Index := 0#32
  let c0_13 : Index := 0#32
  ![0, v15.toNat, 0, 0]
def k0_off2 (i : grid0.Coords) (c0_i32 : BitVec 32) : Fin 1 → Nat :=
  let arg1 : BitVec 32 := BitVec.ofNat 32 (i 1).val
  let c2_i32 : BitVec 32 := 2#32
  let v19 : BitVec 32 := Scalar.muli arg1 c2_i32
  let v20 : BitVec 32 := Scalar.addi v19 c0_i32
  let v21 : Index := Scalar.indexCast v20
  ![v21.toNat]
def k0_mult1 (i : grid0.Coords) : BitVec 32 :=
  let arg2 : BitVec 32 := BitVec.ofNat 32 (i 2).val
  let c256_i32 : BitVec 32 := 256#32
  let v50 : BitVec 32 := Scalar.muli arg2 c256_i32
  v50
def k0_off3 (i : grid0.Coords) : Fin 3 → Nat :=
  let c0_27 : Index := 0#32
  let arg2 : BitVec 32 := BitVec.ofNat 32 (i 2).val
  let c256_i32 : BitVec 32 := 256#32
  let v50 : BitVec 32 := Scalar.muli arg2 c256_i32
  let v51 : BitVec 32 := v50
  let v55 : Index := Scalar.indexCast v51
  let c0_28 : Index := 0#32
  ![0, v55.toNat, 0]
def k0_off4 (i : grid0.Coords) : Fin 4 → Nat :=
  let c1_38 : Index := 1#32
  let arg2 : BitVec 32 := BitVec.ofNat 32 (i 2).val
  let v72 : Index := Scalar.indexCast arg2
  let c0_39 : Index := 0#32
  let c0_40 : Index := 0#32
  ![1, v72.toNat, 0, 0]
def k0_mult2 (i : grid0.Coords) : BitVec 32 :=
  let arg2 : BitVec 32 := BitVec.ofNat 32 (i 2).val
  let c256_i32_52 : BitVec 32 := 256#32
  let v107 : BitVec 32 := Scalar.muli arg2 c256_i32_52
  v107
def k0_off5 (i : grid0.Coords) : Fin 3 → Nat :=
  let c1_56 : Index := 1#32
  let arg2 : BitVec 32 := BitVec.ofNat 32 (i 2).val
  let c256_i32_52 : BitVec 32 := 256#32
  let v107 : BitVec 32 := Scalar.muli arg2 c256_i32_52
  let v108 : BitVec 32 := v107
  let v112 : Index := Scalar.indexCast v108
  let c0_57 : Index := 0#32
  ![1, v112.toNat, 0]
@[reducible] def k0_t1_loop (i : grid0.Coords) : Scf.Loop 32 :=
  let c0_i32_66 : BitVec 32 := 0#32
  let arg2 : BitVec 32 := BitVec.ofNat 32 (i 2).val
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_68 : BitVec 32 := 1#32
  ⟨c0_i32_66, v131, c1_i32_68⟩
def k0_off6 (i : grid0.Coords) (k0_t1 : Fin (k0_t1_loop i).trips) : Fin 4 → Nat :=
  let c0_82 : Index := 0#32
  let arg2 : BitVec 32 := BitVec.ofNat 32 (i 2).val
  let c1_i32_78 : BitVec 32 := 1#32
  let v139 : BitVec 32 := Scalar.subi arg2 c1_i32_78
  let c0_i32_66 : BitVec 32 := 0#32
  let c1_i32_68 : BitVec 32 := 1#32
  let arg11 : BitVec 32 := Scf.iv c0_i32_66 c1_i32_68 k0_t1
  let v140 : BitVec 32 := Scalar.subi v139 arg11
  let v143 : Index := Scalar.indexCast v140
  let c0_83 : Index := 0#32
  let c0_84 : Index := 0#32
  ![0, v143.toNat, 0, 0]
def k0_off7 (i : grid0.Coords) (c0_i32_87 : BitVec 32) : Fin 1 → Nat :=
  let arg1 : BitVec 32 := BitVec.ofNat 32 (i 1).val
  let c2_i32_86 : BitVec 32 := 2#32
  let v147 : BitVec 32 := Scalar.muli arg1 c2_i32_86
  let v148 : BitVec 32 := Scalar.addi v147 c0_i32_87
  let v149 : Index := Scalar.indexCast v148
  ![v149.toNat]
def k0_mult3 (i : grid0.Coords) (k0_t1 : Fin (k0_t1_loop i).trips) : BitVec 32 :=
  let arg2 : BitVec 32 := BitVec.ofNat 32 (i 2).val
  let c1_i32_78 : BitVec 32 := 1#32
  let v139 : BitVec 32 := Scalar.subi arg2 c1_i32_78
  let c0_i32_66 : BitVec 32 := 0#32
  let c1_i32_68 : BitVec 32 := 1#32
  let arg11 : BitVec 32 := Scf.iv c0_i32_66 c1_i32_68 k0_t1
  let v140 : BitVec 32 := Scalar.subi v139 arg11
  let c256_i32_95 : BitVec 32 := 256#32
  let v174 : BitVec 32 := Scalar.muli v140 c256_i32_95
  v174
def k0_off8 (i : grid0.Coords) (k0_t1 : Fin (k0_t1_loop i).trips) : Fin 3 → Nat :=
  let c0_99 : Index := 0#32
  let arg2 : BitVec 32 := BitVec.ofNat 32 (i 2).val
  let c1_i32_78 : BitVec 32 := 1#32
  let v139 : BitVec 32 := Scalar.subi arg2 c1_i32_78
  let c0_i32_66 : BitVec 32 := 0#32
  let c1_i32_68 : BitVec 32 := 1#32
  let arg11 : BitVec 32 := Scf.iv c0_i32_66 c1_i32_68 k0_t1
  let v140 : BitVec 32 := Scalar.subi v139 arg11
  let c256_i32_95 : BitVec 32 := 256#32
  let v174 : BitVec 32 := Scalar.muli v140 c256_i32_95
  let v175 : BitVec 32 := v174
  let v179 : Index := Scalar.indexCast v175
  let c0_100 : Index := 0#32
  ![0, v179.toNat, 0]
def k0_off9 (i : grid0.Coords) (k0_t1 : Fin (k0_t1_loop i).trips) : Fin 4 → Nat :=
  let c1_111 : Index := 1#32
  let arg2 : BitVec 32 := BitVec.ofNat 32 (i 2).val
  let c1_i32_78 : BitVec 32 := 1#32
  let v139 : BitVec 32 := Scalar.subi arg2 c1_i32_78
  let c0_i32_66 : BitVec 32 := 0#32
  let c1_i32_68 : BitVec 32 := 1#32
  let arg11 : BitVec 32 := Scf.iv c0_i32_66 c1_i32_68 k0_t1
  let v140 : BitVec 32 := Scalar.subi v139 arg11
  let v196 : Index := Scalar.indexCast v140
  let c0_112 : Index := 0#32
  let c0_113 : Index := 0#32
  ![1, v196.toNat, 0, 0]
def k0_mult4 (i : grid0.Coords) (k0_t1 : Fin (k0_t1_loop i).trips) : BitVec 32 :=
  let arg2 : BitVec 32 := BitVec.ofNat 32 (i 2).val
  let c1_i32_78 : BitVec 32 := 1#32
  let v139 : BitVec 32 := Scalar.subi arg2 c1_i32_78
  let c0_i32_66 : BitVec 32 := 0#32
  let c1_i32_68 : BitVec 32 := 1#32
  let arg11 : BitVec 32 := Scf.iv c0_i32_66 c1_i32_68 k0_t1
  let v140 : BitVec 32 := Scalar.subi v139 arg11
  let c256_i32_124 : BitVec 32 := 256#32
  let v227 : BitVec 32 := Scalar.muli v140 c256_i32_124
  v227
def k0_off10 (i : grid0.Coords) (k0_t1 : Fin (k0_t1_loop i).trips) : Fin 3 → Nat :=
  let c1_128 : Index := 1#32
  let arg2 : BitVec 32 := BitVec.ofNat 32 (i 2).val
  let c1_i32_78 : BitVec 32 := 1#32
  let v139 : BitVec 32 := Scalar.subi arg2 c1_i32_78
  let c0_i32_66 : BitVec 32 := 0#32
  let c1_i32_68 : BitVec 32 := 1#32
  let arg11 : BitVec 32 := Scf.iv c0_i32_66 c1_i32_68 k0_t1
  let v140 : BitVec 32 := Scalar.subi v139 arg11
  let c256_i32_124 : BitVec 32 := 256#32
  let v227 : BitVec 32 := Scalar.muli v140 c256_i32_124
  let v228 : BitVec 32 := v227
  let v232 : Index := Scalar.indexCast v228
  let c0_129 : Index := 0#32
  ![1, v232.toNat, 0]
@[reducible] def k0_t2_loop (i : grid0.Coords) : Scf.Loop 32 :=
  let c0_i32_66 : BitVec 32 := 0#32
  let arg2 : BitVec 32 := BitVec.ofNat 32 (i 2).val
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let v128 : BitVec 32 := Scalar.addi c0_i32_66 v127
  let c1_i32_69 : BitVec 32 := 1#32
  ⟨v131, v128, c1_i32_69⟩
def k0_off11 (i : grid0.Coords) (k0_t2 : Fin (k0_t2_loop i).trips) : Fin 4 → Nat :=
  let c0_82 : Index := 0#32
  let arg2 : BitVec 32 := BitVec.ofNat 32 (i 2).val
  let c1_i32_78 : BitVec 32 := 1#32
  let v139 : BitVec 32 := Scalar.subi arg2 c1_i32_78
  let c0_i32_66 : BitVec 32 := 0#32
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_69 : BitVec 32 := 1#32
  let arg11 : BitVec 32 := Scf.iv v131 c1_i32_69 k0_t2
  let v140 : BitVec 32 := Scalar.subi v139 arg11
  let v143 : Index := Scalar.indexCast v140
  let c0_83 : Index := 0#32
  let c0_84 : Index := 0#32
  ![0, v143.toNat, 0, 0]
def k0_off12 (i : grid0.Coords) (c0_i32_87 : BitVec 32) : Fin 1 → Nat :=
  let arg1 : BitVec 32 := BitVec.ofNat 32 (i 1).val
  let c2_i32_86 : BitVec 32 := 2#32
  let v147 : BitVec 32 := Scalar.muli arg1 c2_i32_86
  let v148 : BitVec 32 := Scalar.addi v147 c0_i32_87
  let v149 : Index := Scalar.indexCast v148
  ![v149.toNat]
def k0_mult5 (i : grid0.Coords) (k0_t2 : Fin (k0_t2_loop i).trips) : BitVec 32 :=
  let arg2 : BitVec 32 := BitVec.ofNat 32 (i 2).val
  let c1_i32_78 : BitVec 32 := 1#32
  let v139 : BitVec 32 := Scalar.subi arg2 c1_i32_78
  let c0_i32_66 : BitVec 32 := 0#32
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_69 : BitVec 32 := 1#32
  let arg11 : BitVec 32 := Scf.iv v131 c1_i32_69 k0_t2
  let v140 : BitVec 32 := Scalar.subi v139 arg11
  let c256_i32_95 : BitVec 32 := 256#32
  let v174 : BitVec 32 := Scalar.muli v140 c256_i32_95
  v174
def k0_off13 (i : grid0.Coords) (k0_t2 : Fin (k0_t2_loop i).trips) : Fin 3 → Nat :=
  let c0_99 : Index := 0#32
  let arg2 : BitVec 32 := BitVec.ofNat 32 (i 2).val
  let c1_i32_78 : BitVec 32 := 1#32
  let v139 : BitVec 32 := Scalar.subi arg2 c1_i32_78
  let c0_i32_66 : BitVec 32 := 0#32
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_69 : BitVec 32 := 1#32
  let arg11 : BitVec 32 := Scf.iv v131 c1_i32_69 k0_t2
  let v140 : BitVec 32 := Scalar.subi v139 arg11
  let c256_i32_95 : BitVec 32 := 256#32
  let v174 : BitVec 32 := Scalar.muli v140 c256_i32_95
  let v175 : BitVec 32 := v174
  let v179 : Index := Scalar.indexCast v175
  let c0_100 : Index := 0#32
  ![0, v179.toNat, 0]
def k0_off14 (i : grid0.Coords) (k0_t2 : Fin (k0_t2_loop i).trips) : Fin 4 → Nat :=
  let c1_111 : Index := 1#32
  let arg2 : BitVec 32 := BitVec.ofNat 32 (i 2).val
  let c1_i32_78 : BitVec 32 := 1#32
  let v139 : BitVec 32 := Scalar.subi arg2 c1_i32_78
  let c0_i32_66 : BitVec 32 := 0#32
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_69 : BitVec 32 := 1#32
  let arg11 : BitVec 32 := Scf.iv v131 c1_i32_69 k0_t2
  let v140 : BitVec 32 := Scalar.subi v139 arg11
  let v196 : Index := Scalar.indexCast v140
  let c0_112 : Index := 0#32
  let c0_113 : Index := 0#32
  ![1, v196.toNat, 0, 0]
def k0_mult6 (i : grid0.Coords) (k0_t2 : Fin (k0_t2_loop i).trips) : BitVec 32 :=
  let arg2 : BitVec 32 := BitVec.ofNat 32 (i 2).val
  let c1_i32_78 : BitVec 32 := 1#32
  let v139 : BitVec 32 := Scalar.subi arg2 c1_i32_78
  let c0_i32_66 : BitVec 32 := 0#32
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_69 : BitVec 32 := 1#32
  let arg11 : BitVec 32 := Scf.iv v131 c1_i32_69 k0_t2
  let v140 : BitVec 32 := Scalar.subi v139 arg11
  let c256_i32_124 : BitVec 32 := 256#32
  let v227 : BitVec 32 := Scalar.muli v140 c256_i32_124
  v227
def k0_off15 (i : grid0.Coords) (k0_t2 : Fin (k0_t2_loop i).trips) : Fin 3 → Nat :=
  let c1_128 : Index := 1#32
  let arg2 : BitVec 32 := BitVec.ofNat 32 (i 2).val
  let c1_i32_78 : BitVec 32 := 1#32
  let v139 : BitVec 32 := Scalar.subi arg2 c1_i32_78
  let c0_i32_66 : BitVec 32 := 0#32
  let v127 : BitVec 32 := Scalar.subi arg2 c0_i32_66
  let c1_i32_67 : BitVec 32 := 1#32
  let v129 : BitVec 32 := Scalar.divsi v127 c1_i32_67
  let v130 : BitVec 32 := Scalar.muli v129 c1_i32_67
  let v131 : BitVec 32 := Scalar.addi c0_i32_66 v130
  let c1_i32_69 : BitVec 32 := 1#32
  let arg11 : BitVec 32 := Scf.iv v131 c1_i32_69 k0_t2
  let v140 : BitVec 32 := Scalar.subi v139 arg11
  let c256_i32_124 : BitVec 32 := 256#32
  let v227 : BitVec 32 := Scalar.muli v140 c256_i32_124
  let v228 : BitVec 32 := v227
  let v232 : Index := Scalar.indexCast v228
  let c0_129 : Index := 0#32
  ![1, v232.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x8x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x16384x64 : Shape := ⟨3, ![16, 16384, 64]⟩
abbrev S16x64x64x256 : Shape := ⟨4, ![16, 64, 64, 256]⟩
abbrev S16 : Shape := ⟨1, ![16]⟩
abbrev S16x8x2048x64 : Shape := ⟨4, ![16, 8, 2048, 64]⟩
abbrev S16x64x256x64 : Shape := ⟨4, ![16, 64, 256, 64]⟩
abbrev S16x8x2048x2048 : Shape := ⟨4, ![16, 8, 2048, 2048]⟩
abbrev S16x1x1x1 : Shape := ⟨4, ![16, 1, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S8x16x64x2048 : Shape := ⟨4, ![8, 16, 64, 2048]⟩
abbrev S8x2048x16x64 : Shape := ⟨4, ![8, 2048, 16, 64]⟩
abbrev S16384x1024 : Shape := ⟨2, ![16384, 1024]⟩

abbrev nBuf : Space → Nat
  | .hbm => 75
  | .vmem => 0
  | .smem => 0
  | _ => 0

abbrev bufTy : (tb : Table) → Fin (tcTables nBuf tb) → BufTy
  | .hbm, ⟨0, _⟩ => ⟨S16x16384x64, .bf16⟩
  | .hbm, ⟨1, _⟩ => ⟨S16x64x64x256, .bf16⟩
  | .hbm, ⟨2, _⟩ => ⟨S16x16384x64, .bf16⟩
  | .hbm, ⟨3, _⟩ => ⟨S16, .f32⟩
  | .hbm, ⟨4, _⟩ => ⟨S16x16384x64, .f32⟩
  | .hbm, ⟨5, _⟩ => ⟨S16x8x2048x64, .f32⟩
  | .hbm, ⟨6, _⟩ => ⟨S16x16384x64, .f32⟩
  | .hbm, ⟨7, _⟩ => ⟨S16x8x2048x64, .f32⟩
  | .hbm, ⟨8, _⟩ => ⟨S16x64x64x256, .f32⟩
  | .hbm, ⟨9, _⟩ => ⟨S16x64x256x64, .f32⟩
  | .hbm, ⟨10, _⟩ => ⟨S16x8x2048x64, .f32⟩
  | .hbm, ⟨11, _⟩ => ⟨S16x8x2048x2048, .f32⟩
  | .hbm, ⟨12, _⟩ => ⟨S16x1x1x1, .f32⟩
  | .hbm, ⟨13, _⟩ => ⟨S16x8x2048x2048, .f32⟩
  | .hbm, ⟨14, _⟩ => ⟨S16x8x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S1x1x2048x2048, .i1⟩
  | .hbm, ⟨22, _⟩ => ⟨S16x8x2048x2048, .f32⟩
  | .hbm, ⟨23, _⟩ => ⟨S16x8x2048x2048, .f32⟩
  | .hbm, ⟨24, _⟩ => ⟨S_, .f32⟩
  | .hbm, ⟨25, _⟩ => ⟨S16x8x2048x2048, .f32⟩
  | .hbm, ⟨26, _⟩ => ⟨S16x8x2048x2048, .f32⟩
  | .hbm, ⟨27, _⟩ => ⟨S16x8x2048x2048, .f32⟩
  | .hbm, ⟨28, _⟩ => ⟨S16x8x2048x2048, .f32⟩
  | .hbm, ⟨29, _⟩ => ⟨S16x8x2048x2048, .i1⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S16x8x2048x2048, .f32⟩
  | .hbm, ⟨37, _⟩ => ⟨S16x8x2048x2048, .f32⟩
  | .hbm, ⟨38, _⟩ => ⟨S16x8x2048x2048, .f32⟩
  | .hbm, ⟨39, _⟩ => ⟨S_, .f32⟩
  | .hbm, ⟨40, _⟩ => ⟨S_, .f32⟩
  | .hbm, ⟨41, _⟩ => ⟨S16x8x2048x2048, .i1⟩
  | .hbm, ⟨42, _⟩ => ⟨S16x8x2048x2048, .f32⟩
  | .hbm, ⟨43, _⟩ => ⟨S16x8x2048x2048, .f32⟩
  | .hbm, ⟨44, _⟩ => ⟨S_, .f32⟩
  | .hbm, ⟨45, _⟩ => ⟨S_, .f32⟩
  | .hbm, ⟨46, _⟩ => ⟨S16x8x2048x2048, .f32⟩
  | .hbm, ⟨47, _⟩ => ⟨S16x8x2048x2048, .f32⟩
  | .hbm, ⟨48, _⟩ => ⟨S16x8x2048x2048, .f32⟩
  | .hbm, ⟨49, _⟩ => ⟨S_, .f32⟩
  | .hbm, ⟨50, _⟩ => ⟨S16x8x2048x2048, .f32⟩
  | .hbm, ⟨51, _⟩ => ⟨S16x8x2048x2048, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .i1⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S16x8x2048x2048, .f32⟩
  | .hbm, ⟨64, _⟩ => ⟨S16x8x2048x2048, .f32⟩
  | .hbm, ⟨65, _⟩ => ⟨S16x8x2048x2048, .f32⟩
  | .hbm, ⟨66, _⟩ => ⟨S_, .f32⟩
  | .hbm, ⟨67, _⟩ => ⟨S_, .f32⟩
  | .hbm, ⟨68, _⟩ => ⟨S16x8x2048x2048, .i1⟩
  | .hbm, ⟨69, _⟩ => ⟨S16x8x2048x2048, .f32⟩
  | .hbm, ⟨70, _⟩ => ⟨S16x8x2048x2048, .f32⟩
  | .hbm, ⟨71, _⟩ => ⟨S8x16x64x2048, .f32⟩
  | .hbm, ⟨72, _⟩ => ⟨S8x2048x16x64, .f32⟩
  | .hbm, ⟨73, _⟩ => ⟨S16384x1024, .f32⟩
  | .hbm, ⟨74, _⟩ => ⟨S16384x1024, .bf16⟩
  | _, _ => ⟨S16x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_call2_cst : Ref sig .tc := ⟨.hbm, 44, rfl⟩
abbrev main_call2_v0 : Ref sig .tc := ⟨.hbm, 45, rfl⟩
abbrev main_v21 : Ref sig .tc := ⟨.hbm, 46, rfl⟩
abbrev main_v22 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_0 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 9
  | .vmem => 7
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S8x2048x5632, .f32⟩
  | .hbm, ⟨21, _⟩ => ⟨S8x2048x2816, .f32⟩
  | .hbm, ⟨22, _⟩ => ⟨S8x2048x2816, .f32⟩
  | .hbm, ⟨23, _⟩ => ⟨S8x2048x2816, .f32⟩
  | .hbm, ⟨24, _⟩ => ⟨S8x2048x2816, .f32⟩
  | .hbm, ⟨25, _⟩ => ⟨S_, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x1024, .f32⟩
  | .hbm, ⟨34, _⟩ => ⟨S_, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3072 : Shape := ⟨2, ![1024, 3072]⟩
abbrev S1x1024 : Shape := ⟨2, ![1, 1024]⟩
abbrev S8x16x64x2048 : Shape := ⟨4, ![8, 16, 64, 2048]⟩
abbrev S16x16384x64 : Shape := ⟨3, ![16, 16384, 64]⟩
abbrev S16x64x64x256 : Shape := ⟨4, ![16, 64, 64, 256]⟩
abbrev S512x1024 : Shape := ⟨2, ![512, 1024]⟩
abbrev S1x16x64x512 : Shape := ⟨4, ![1, 16, 64, 512]⟩
abbrev S16x512x64 : Shape := ⟨3, ![16, 512, 64]⟩
abbrev S16x2x64x256 : Shape := ⟨4, ![16, 2, 64, 256]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩
abbrev S16x64x512 : Shape := ⟨3, ![16, 64, 512]⟩
abbrev S512x64 : Shape := ⟨2, ![512, 64]⟩
abbrev S1x512x64 : Shape := ⟨3, ![1, 512, 64]⟩
abbrev S64x256 : Shape := ⟨2, ![64, 256]⟩
abbrev S1x1x64x256 : Shape := ⟨4, ![1, 1, 64, 256]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S8x16x64x2048, .f32⟩
  | .hbm, ⟨6, _⟩ => ⟨S8x16x64x2048, .f32⟩
  | .hbm, ⟨7, _⟩ => ⟨S16x16384x64, .bf16⟩
  | .hbm, ⟨8, _⟩ => ⟨S16x64x64x256, .bf16⟩
  | .hbm, ⟨9, _⟩ => ⟨S16x16384x64, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x16x64x512, .f32⟩
  | .local _ .vmem, ⟨5, _⟩ => ⟨S1x16x64x512, .f32⟩
  | .local _ .vmem, ⟨6, _⟩ => ⟨S1x16x64x512, .f32⟩
  | .local _ .vmem, ⟨7, _⟩ => ⟨S1x16x64x512, .f32⟩
  | .local _ .vmem, ⟨8, _⟩ => ⟨S16x512x64, .bf16⟩
  | .local _ .vmem, ⟨9, _⟩ => ⟨S16x512x64, .bf16⟩
  | .local _ .vmem, ⟨10, _⟩ => ⟨S16x2x64x256, .bf16⟩
  | .local _ .vmem, ⟨11, _⟩ => ⟨S16x2x64x256, .bf16⟩
  | .local _ .vmem, ⟨12, _⟩ => ⟨S16x512x64, .bf16⟩
  | .local _ .vmem, ⟨13, _⟩ => ⟨S16x512x64, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1024 : Shape := ⟨1, ![1024]⟩
abbrev S1024x3072 : Shape := ⟨2, ![1024, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x16x64 : Shape := ⟨3, ![16384, 16, 64]⟩
abbrev S64x256x16x64 : Shape := ⟨4, ![64, 256, 16, 64]⟩
abbrev S16x64x64x256 : Shape := ⟨4, ![16, 64, 64, 256]⟩
abbrev S8x2048x16x64 : Shape := ⟨4, ![8, 2048, 16, 64]⟩
abbrev S8x16x64x2048 : Shape := ⟨4, ![8, 16, 64, 2048]⟩
abbrev S16x16384x64 : Shape := ⟨3, ![16, 16384, 64]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3072, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S16384x16x64, .f32⟩
  | .hbm, ⟨27, _⟩ => ⟨S16384x16x64, .f32⟩
  | .hbm, ⟨28, _⟩ => ⟨S16384x16x64, .f32⟩
  | .hbm, ⟨29, _⟩ => ⟨S64x256x16x64, .f32⟩
  | .hbm, ⟨30, _⟩ => ⟨S16x64x64x256, .f32⟩
  | .hbm, ⟨31, _⟩ => ⟨S8x2048x16x64, .f32⟩
  | .hbm, ⟨32, _⟩ => ⟨S8x16x64x2048, .f32⟩
  | .hbm, ⟨33, _⟩ => ⟨S8x2048x16x64, .f32⟩
  | .hbm, ⟨34, _⟩ => ⟨S8x16x64x2048, .f32⟩
  | .hbm, ⟨35, _⟩ => ⟨S16x16384x64, .f32⟩
  | .hbm, ⟨36, _⟩ => ⟨S16x16384x64, .bf16⟩
  | .hbm, ⟨37, _⟩ => ⟨S16x64x64x256, .bf16⟩
  | .hbm, ⟨38, _⟩ => ⟨S16x16384x64, .f32⟩
  | .hbm, ⟨39, _⟩ => ⟨S16x16384x64, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3088 : Shape := ⟨2, ![1024, 3088]⟩
abbrev S_ : Shape := ⟨0, ![]⟩
abbrev S1024x3200 : Shape := ⟨2, ![1024, 3200]⟩
abbrev S1x1024 : Shape := ⟨2, ![1, 1024]⟩
abbrev S16384x128 : Shape := ⟨2, ![16384, 128]⟩
abbrev S8x16384x64 : Shape := ⟨3, ![8, 16384, 64]⟩
abbrev S8x64x64x256 : Shape := ⟨4, ![8, 64, 64, 256]⟩
abbrev S8x16384x128 : Shape := ⟨3, ![8, 16384, 128]⟩
abbrev S512x1024 : Shape := ⟨2, ![512, 1024]⟩
abbrev S512x128 : Shape := ⟨2, ![512, 128]⟩
abbrev S8x512x64 : Shape := ⟨3, ![8, 512, 64]⟩
abbrev S8x2x64x256 : Shape := ⟨4, ![8, 2, 64, 256]⟩
abbrev S8x512x128 : Shape := ⟨3, ![8, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x1024 : Shape := ⟨2, ![1024, 1024]⟩
abbrev S1024x128 : Shape := ⟨2, ![1024, 128]⟩
abbrev S512x64 : Shape := ⟨2, ![512, 64]⟩
abbrev S1x512x64 : Shape := ⟨3, ![1, 512, 64]⟩
abbrev S1x512x128 : Shape := ⟨3, ![1, 512, 128]⟩
abbrev S64x256 : Shape := ⟨2, ![64, 256]⟩
abbrev S1x1x64x256 : Shape := ⟨4, ![1, 1, 64, 256]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S16384x1024, .f32⟩
  | .hbm, ⟨9, _⟩ => ⟨S16384x128, .f32⟩
  | .hbm, ⟨10, _⟩ => ⟨S8x16384x64, .bf16⟩
  | .hbm, ⟨11, _⟩ => ⟨S8x64x64x256, .bf16⟩
  | .hbm, ⟨12, _⟩ => ⟨S8x16384x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x1024, .f32⟩
  | .local _ .vmem, ⟨5, _⟩ => ⟨S512x1024, .f32⟩
  | .local _ .vmem, ⟨6, _⟩ => ⟨S512x128, .f32⟩
  | .local _ .vmem, ⟨7, _⟩ => ⟨S512x128, .f32⟩
  | .local _ .vmem, ⟨8, _⟩ => ⟨S8x512x64, .bf16⟩
  | .local _ .vmem, ⟨9, _⟩ => ⟨S8x512x64, .bf16⟩
  | .local _ .vmem, ⟨10, _⟩ => ⟨S8x2x64x256, .bf16⟩
  | .local _ .vmem, ⟨11, _⟩ => ⟨S8x2x64x256, .bf16⟩
  | .local _ .vmem, ⟨12, _⟩ => ⟨S8x512x128, .bf16⟩
  | .local _ .vmem, ⟨13, _⟩ => ⟨S8x512x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x2x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x1024 : Shape := ⟨2, ![16384, 1024]⟩
abbrev S1024 : Shape := ⟨1, ![1024]⟩
abbrev S1024x3088 : Shape := ⟨2, ![1024, 3088]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x512 : Shape := ⟨2, ![16384, 512]⟩
abbrev S16384x16 : Shape := ⟨2, ![16384, 16]⟩
abbrev S16384x8x64 : Shape := ⟨3, ![16384, 8, 64]⟩
abbrev S64x256x8x64 : Shape := ⟨4, ![64, 256, 8, 64]⟩
abbrev S16384x8x128 : Shape := ⟨3, ![16384, 8, 128]⟩
abbrev S16384x128 : Shape := ⟨2, ![16384, 128]⟩
abbrev S8x16384x64 : Shape := ⟨3, ![8, 16384, 64]⟩
abbrev S8x64x64x256 : Shape := ⟨4, ![8, 64, 64, 256]⟩
abbrev S8x16384x128 : Shape := ⟨3, ![8, 16384, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3088, .f32⟩
  | .hbm, ⟨20, _⟩ => ⟨S16384x512, .f32⟩
  | .hbm, ⟨21, _⟩ => ⟨S16384x512, .f32⟩
  | .hbm, ⟨22, _⟩ => ⟨S16384x1024, .f32⟩
  | .hbm, ⟨23, _⟩ => ⟨S16384x1024, .f32⟩
  | .hbm, ⟨24, _⟩ => ⟨S16384x16, .f32⟩
  | .hbm, ⟨25, _⟩ => ⟨S16384x8x64, .f32⟩
  | .hbm, ⟨26, _⟩ => ⟨S_, .f32⟩
  | .hbm, ⟨27, _⟩ => ⟨S16384x8x64, .f32⟩
  | .hbm, ⟨28, _⟩ => ⟨S16384x8x64, .f32⟩
  | .hbm, ⟨29, _⟩ => ⟨S64x256x8x64, .f32⟩
  | .hbm, ⟨30, _⟩ => ⟨S16384x8x128, .f32⟩
  | .hbm, ⟨31, _⟩ => ⟨S_, .i32⟩
  | .hbm, ⟨32, _⟩ => ⟨S_, .f32⟩
  | .hbm, ⟨33, _⟩ => ⟨S16384x128, .f32⟩
  | .hbm, ⟨34, _⟩ => ⟨S8x16384x64, .f32⟩
  | .hbm, ⟨35, _⟩ => ⟨S8x16384x64, .bf16⟩
  | .hbm, ⟨36, _⟩ => ⟨S8x64x64x256, .f32⟩
  | .hbm, ⟨37, _⟩ => ⟨S8x64x64x256, .bf16⟩
  | .hbm, ⟨38, _⟩ => ⟨S8x16384x128, .f32⟩
  | .hbm, ⟨39, _⟩ => ⟨S8x16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel5.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x256, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x256, .f32⟩
  | .hbm, ⟨31, _⟩ => ⟨S16384x1024, .f32⟩
  | .hbm, ⟨32, _⟩ => ⟨S16384x1024, .f32⟩
  | .hbm, ⟨33, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel7.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S16384x256 : Shape := ⟨2, ![16384, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x256, .f32⟩
  | .hbm, ⟨7, _⟩ => ⟨S1x1024, .f32⟩
  | .hbm, ⟨8, _⟩ => ⟨S1024x1024, .bf16⟩
  | .hbm, ⟨9, _⟩ => ⟨S256x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S16384x1024 : Shape := ⟨2, ![16384, 1024]⟩
abbrev S8x2048x256 : Shape := ⟨3, ![8, 2048, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x256 : Shape := ⟨2, ![16384, 256]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x2048x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x256, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel8.lean ====
abbrev S32x1024 : Shape := ⟨2, ![32, 1024]⟩
abbrev S1024 : Shape := ⟨1, ![1024]⟩
abbrev S1024x3072 : Shape := ⟨2, ![1024, 3072]⟩
abbrev S1x1024 : Shape := ⟨2, ![1, 1024]⟩
abbrev S32x3072 : Shape := ⟨2, ![32, 3072]⟩
abbrev S32 : Shape := ⟨1, ![32]⟩
abbrev S32x1 : Shape := ⟨2, ![32, 1]⟩

abbrev nBuf : Space → Nat
  | .hbm => 6
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S32x3072, .f32⟩
  | .local _ .vmem, ⟨0, _⟩ => ⟨S32x1024, .f32⟩
  | .local _ .vmem, ⟨1, _⟩ => ⟨S1x1024, .f32⟩
  | .local _ .vmem, ⟨2, _⟩ => ⟨S1024x3072, .bf16⟩
  | .local _ .vmem, ⟨3, _⟩ => ⟨S32x3072, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference8Ideal.lean ====
abbrev S32x1024 : Shape := ⟨2, ![32, 1024]⟩
abbrev S1024 : Shape := ⟨1, ![1024]⟩
abbrev S1024x3072 : Shape := ⟨2, ![1024, 3072]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3072 : Shape := ⟨2, ![32, 3072]⟩

abbrev nBuf : Space → Nat
  | .hbm => 20
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3072, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x3072, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel9.lean ====
abbrev S32x1024 : Shape := ⟨2, ![32, 1024]⟩
abbrev S1024 : Shape := ⟨1, ![1024]⟩
abbrev S1024x3088 : Shape := ⟨2, ![1024, 3088]⟩
abbrev S1x1024 : Shape := ⟨2, ![1, 1024]⟩
abbrev S_ : Shape := ⟨0, ![]⟩
abbrev S1024x3200 : Shape := ⟨2, ![1024, 3200]⟩
abbrev S32x3200 : Shape := ⟨2, ![32, 3200]⟩
abbrev S32 : Shape := ⟨1, ![32]⟩
abbrev S32x1 : Shape := ⟨2, ![32, 1]⟩

abbrev nBuf : Space → Nat
  | .hbm => 9
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3088, .f32⟩
  | .hbm, ⟨3, _⟩ => ⟨S1x1024, .f32⟩
  | .hbm, ⟨4, _⟩ => ⟨S_, .i32⟩
  | .hbm, ⟨5, _⟩ => ⟨S_, .f32⟩
  | .hbm, ⟨6, _⟩ => ⟨S1024x3200, .f32⟩
  | .hbm, ⟨7, _⟩ => ⟨S1024x3200, .bf16⟩
  | .hbm, ⟨8, _⟩ => ⟨S32x3200, .f32⟩
  | .local _ .vmem, ⟨0, _⟩ => ⟨S32x1024, .f32⟩
  | .local _ .vmem, ⟨1, _⟩ => ⟨S1x1024, .f32⟩
  | .local _ .vmem, ⟨2, _⟩ => ⟨S1024x3200, .bf16⟩
  | .local _ .vmem, ⟨3, _⟩ => ⟨S32x3200, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x3200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S32x1024 : Shape := ⟨2, ![32, 1024]⟩
abbrev S1024 : Shape := ⟨1, ![1024]⟩
abbrev S1024x3088 : Shape := ⟨2, ![1024, 3088]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x3088 : Shape := ⟨2, ![32, 3088]⟩
abbrev S32x3200 : Shape := ⟨2, ![32, 3200]⟩

abbrev nBuf : Space → Nat
  | .hbm => 23
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3088, .f32⟩
  | .hbm, ⟨3, _⟩ => ⟨S32x1024, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x1024, .f32⟩
  | .hbm, ⟨15, _⟩ => ⟨S32x1024, .f32⟩
  | .hbm, ⟨16, _⟩ => ⟨S1x1024, .f32⟩
  | .hbm, ⟨17, _⟩ => ⟨S32x1024, .f32⟩
  | .hbm, ⟨18, _⟩ => ⟨S32x1024, .f32⟩
  | .hbm, ⟨19, _⟩ => ⟨S32x3088, .f32⟩
  | .hbm, ⟨20, _⟩ => ⟨S_, .i32⟩
  | .hbm, ⟨21, _⟩ => ⟨S_, .f32⟩
  | .hbm, ⟨22, _⟩ => ⟨S32x3200, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel10.lean ====
abbrev S8x16384x64 : Shape := ⟨3, ![8, 16384, 64]⟩
abbrev S8x64x64x256 : Shape := ⟨4, ![8, 64, 64, 256]⟩
abbrev S8x16384x128 : Shape := ⟨3, ![8, 16384, 128]⟩
abbrev S16384x1024 : Shape := ⟨2, ![16384, 1024]⟩
abbrev S16384x128 : Shape := ⟨2, ![16384, 128]⟩
abbrev S16 : Shape := ⟨1, ![16]⟩
abbrev S8x128 : Shape := ⟨2, ![8, 128]⟩
abbrev S_ : Shape := ⟨0, ![]⟩
abbrev S128 : Shape := ⟨1, ![128]⟩
abbrev S1x128 : Shape := ⟨2, ![1, 128]⟩
abbrev S8x1x128 : Shape := ⟨3, ![8, 1, 128]⟩
abbrev S256x256 : Shape := ⟨2, ![256, 256]⟩
abbrev S8x8x64x256 : Shape := ⟨4, ![8, 8, 64, 256]⟩
abbrev S8x8x8x128 : Shape := ⟨4, ![8, 8, 8, 128]⟩
abbrev S8x256x64 : Shape := ⟨3, ![8, 256, 64]⟩
abbrev S8x1x64x256 : Shape := ⟨4, ![8, 1, 64, 256]⟩
abbrev S8x256x128 : Shape := ⟨3, ![8, 256, 128]⟩
abbrev S256x1024 : Shape := ⟨2, ![256, 1024]⟩
abbrev S256x128 : Shape := ⟨2, ![256, 128]⟩
abbrev S1x8x64x256 : Shape := ⟨4, ![1, 8, 64, 256]⟩
abbrev S1x8x8x128 : Shape := ⟨4, ![1, 8, 8, 128]⟩
abbrev S8x64x256 : Shape := ⟨3, ![8, 64, 256]⟩
abbrev S8x8x128 : Shape := ⟨3, ![8, 8, 128]⟩
abbrev S128x256 : Shape := ⟨2, ![128, 256]⟩
abbrev S256x1 : Shape := ⟨2, ![256, 1]⟩
abbrev S1x1x1 : Shape := ⟨3, ![1, 1, 1]⟩
abbrev S1x1 : Shape := ⟨2, ![1, 1]⟩
abbrev S1x64x256 : Shape := ⟨3, ![1, 64, 256]⟩
abbrev S64x256 : Shape := ⟨2, ![64, 256]⟩
abbrev S1x256 : Shape := ⟨2, ![1, 256]⟩
abbrev S256 : Shape := ⟨1, ![256]⟩
abbrev S1x256x64 : Shape := ⟨3, ![1, 256, 64]⟩
abbrev S256x64 : Shape := ⟨2, ![256, 64]⟩
abbrev S1x1x64x256 : Shape := ⟨4, ![1, 1, 64, 256]⟩
abbrev S1x256x128 : Shape := ⟨3, ![1, 256, 128]⟩
abbrev S1x1x128 : Shape := ⟨3, ![1, 1, 128]⟩
abbrev S1x8x128 : Shape := ⟨3, ![1, 8, 128]⟩

abbrev nBuf : Space → Nat
  | .hbm => 19
  | .vmem => 21
  | .smem => 0
  | _ => 0

abbrev bufTy : (tb : Table) → Fin (tcTables nBuf tb) → BufTy
  | .hbm, ⟨0, _⟩ => ⟨S8x16384x64, .bf16⟩
  | .hbm, ⟨1, _⟩ => ⟨S8x64x64x256, .bf16⟩
  | .hbm, ⟨2, _⟩ => ⟨S8x16384x128, .bf16⟩
  | .hbm, ⟨3, _⟩ => ⟨S16384x1024, .f32⟩
  | .hbm, ⟨4, _⟩ => ⟨S16384x128, .f32⟩
  | .hbm, ⟨5, _⟩ => ⟨S16, .f32⟩
  | .hbm, ⟨6, _⟩ => ⟨S8x128, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S8x1x128, .f32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S256x256, .bf16⟩
  | .hbm, ⟨16, _⟩ => ⟨S16384x1024, .bf16⟩
  | .hbm, ⟨17, _⟩ => ⟨S8x8x64x256, .f32⟩
  | .hbm, ⟨18, _⟩ => ⟨S8x8x8x128, .f32⟩
  | .local _ .vmem, ⟨0, _⟩ => ⟨S8x256x64, .bf16⟩
  | .local _ .vmem, ⟨1, _⟩ => ⟨S8x256x64, .bf16⟩
  | .local _ .vmem, ⟨2, _⟩ => ⟨S8x1x64x256, .bf16⟩
  | .local _ .vmem, ⟨3, _⟩ => ⟨S8x1x64x256, .bf16⟩
  | .local _ .vmem, ⟨4, _⟩ => ⟨S8x256x128, .bf16⟩
  | .local _ .vmem, ⟨5, _⟩ => ⟨S8x256x128, .bf16⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S8x1x128, .f32⟩
  | .local _ .vmem, ⟨12, _⟩ => ⟨S256x256, .bf16⟩
  | .local _ .vmem, ⟨13, _⟩ => ⟨S256x1024, .bf16⟩
  | .local _ .vmem, ⟨14, _⟩ => ⟨S256x1024, .bf16⟩
  | .local _ .vmem, ⟨15, _⟩ => ⟨S1x8x64x256, .f32⟩
  | .local _ .vmem, ⟨16, _⟩ => ⟨S1x8x64x256, .f32⟩
  | .local _ .vmem, ⟨17, _⟩ => ⟨S1x8x8x128, .f32⟩
  | .local _ .vmem, ⟨18, _⟩ => ⟨S1x8x8x128, .f32⟩
  | .local _ .vmem, ⟨19, _⟩ => ⟨S8x64x256, .f32⟩
  | .local _ .vmem, ⟨20, _⟩ => ⟨S8x8x128, .f32⟩
  | _, _ => ⟨S8x16384x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v901 : BitVec 1 := Scalar.cmpi .eq arg1 c7_i32
  let v902 : BitVec 32 := Scalar.extui v901
  let c0_i32_383 : BitVec 32 := 0#32
  let v903 : BitVec 1 := Scalar.cmpi .ne v902 c0_i32_383
  v903

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference10Ideal.lean ====
abbrev S8x16384x64 : Shape := ⟨3, ![8, 16384, 64]⟩
abbrev S8x64x64x256 : Shape := ⟨4, ![8, 64, 64, 256]⟩
abbrev S8x16384x128 : Shape := ⟨3, ![8, 16384, 128]⟩
abbrev S16384x1024 : Shape := ⟨2, ![16384, 1024]⟩
abbrev S16384x128 : Shape := ⟨2, ![16384, 128]⟩
abbrev S16 : Shape := ⟨1, ![16]⟩
abbrev S8x128 : Shape := ⟨2, ![8, 128]⟩
abbrev S8x8x2048x64 : Shape := ⟨4, ![8, 8, 2048, 64]⟩
abbrev S8x8x2048x128 : Shape := ⟨4, ![8, 8, 2048, 128]⟩
abbrev S8x64x256x64 : Shape := ⟨4, ![8, 64, 256, 64]⟩
abbrev S16384x16 : Shape := ⟨2, ![16384, 16]⟩
abbrev S1x16 : Shape := ⟨2, ![1, 16]⟩
abbrev S8x2048x16 : Shape := ⟨3, ![8, 2048, 16]⟩
abbrev S8x2048x8 : Shape := ⟨3, ![8, 2048, 8]⟩
abbrev S8x8x2048 : Shape := ⟨3, ![8, 8, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S8x8x2048x1 : Shape := ⟨4, ![8, 8, 2048, 1]⟩
abbrev S8x8x1x2048 : Shape := ⟨4, ![8, 8, 1, 2048]⟩
abbrev S8x8x2048x2048 : Shape := ⟨4, ![8, 8, 2048, 2048]⟩
abbrev S8x8x1 : Shape := ⟨3, ![8, 8, 1]⟩
abbrev S8x8 : Shape := ⟨2, ![8, 8]⟩
abbrev S8x8x64x128 : Shape := ⟨4, ![8, 8, 64, 128]⟩
abbrev S8x8x64 : Shape := ⟨3, ![8, 8, 64]⟩
abbrev S8x2048x8x128 : Shape := ⟨4, ![8, 2048, 8, 128]⟩
abbrev S8x2048x8x1 : Shape := ⟨4, ![8, 2048, 8, 1]⟩
abbrev S1x1x8x128 : Shape := ⟨4, ![1, 1, 8, 128]⟩
abbrev S8x8x64x1 : Shape := ⟨4, ![8, 8, 64, 1]⟩
abbrev S8x8x64x127 : Shape := ⟨4, ![8, 8, 64, 127]⟩
abbrev S8x8x64x256 : Shape := ⟨4, ![8, 8, 64, 256]⟩
abbrev S8x8x1x1 : Shape := ⟨4, ![8, 8, 1, 1]⟩
abbrev S8x8x8x128 : Shape := ⟨4, ![8, 8, 8, 128]⟩

abbrev nBuf : Space → Nat
  | .hbm => 131
  | .vmem => 0
  | .smem => 0
  | _ => 0

abbrev hbmTy0_0 (i : Nat) : BufTy := match i % 128 with
  | 0 => ⟨S8x16384x64, .bf16⟩
  | 1 => ⟨S8x64x64x256, .bf16⟩
  | 2 => ⟨S8x16384x128, .bf16⟩
  | 3 => ⟨S16384x1024, .f32⟩
  | 4 => ⟨S16384x128, .f32⟩
  | 5 => ⟨S16, .f32⟩
  | 6 => ⟨S8x128, .f32⟩
  | 7 => ⟨S8x16384x64, .f32⟩
  | 8 => ⟨S8x8x2048x64, .f32⟩
  | 9 => ⟨S8x16384x128, .f32⟩
  | 10 => ⟨S8x8x2048x128, .f32⟩
  | 11 => ⟨S8x64x64x256, .f32⟩
  | 12 => ⟨S8x64x256x64, .f32⟩
  | 13 => ⟨S8x8x2048x64, .f32⟩
  | 14 => ⟨S16384x16, .f32⟩
  | 15 => ⟨S1x16, .f32⟩
  | 16 => ⟨S16384x16, .f32⟩
  | 17 => ⟨S16384x16, .f32⟩
  | 18 => ⟨S8x2048x16, .f32⟩
  | 19 => ⟨S8x2048x8, .f32⟩
  | 20 => ⟨S8x8x2048, .f32⟩
  | 21 => ⟨S8x2048x8, .f32⟩
  | 22 => ⟨S8x2048x8, .f32⟩
  | 23 => ⟨S_, .f32⟩
  | 24 => ⟨S8x2048x8, .f32⟩
  | 25 => ⟨S8x2048x8, .f32⟩
  | 26 => ⟨S8x2048x8, .f32⟩
  | 27 => ⟨S8x2048x8, .f32⟩
  | 28 => ⟨S8x2048x8, .i1⟩
  | 29 => ⟨S8x2048x8, .f32⟩
  | 30 => ⟨S8x2048x8, .f32⟩
  | 31 => ⟨S8x2048x8, .f32⟩
  | 32 => ⟨S8x2048x8, .f32⟩
  | 33 => ⟨S8x2048x8, .f32⟩
  | 34 => ⟨S8x2048x8, .f32⟩
  | 35 => ⟨S8x2048x8, .f32⟩
  | 36 => ⟨S8x2048x8, .f32⟩
  | 37 => ⟨S8x2048x8, .f32⟩
  | 38 => ⟨S8x8x2048, .f32⟩
  | 39 => ⟨S_, .f32⟩
  | 40 => ⟨S_, .f32⟩
  | 41 => ⟨S8x8x2048, .f32⟩
  | 42 => ⟨S2048, .i32⟩
  | 43 => ⟨S1x2048, .i32⟩
  | 44 => ⟨S2048x1, .i32⟩
  | 45 => ⟨S2048x2048, .i32⟩
  | 46 => ⟨S2048x2048, .i32⟩
  | 47 => ⟨S2048x2048, .i1⟩
  | 48 => ⟨S1x1x2048x2048, .i1⟩
  | 49 => ⟨S8x8x2048x1, .f32⟩
  | 50 => ⟨S8x8x1x2048, .f32⟩
  | 51 => ⟨S8x8x2048x2048, .f32⟩
  | 52 => ⟨S8x8x2048x2048, .f32⟩
  | 53 => ⟨S8x8x2048x2048, .f32⟩
  | 54 => ⟨S8x8x1x2048, .f32⟩
  | 55 => ⟨S8x8x2048x2048, .f32⟩
  | 56 => ⟨S8x8x2048x2048, .f32⟩
  | 57 => ⟨S_, .f32⟩
  | 58 => ⟨S_, .f32⟩
  | 59 => ⟨S8x8x2048x2048, .i1⟩
  | 60 => ⟨S8x8x2048x2048, .f32⟩
  | 61 => ⟨S8x8x2048x2048, .f32⟩
  | 62 => ⟨S_, .f32⟩
  | 63 => ⟨S8x8x2048, .f32⟩
  | 64 => ⟨S8x8x2048, .f32⟩
  | 65 => ⟨S8x8x2048x1, .f32⟩
  | 66 => ⟨S8x8x2048x2048, .f32⟩
  | 67 => ⟨S8x8x2048x2048, .f32⟩
  | 68 => ⟨S8x8x2048x2048, .f32⟩
  | 69 => ⟨S8x8x2048x2048, .f32⟩
  | 70 => ⟨S8x8x2048x2048, .f32⟩
  | 71 => ⟨S8x8x2048x128, .f32⟩
  | 72 => ⟨S_, .f32⟩
  | 73 => ⟨S8x8x2048, .f32⟩
  | 74 => ⟨S8x8x2048, .f32⟩
  | 75 => ⟨S8x8x2048, .f32⟩
  | 76 => ⟨S8x8x2048, .f32⟩
  | 77 => ⟨S8x8x2048, .f32⟩
  | 78 => ⟨S8x8x2048x1, .f32⟩
  | 79 => ⟨S8x8x2048x128, .f32⟩
  | 80 => ⟨S8x8x2048x128, .f32⟩
  | 81 => ⟨S8x8x1, .f32⟩
  | 82 => ⟨S8x8, .f32⟩
  | 83 => ⟨S8x8x1, .f32⟩
  | 84 => ⟨S8x8x2048, .f32⟩
  | 85 => ⟨S8x8x2048, .f32⟩
  | 86 => ⟨S8x8x2048, .f32⟩
  | 87 => ⟨S8x8x1, .f32⟩
  | 88 => ⟨S8x8x2048, .f32⟩
  | 89 => ⟨S8x8x2048, .f32⟩
  | 90 => ⟨S8x8x2048, .f32⟩
  | 91 => ⟨S8x8x2048x1, .f32⟩
  | 92 => ⟨S8x8x2048x64, .f32⟩
  | 93 => ⟨S8x8x2048x64, .f32⟩
  | 94 => ⟨S8x8x64x128, .f32⟩
  | 95 => ⟨S8x8x64, .f32⟩
  | 96 => ⟨S8x2048x8x128, .f32⟩
  | 97 => ⟨S8x2048x8x128, .f32⟩
  | 98 => ⟨S_, .f32⟩
  | 99 => ⟨S8x2048x8, .f32⟩
  | 100 => ⟨S8x2048x8x1, .f32⟩
  | 101 => ⟨S_, .f32⟩
  | 102 => ⟨S8x2048x8x1, .f32⟩
  | 103 => ⟨S8x2048x8x1, .f32⟩
  | 104 => ⟨S_, .f32⟩
  | 105 => ⟨S8x2048x8x1, .f32⟩
  | 106 => ⟨S8x2048x8x1, .f32⟩
  | 107 => ⟨S8x2048x8x1, .f32⟩
  | 108 => ⟨S8x2048x8x128, .f32⟩
  | 109 => ⟨S8x2048x8x128, .f32⟩
  | 110 => ⟨S1x1x8x128, .f32⟩
  | 111 => ⟨S8x2048x8x128, .f32⟩
  | 112 => ⟨S8x2048x8x128, .f32⟩
  | 113 => ⟨S16384x1024, .f32⟩
  | 114 => ⟨S8x8x64x1, .f32⟩
  | 115 => ⟨S_, .f32⟩
  | 116 => ⟨S8x8x64x127, .f32⟩
  | 117 => ⟨S8x8x64x256, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S16384x1024, .f32⟩
  | 127 => ⟨S16384x1024, .bf16⟩
  | _ => ⟨S8x16384x64, .bf16⟩

abbrev hbmTy0_1 (i : Nat) : BufTy := match i % 128 with
  | 0 => ⟨S8x8, .f32⟩
  | 1 => ⟨S8x8x1x1, .f32⟩
  | 2 => ⟨S8x8x8x128, .f32⟩
  | _ => ⟨S8x16384x64, .bf16⟩

abbrev hbmTy (i : Nat) : BufTy := match i / 128 with
  | 0 => hbmTy0_0 i
  | 1 => hbmTy0_1 i
  | _ => ⟨S8x16384x64, .bf16⟩

abbrev bufTy : (tb : Table) → Fin (tcTables nBuf tb) → BufTy
  | .hbm, ⟨i, _⟩ => hbmTy i
  | _, _ => ⟨S8x16384x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v15 : Ref sig .tc := ⟨.hbm, 37, rfl⟩
abbrev main_v16 : Ref sig .tc := ⟨.hbm, 38, rfl⟩
abbrev main_call1_cst : Ref sig .tc := ⟨.hbm, 39, rfl⟩
abbrev main_call1_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v33 : Ref sig .tc := ⟨.hbm, 61, rfl⟩
abbrev main_cst_0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_1 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_2 : Ref sig .tc := ⟨.hbm, 98, rfl⟩
abbrev main_v68 : Ref sig .tc := ⟨.hbm, 99, rfl⟩
abbrev main_v69 : Ref sig .tc := ⟨.hbm, 100, rfl⟩
abbrev main_cst_3 : Ref sig .tc := ⟨.hbm, 101, rfl⟩
abbrev main_v70 : Ref sig .tc := ⟨.hbm, 102, rfl⟩
abbrev main_v71 : Ref sig .tc := ⟨.hbm, 103, rfl⟩
abbrev main_cst_4 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_5 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_6 : Ref sig .tc := ⟨.hbm, 120, rfl⟩
abbrev main_v86 : Ref sig .tc := ⟨.hbm, 121, rfl⟩
abbrev main_v87 : Ref sig .tc := ⟨.hbm, 122, rfl⟩
abbrev main_cst_7 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]
-- ==== Proof.FfnSpec.lean ====
/- One row of the feed-forward layer over the extended reals, and the split of its hidden sum. -/
module

public import Idealize.ShloMosaic.Lib.Pointwise

@[expose] public section

noncomputable section

namespace Cert.FfnSpec

open Idealize.ShloMosaic
open scoped BigOperators

/-- A row scaled by the reciprocal root of its mean square (plus the layer's epsilon) and by the gain. -/
def rms (x g : Fin 1024 → EReal) (e : Fin 1024) : EReal :=
  x e * Ideal.rsqrt (Ideal.div (∑ a : Fin 1024, x a * x a) (Ideal.ofBits .f32 0x44800000#32) + Ideal.ofBits .f32 0x358637BD#32) * g e

/-- Column `n` of the normalised row's product with the input weights. -/
def proj (x g : Fin 1024 → EReal) (w : Fin 1024 → Fin 5632 → EReal) (n : Fin 5632) : EReal :=
  ∑ e : Fin 1024, rms x g e * w e n

/-- `z` times its logistic, the logistic written as a quotient. -/
def silu (z : EReal) : EReal := z * Ideal.div 1 (1 + Ideal.exp (-z))

/-- Hidden unit `k`: the gate's `silu` times the value beside it, 2816 columns further on. -/
def hid (x g : Fin 1024 → EReal) (w : Fin 1024 → Fin 5632 → EReal) (k : Fin 2816) : EReal :=
  silu (proj x g w ⟨k.val, by omega⟩) * proj x g w ⟨2816 + k.val, by omega⟩

/-- One element of the layer: the row's own plus half the hidden units' product with the output weights. -/
def ffn (x g : Fin 1024 → EReal) (w : Fin 1024 → Fin 5632 → EReal) (u : Fin 2816 → Fin 1024 → EReal) (d : Fin 1024) : EReal :=
  x d + Ideal.ofBits .f32 0x3F000000#32 * ∑ k : Fin 2816, hid x g w k * u k d

/-- A sum over the hidden units is the sum over the first 1536 plus the sum over the last 1280. -/
theorem sum_split (f : Fin 2816 → EReal) :
    ∑ k : Fin 2816, f k = ∑ k : Fin 1536, f ⟨k.val, by omega⟩ + ∑ k : Fin 1280, f ⟨1536 + k.val, by omega⟩ :=
  Fin.sum_univ_add (a := 1536) (b := 1280) f

end Cert.FfnSpec

end
-- ==== Proof.FfnBlock.lean ====
/- What one grid point of the feed-forward kernel writes, element by element. -/
module

public import proofs.«01_k».proof.Proof.Gen.Kernel2Ideal.Value
public import proofs.«01_k».proof.Proof.FfnSpec

@[expose] public section

set_option maxRecDepth 16384

noncomputable section

namespace Cert.Kernel2Ideal.FfnBlock

open Cert.Kernel2Ideal Cert.Kernel2Ideal.Gen Idealize.ShloMosaic Idealize.ShloMosaic.TcCoe Cert.FfnSpec
open scoped BigOperators

/-- The normalised rows, rounded to the product's format, at an index. -/
theorem pay3_apply (v0 : Vec Ideal S512x1024 .f32) (v2 : Vec Ideal S1x1024 .f32) (p : Fin 512) (e : Fin 1024) :
    k0_pay3 (F := Ideal) v0 v2 (ix2 p e) = rms (fun a => v0 (ix2 p a)) (fun a => v2 (ix2 0 a)) e := by
  unfold k0_pay3 k0_pay2
  pointwise [rms]

/-- The first 1536 hidden units' share of the output product. -/
theorem pay4_apply (v0 : Vec Ideal S512x1024 .f32) (v2 : Vec Ideal S1x1024 .f32) (v17 v20 : Vec Ideal S1024x1536 .bf16)
    (v33 : Vec Ideal S1536x1024 .bf16) (p : Fin 512) (d : Fin 1024) :
    k0_pay4 (F := Ideal) v0 v2 v17 v20 v33 (ix2 p d)
      = ∑ k : Fin 1536, silu (∑ e : Fin 1024, k0_pay3 (F := Ideal) v0 v2 (ix2 p e) * v17 (ix2 e k))
          * (∑ e : Fin 1024, k0_pay3 (F := Ideal) v0 v2 (ix2 p e) * v20 (ix2 e k)) * v33 (ix2 k d) := by
  unfold k0_pay4
  generalize k0_pay3 (F := Ideal) v0 v2 = y
  pointwise [silu, zero_sub]

/-- The row itself plus half of both shares. -/
theorem pay1_apply (v1 : FVec Ideal S512x1024 .f32) (v16 : FVec Ideal S512x1024 .bf16) (v35 : FVec Ideal S512x1024 .f32)
    (v37 : FVec Ideal S1024x1280 .bf16) (v39 : Vec Ideal S1024x1280 .bf16) (v52 : Vec Ideal S1280x1024 .bf16) (p : Fin 512) (d : Fin 1024) :
    k0_pay1 (F := Ideal) v1 v16 v35 v37 v39 v52 (ix2 p d)
      = v1 (ix2 p d) + Ideal.ofBits .f32 0x3F000000#32 * (v35 (ix2 p d)
          + ∑ k : Fin 1280, silu (∑ e : Fin 1024, v16 (ix2 p e) * v37 (ix2 e k))
          * (∑ e : Fin 1024, v16 (ix2 p e) * v39 (ix2 e k)) * v52 (ix2 k d)) := by
  unfold k0_pay1
  pointwise [silu, zero_sub]

/-- One grid point's block is the layer's rows over its input blocks. -/
theorem out_apply (x0 : Vec Ideal S512x1024 .f32) (x1 : Vec Ideal S1x1024 .f32) (x2 : Vec Ideal S1024x5632 .bf16)
    (x3 : Vec Ideal S2816x1024 .bf16) (p : Fin 512) (d : Fin 1024) :
    out0_4 (F := Ideal) x0 x1 x2 x3 (ix2 p d)
      = ffn (fun a => x0 (ix2 p a)) (fun a => x1 (ix2 0 a)) (fun a b => x2 (ix2 a b)) (fun a b => x3 (ix2 a b)) d := by
  have hz : (![0, 0] : Fin 2 → ℕ) = fun _ => 0 := funext fun i => by fin_cases i <;> rfl
  unfold out0_4
  rw [View.canon_unit_zero hz, pay1_apply, pay4_apply]
  simp only [pay3_apply, r0_0, r0_1, r0_2, r0_3, r0_4, r0_5, r0_6, r0_7]
  unfold ffn k0_pay2 k0_pay5
  rw [sum_split]
  pointwise [hid, proj]
  have e : ∀ k : ℕ, 2816 + (1536 + k) = 4352 + k := fun k => by omega
  simp only [e]

end Cert.Kernel2Ideal.FfnBlock

end
-- ==== Proof.FfnRun.lean ====
/- The feed-forward kernel's result array after its run, and the reference's, as one function of the arguments. -/
module

public import proofs.«01_k».proof.Proof.FfnBlock
public import proofs.«01_k».proof.Proof.Gen.Reference2Ideal.Read
public import Idealize.ShloMosaic.Lib.Claim
public import Idealize.ShloMosaic.Lib.Pipeline.ValueKit

@[expose] public section

set_option maxRecDepth 16384

noncomputable section

/-! ## The layer as one function of the four argument arrays -/

namespace Cert.FfnSpec

open Idealize.ShloMosaic

/-- The result array: at row `r` and column `d` the layer's element `d` over token row `r % 2048` of sequence `r / 2048`. -/
def layer (x : (⟨3, ![8, 2048, 1024]⟩ : Shape).Idx → EReal) (g : (⟨1, ![1024]⟩ : Shape).Idx → EReal)
    (w : (⟨2, ![1024, 5632]⟩ : Shape).Idx → EReal) (u : (⟨2, ![2816, 1024]⟩ : Shape).Idx → EReal)
    (r : Fin 16384) (d : Fin 1024) : EReal :=
  ffn (fun e => x (ix3 ⟨r.val / 2048, by omega⟩ ⟨r.val % 2048, by omega⟩ e)) (fun e => g (ix1 e))
    (fun a b => w (ix2 a b)) (fun a b => u (ix2 a b)) d

end Cert.FfnSpec

/-! ## The kernel -/

namespace Cert.Kernel2Ideal.RefValue

open Cert.Kernel2Ideal Cert.Kernel2Ideal.Gen Idealize.ShloMosaic Idealize.ShloMosaic.TcCoe Idealize.SL.Sem Cert.FfnSpec
open Idealize.ShloMosaic.Pipeline (Dat)

variable (m : (ℓ : Loc nD τ sig) → Buf (Elt Ideal) ℓ) (ρ : Dev nD → PrngReg)

/-- The layer over device `c`'s argument arrays. -/
abbrev G (c : Dev nD) : Buf (Elt Ideal) ((c : Thread nD τ).loc main_v4) := fun i : S16384x1024.Idx =>
  layer (m ((c : Thread nD τ).loc main_arg0)) (m ((c : Thread nD τ).loc main_arg1)) (m ((c : Thread nD τ).loc main_arg2))
    (m ((c : Thread nD τ).loc main_arg3)) (i 0) (i 1)

/-- Where each window's block lies at a grid point: the rows move with the point, the weights and the gain stay. -/
theorem idx_facts : ∀ t : Fin grid0.N, win0_0.index t = ![t.val, 0] ∧ win0_1.index t = ![0, 0] ∧ win0_2.index t = ![0, 0]
    ∧ win0_3.index t = ![0, 0] ∧ win0_4.index t = ![t.val, 0] := by
  decide +kernel

/-- Input window 0's block is 512 token rows. -/
theorem iblk0 (c : Dev nD) (t : Fin cfg0.N) (p : Fin 512) (e : Fin 1024) :
    iblk m c 0 t (ix2 p e) = m ((c : Thread nD τ).loc main_arg0)
      (ix3 ⟨(t.val * 512 + p.val) / 2048, by have := t.isLt; have : cfg0.N = 32 := N_0; omega⟩ ⟨(t.val * 512 + p.val) % 2048, by omega⟩ e) := by
  have hi := (idx_facts t).1
  unfold iblk
  entry_read
  blk_simp
  have h0 : ((win0_0.blk t).view.emb (ix2 p e) 0).val = t.val * 512 + p.val := by blk_simp [hi]
  have h1 : ((win0_0.blk t).view.emb (ix2 p e) 1).val = e.val := by blk_simp [hi]
  refine shapeCast_apply _ shapeCasts_S8x2048x1024_S16384x1024 _ _ ?_
  rw [Shape.rowMajor_val_three, Shape.rowMajor_val_two, h0, h1]
  show ((t.val * 512 + p.val) / 2048 * 2048 + (t.val * 512 + p.val) % 2048) * 1024 + e.val = (t.val * 512 + p.val) * 1024 + e.val
  omega

/-- Input window 1's block is the gain as one row. -/
theorem iblk1 (c : Dev nD) (t : Fin cfg0.N) (e : Fin 1024) :
    iblk m c 1 t (ix2 0 e) = m ((c : Thread nD τ).loc main_arg1) (ix1 e) := by
  have hi := (idx_facts t).2.1
  unfold iblk
  entry_read
  blk_simp
  have h1 : ((win0_1.blk t).view.emb (ix2 0 e) 1).val = e.val := by blk_simp [hi]
  have h0 : ((win0_1.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- Input window 2's block is the input weights. -/
theorem iblk2 (c : Dev nD) (t : Fin cfg0.N) (a : Fin 1024) (b : Fin 5632) :
    iblk m c 2 t (ix2 a b) = m ((c : Thread nD τ).loc main_arg2) (ix2 a b) := by
  have hi := (idx_facts t).2.2.1
  unfold iblk
  entry_read
  pointwise
  blk_ext [hi]

/-- Input window 3's block is the output weights. -/
theorem iblk3 (c : Dev nD) (t : Fin cfg0.N) (a : Fin 2816) (b : Fin 1024) :
    iblk m c 3 t (ix2 a b) = m ((c : Thread nD τ).loc main_arg3) (ix2 a b) := by
  have hi := (idx_facts t).2.2.2.1
  unfold iblk
  entry_read
  pointwise
  blk_ext [hi]

/-- After the run the result array is the layer. -/
theorem final (c : Dev nD) : (dats m 0 c).arrAt 4 cfg0.N = G m c := by
  refine (dats m 0 c).arrAt_eq_of_covers 4 _ (by decide +kernel) fun t hf y => ?_
  blk_simp
  rw [after0_4]
  have hi := (idx_facts t).2.2.2.2
  idx_vars y
  have e0 : (((cfg0.win 4).blk t).view.emb (ix2 y0 y1) 0).val = t.val * 512 + y0.val := by blk_simp [hi]
  have e1 : (((cfg0.win 4).blk t).view.emb (ix2 y0 y1) 1).val = y1.val := by blk_simp [hi]
  rw [FfnBlock.out_apply]
  simp only [iblk0, iblk1, iblk2, iblk3]
  have eq : ((cfg0.win 4).blk t).view.emb (ix2 y0 y1)
      = ix2 ⟨t.val * 512 + y0.val, by have := t.isLt; have : cfg0.grid.N = 32 := N_0; omega⟩ y1 := by
    funext a
    match a with
    | ⟨0, _⟩ => exact Fin.ext e0
    | ⟨1, _⟩ => exact Fin.ext e1
  refine Eq.trans ?_ (congrArg (G m c) eq).symm
  rfl

/-- The kernel's run: the result array is the layer, the arguments are as launched. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Kernel2Ideal.RefValue

/-! ## The reference -/

namespace Cert.Reference2Ideal.RefValue

open Cert.Reference2Ideal Cert.Reference2Ideal.Gen Cert.Reference2Ideal.Read Idealize.ShloMosaic Idealize.ShloMosaic.TcCoe Idealize.SL.Sem Cert.FfnSpec

/-- The reference's normalised row at an index. -/
theorem v12_apply (x0 : (⟨S8x2048x1024, .f32⟩ : BufTy).Contents (Elt Ideal)) (x1 : (⟨S1024, .f32⟩ : BufTy).Contents (Elt Ideal))
    (b : Fin 8) (s : Fin 2048) (e : Fin 1024) :
    val_main_v12 (F := Ideal) x0 x1 (ix3 b s e) = rms (fun a => x0 (ix3 b s a)) (fun a => x1 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's product with the input weights at an index. -/
theorem v13_apply (x0 : (⟨S8x2048x1024, .f32⟩ : BufTy).Contents (Elt Ideal)) (x1 : (⟨S1024, .f32⟩ : BufTy).Contents (Elt Ideal))
    (x2 : (⟨S1024x5632, .f32⟩ : BufTy).Contents (Elt Ideal)) (b : Fin 8) (s : Fin 2048) (n : Fin 5632) :
    val_main_v13 (F := Ideal) x0 x1 x2 (ix3 b s n) = proj (fun a => x0 (ix3 b s a)) (fun a => x1 (ix1 a)) (fun i j => x2 (ix2 i j)) n := by
  unfold val_main_v13
  pointwise
  simp only [v12_apply]
  rfl

/-- The reference's gated hidden unit at an index. -/
theorem v17_apply (x0 : (⟨S8x2048x1024, .f32⟩ : BufTy).Contents (Elt Ideal)) (x1 : (⟨S1024, .f32⟩ : BufTy).Contents (Elt Ideal))
    (x2 : (⟨S1024x5632, .f32⟩ : BufTy).Contents (Elt Ideal)) (b : Fin 8) (s : Fin 2048) (k : Fin 2816) :
    val_main_v17 (F := Ideal) x0 x1 x2 (ix3 b s k) = hid (fun a => x0 (ix3 b s a)) (fun a => x1 (ix1 a)) (fun i j => x2 (ix2 i j)) k := by
  unfold val_main_v17 val_main_v16 val_main_call0_v5 val_main_call0_v4 val_main_call0_v3 val_main_call0_v2 val_main_call0_v1 val_main_call0_v0
    val_main_call0_cst val_main_call0_cst_0 val_main_v15 val_main_v14
  pointwise
  simp only [v13_apply]
  rfl

/-- The reference's result is the layer. -/
theorem v22_apply (x0 : (⟨S8x2048x1024, .f32⟩ : BufTy).Contents (Elt Ideal)) (x1 : (⟨S1024, .f32⟩ : BufTy).Contents (Elt Ideal))
    (x2 : (⟨S1024x5632, .f32⟩ : BufTy).Contents (Elt Ideal)) (x3 : (⟨S2816x1024, .f32⟩ : BufTy).Contents (Elt Ideal)) :
    val_main_v22 (F := Ideal) x0 x1 x2 x3 = fun i : S16384x1024.Idx => layer x0 x1 x2 x3 (i 0) (i 1) := by
  funext i
  idx_vars i
  rw [val_main_v22_apply]
  have e : idx_main_v22 (ix2 i0 i1) = ix3 ⟨i0.val / 2048, by omega⟩ ⟨i0.val % 2048, by omega⟩ i1 := by
    funext a
    match a with
    | ⟨0, _⟩ => exact Fin.ext (show (i0.val * 1024 + i1.val) / 2097152 = i0.val / 2048 by omega)
    | ⟨1, _⟩ => exact Fin.ext (show (i0.val * 1024 + i1.val) / 1024 % 2048 = i0.val % 2048 by omega)
    | ⟨2, _⟩ => exact Fin.ext (show (i0.val * 1024 + i1.val) % 1024 = i1.val by omega)
  rw [e]
  unfold val_main_v21 val_main_v20 val_main_v19 val_main_cst_2 val_main_v18
  pointwise
  simp only [v17_apply]
  rfl

end Cert.Reference2Ideal.RefValue

end
-- ==== Proof.AttnMath.lean ====
/- The arithmetic of stick-breaking attention over the reals: the softplus, the running sums of it from a key up to the
   query, the weights, and how a block of 256 keys extends them. -/
module

public import Idealize.ShloMosaic.Lib.Pointwise

@[expose] public section

noncomputable section

namespace Cert.AttnMath

open Idealize.ShloMosaic
open scoped BigOperators

/-- The softplus of a real number, `log (1 + exp z)` in the form that does not overflow. -/
def sp (z : ℝ) : ℝ := max z 0 + Real.log (1 + Real.exp (-|z|))

/-- The softplus of the negated number is the softplus less the number. -/
theorem sp_neg (z : ℝ) : sp (-z) = sp z - z := by
  unfold sp
  rw [abs_neg]
  rcases le_total 0 z with h | h
  · rw [max_eq_right (by linarith), max_eq_left h]; ring
  · rw [max_eq_left (by linarith), max_eq_right h]; ring

/-- A real sum read as an extended real is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real number. -/
theorem exp_coe (r : ℝ) : Ideal.exp (r : EReal) = (Real.exp r : EReal) := rfl

/-- The logarithm of one plus a positive real number. -/
theorem log1p_coe (r : ℝ) (h : 0 < r) : Ideal.log1p (r : EReal) = (Real.log (1 + r) : EReal) := by
  have e : (1 : EReal) + (r : EReal) = ((1 + r : ℝ) : EReal) := by rw [EReal.coe_add, EReal.coe_one]
  unfold Ideal.log1p
  rw [e]
  show (if (1 + r) ≤ 0 then (⊥ : EReal) else (Real.log (1 + r) : EReal)) = _
  rw [if_neg (by linarith)]

/-- The softplus of the extended reals' operations at a real number. -/
def softE (z : EReal) : EReal := max z 0 + Ideal.log1p (Ideal.exp (-(max z (-z))))

/-- The larger of two real numbers, read as an extended real. -/
theorem coe_max (a b : ℝ) : ((max a b : ℝ) : EReal) = max (a : EReal) (b : EReal) := EReal.coe_strictMono.monotone.map_max

theorem softE_coe (z : ℝ) : softE (z : EReal) = (sp z : EReal) := by
  unfold softE sp
  rw [← EReal.coe_neg, ← coe_max, ← EReal.coe_neg, exp_coe, log1p_coe _ (Real.exp_pos _), ← EReal.coe_zero, ← coe_max,
    ← EReal.coe_add]
  rfl

/-- The sum of the softplus of the logits from key `n` up to the query at position `p`. -/
def upto (z : ℕ → ℝ) (p n : ℕ) : ℝ := ∑ u ∈ Finset.Ico n p, sp (z u)

/-- The weight the query at position `p` gives the key at position `t`. -/
def wt (z : ℕ → ℝ) (p t : ℕ) : ℝ := if t < p then Real.exp (z t - upto z p t) else 0

/-- Keys `n … m` and `m … p` together. -/
theorem upto_split (z : ℕ → ℝ) (p n m : ℕ) (h1 : n ≤ m) (h2 : m ≤ p) :
    upto z p n = (∑ u ∈ Finset.Ico n m, sp (z u)) + upto z p m :=
  (Finset.sum_Ico_consecutive _ h1 h2).symm

/-- A sum over the 256 keys of a block, against the column of ones from key `s` on, is the sum from `s` on. -/
theorem sum_from (f : ℕ → ℝ) (s : Fin 256) :
    (∑ u : Fin 256, f u.val * (if s.val ≤ u.val then 1 else 0)) = ∑ u ∈ Finset.Ico s.val 256, f u := by
  rw [Fin.sum_univ_eq_sum_range (fun u => f u * (if s.val ≤ u then 1 else 0)) 256]
  simp only [mul_ite, mul_one, mul_zero]
  rw [← Finset.sum_filter]
  refine Finset.sum_congr (Finset.ext fun u => ?_) fun _ _ => rfl
  simp only [Finset.mem_filter, Finset.mem_range, Finset.mem_Ico]
  omega

/-- The block's inclusive sums as the kernel forms them: the product with the triangle of ones, plus the product of the
    remainder of a rounding, which over the reals is zero. -/
def incE (T : Fin 256 → Fin 256 → EReal) (g : Fin 256 → EReal) (s : Fin 256) : EReal :=
  (∑ u : Fin 256, g u * T u s) + ∑ u : Fin 256, (g u - g u) * T u s

theorem incE_coe (T : Fin 256 → Fin 256 → EReal) (hT : ∀ u s : Fin 256, T u s = if s.val ≤ u.val then 1 else 0)
    (g : Fin 256 → EReal) (f : ℕ → ℝ) (hg : ∀ u : Fin 256, g u = (f u.val : EReal)) (s : Fin 256) :
    incE T g s = ((∑ u ∈ Finset.Ico s.val 256, f u : ℝ) : EReal) := by
  unfold incE
  have h1 : ∀ u : Fin 256, g u * T u s = ((f u.val * (if s.val ≤ u.val then 1 else 0) : ℝ) : EReal) := fun u => by
    rw [hT, hg]; split <;> simp
  have h2 : ∀ u : Fin 256, (g u - g u) * T u s = 0 := fun u => by
    rw [hg, ← EReal.coe_sub, sub_self, EReal.coe_zero, zero_mul]
  simp only [h1, h2, Finset.sum_const_zero, add_zero]
  rw [← coe_sum, sum_from]

/-- Keys `B + s … B + 256` counted from the block's start. -/
theorem sum_shift (z : ℕ → ℝ) (B s : ℕ) :
    (∑ u ∈ Finset.Ico s 256, sp (z (B + u))) = ∑ u ∈ Finset.Ico (B + s) (B + 256), sp (z u) := by
  rw [Finset.sum_Ico_add (fun u => sp (z u)) s 256 B, add_comm s, add_comm 256]

/-- A block wholly before the query: the sums over the block on top of those after it. -/
theorem upto_block (z : ℕ → ℝ) (p B s : ℕ) (hs : s ≤ 256) (h : B + 256 ≤ p) :
    (∑ u ∈ Finset.Ico s 256, sp (z (B + u))) + upto z p (B + 256) = upto z p (B + s) := by
  rw [sum_shift, ← upto_split z p (B + s) (B + 256) (by omega) h]

/-- The block that holds the query: the keys not before the query count nothing. -/
theorem upto_diag (z : ℕ → ℝ) (B r s : ℕ) (hr : r < 256) :
    (∑ u ∈ Finset.Ico s 256, if u < r then sp (z (B + u)) else 0) = upto z (B + r) (B + s) := by
  unfold upto
  rw [← Finset.sum_filter, add_comm B r, add_comm B s, ← Finset.sum_Ico_add (fun u => sp (z u)) s r B]
  refine Finset.sum_congr (Finset.ext fun u => ?_) fun _ _ => rfl
  simp only [Finset.mem_filter, Finset.mem_Ico]
  omega

/-- The weights of a block wholly before the query. -/
theorem wt_block (z : ℕ → ℝ) (p B : ℕ) (s : Fin 256) (h : B + 256 ≤ p) :
    Ideal.exp ((z (B + s.val) : EReal) - ((∑ u ∈ Finset.Ico s.val 256, sp (z (B + u)) : ℝ) : EReal) - (upto z p (B + 256) : EReal))
      = (wt z p (B + s.val) : EReal) := by
  have hs := s.isLt
  rw [← EReal.coe_sub, ← EReal.coe_sub, exp_coe, wt, if_pos (by omega), ← upto_block z p B s.val (by omega) h, sub_sub]

/-- The weights of the block that holds the query. -/
theorem wt_diag (z : ℕ → ℝ) (B r : ℕ) (s : Fin 256) (hr : r < 256) :
    (if s.val < r then Ideal.exp ((z (B + s.val) : EReal)
      - ((∑ u ∈ Finset.Ico s.val 256, if u < r then sp (z (B + u)) else 0 : ℝ) : EReal) - 0) else 0)
      = (wt z (B + r) (B + s.val) : EReal) := by
  unfold wt
  by_cases h : s.val < r
  · rw [if_pos h, if_pos (by omega), upto_diag z B r s.val hr, sub_zero, ← EReal.coe_sub, exp_coe]
  · rw [if_neg h, if_neg (by omega), EReal.coe_zero]

/-- The weighted sum of the values of keys `n … m`. -/
def acc (z : ℕ → ℝ) (p : ℕ) (v : ℕ → EReal) (n m : ℕ) : EReal := ∑ t ∈ Finset.Ico n m, (wt z p t : EReal) * v t

/-- A block of 256 keys before those already summed. -/
theorem acc_block (z : ℕ → ℝ) (p : ℕ) (v : ℕ → EReal) (B m : ℕ) (h : B + 256 ≤ m) :
    acc z p v (B + 256) m + (∑ s : Fin 256, (wt z p (B + s.val) : EReal) * v (B + s.val)) = acc z p v B m := by
  unfold acc
  rw [← Finset.sum_Ico_consecutive _ (show B ≤ B + 256 by omega) h, add_comm,
    Fin.sum_univ_eq_sum_range (fun u => (wt z p (B + u) : EReal) * v (B + u)) 256,
    Finset.sum_Ico_eq_sum_range _ B (B + 256), show B + 256 - B = 256 by omega]

/-- The block that holds the query, alone. -/
theorem acc_diag (z : ℕ → ℝ) (p : ℕ) (v : ℕ → EReal) (B : ℕ) :
    (∑ s : Fin 256, (wt z p (B + s.val) : EReal) * v (B + s.val)) = acc z p v B (B + 256) := by
  unfold acc
  rw [Fin.sum_univ_eq_sum_range (fun u => (wt z p (B + u) : EReal) * v (B + u)) 256, Finset.sum_Ico_eq_sum_range,
    show B + 256 - B = 256 by omega]

/-- All 2048 keys: those from the query on have weight nothing. -/
theorem acc_all (z : ℕ → ℝ) (p : ℕ) (v : ℕ → EReal) (m : ℕ) (h : p ≤ m) (hm : m ≤ 2048) :
    (∑ t : Fin 2048, (wt z p t.val : EReal) * v t.val) = acc z p v 0 m := by
  unfold acc
  rw [Fin.sum_univ_eq_sum_range (fun t => (wt z p t : EReal) * v t) 2048, Finset.range_eq_Ico,
    ← Finset.sum_Ico_consecutive _ (Nat.zero_le m) hm]
  convert add_zero _
  refine Finset.sum_eq_zero fun t ht => ?_
  rw [wt, if_neg (by have := (Finset.mem_Ico.mp ht).1; omega), EReal.coe_zero, zero_mul]

/-- The reference's sum from key `t` on of the logarithms of one minus the break, less the key's own. -/
theorem between_eq (z : ℕ → ℝ) (p t : ℕ) (ht : t < p) (hp : p ≤ 2048) :
    -(sp (-(z t))) + ((∑ n : Fin 2048, if t + n.val < 2048 then (if t + n.val < p then -(sp (z (t + n.val))) else 0) else 0)
      - (-(sp (z t)))) = z t - upto z p t := by
  have h : (∑ n : Fin 2048, if t + n.val < 2048 then (if t + n.val < p then -(sp (z (t + n.val))) else 0) else 0) = - upto z p t := by
    rw [Fin.sum_univ_eq_sum_range (fun n => if t + n < 2048 then (if t + n < p then -(sp (z (t + n))) else 0) else 0) 2048]
    unfold upto
    rw [Finset.sum_Ico_eq_sum_range, ← Finset.sum_neg_distrib]
    have e : ∀ n, (if t + n < 2048 then (if t + n < p then -(sp (z (t + n))) else 0) else 0)
        = if n < p - t then -(sp (z (t + n))) else (0 : ℝ) := fun n => by
      by_cases h1 : n < p - t
      · rw [if_pos h1, if_pos (by omega), if_pos (by omega)]
      · rw [if_neg h1]; split
        · rw [if_neg (by omega)]
        · rfl
    simp only [e]
    rw [← Finset.sum_filter]
    refine Finset.sum_congr (Finset.ext fun u => ?_) fun _ _ => rfl
    simp only [Finset.mem_filter, Finset.mem_range]
    omega
  rw [h, sp_neg]
  ring

/-- A natural number below 2^31 as a signed word. -/
theorem toInt_nat (n : ℕ) (h : n < 2147483648) : (BitVec.ofNat 32 n).toInt = n := by
  rw [BitVec.toInt_eq_toNat_of_lt (by rw [BitVec.toNat_ofNat]; omega), BitVec.toNat_ofNat]; congr 1; omega

/-- A signed comparison of small natural numbers. -/
theorem slt_nat (a b : ℕ) (ha : a < 2147483648) (hb : b < 2147483648) :
    IntOp.cmpi .slt (BitVec.ofNat 32 a) (BitVec.ofNat 32 b) = if a < b then 1#1 else 0#1 := by
  simp only [IntOp.cmpi, BitVec.slt, toInt_nat _ ha, toInt_nat _ hb, Nat.cast_lt]
  by_cases h : a < b
  · rw [if_pos h, decide_eq_true h]; rfl
  · rw [if_neg h, decide_eq_false h]; rfl

theorem sge_nat (a b : ℕ) (ha : a < 2147483648) (hb : b < 2147483648) :
    IntOp.cmpi .sge (BitVec.ofNat 32 a) (BitVec.ofNat 32 b) = if b ≤ a then 1#1 else 0#1 := by
  simp only [IntOp.cmpi, BitVec.sle, toInt_nat _ ha, toInt_nat _ hb, Nat.cast_le]
  by_cases h : b ≤ a
  · rw [if_pos h, decide_eq_true h]; rfl
  · rw [if_neg h, decide_eq_false h]; rfl

end Cert.AttnMath

end
-- ==== Proof.AttnPay.lean ====
/- The values one block of 256 keys adds to the attention kernel's two running buffers, element by element: the block
   that holds the queries, and a block of keys before them. -/
module

public import proofs.«01_k».proof.Proof.Gen.KernelIdeal.Value
public import proofs.«01_k».proof.Proof.AttnMath

@[expose] public section

set_option maxRecDepth 16384

noncomputable section

namespace Cert.KernelIdeal.AttnPay

open Cert.KernelIdeal Cert.KernelIdeal.Gen Idealize.ShloMosaic Idealize.ShloMosaic.TcCoe Cert.AttnMath
open scoped BigOperators

section
variable (tri : Vec Ideal S256x256 .bf16) (q : Vec Ideal S1x256x64 .bf16) (k : Vec Ideal S1x1x64x256 .bf16) (b : Ideal .f32)

/-- The block's logits at an index. -/
def logit (r s : Fin 256) : EReal := (∑ d : Fin 64, q (ix3 0 r d) * k (ix4 0 0 d s)) + b

theorem pay12_apply (r s : Fin 256) : k0_pay12 (F := Ideal) q k b (ix2 r s) = logit q k b r s := by
  pointwise [k0_pay12, logit]
theorem pay18_apply (r s : Fin 256) : k0_pay18 (F := Ideal) q k b (ix2 r s) = logit q k b r s := by
  pointwise [k0_pay18, logit]
theorem pay34_apply (r s : Fin 256) : k0_pay34 (F := Ideal) q k b (ix2 r s) = logit q k b r s := by
  pointwise [k0_pay34, logit]
theorem pay40_apply (r s : Fin 256) : k0_pay40 (F := Ideal) q k b (ix2 r s) = logit q k b r s := by
  pointwise [k0_pay40, logit]

/-- The softplus of the logits. -/
theorem pay19_apply (r s : Fin 256) : k0_pay19 (F := Ideal) q k b (ix2 r s) = softE (logit q k b r s) := by
  pointwise [k0_pay19, zero_sub, pay18_apply]
  rfl
theorem pay20_apply (r s : Fin 256) : k0_pay20 (F := Ideal) q k b (ix2 r s) = softE (logit q k b r s) := by
  pointwise [k0_pay20, zero_sub, pay19_apply]
theorem pay35_apply (r s : Fin 256) : k0_pay35 (F := Ideal) q k b (ix2 r s) = softE (logit q k b r s) := by
  pointwise [k0_pay35, zero_sub, pay34_apply]
  rfl

/-- The inclusive sums of a block before the queries. -/
theorem pay13_apply (r s : Fin 256) :
    k0_pay13 (F := Ideal) tri q k b (ix2 r s) = incE (fun u s => tri (ix2 u s)) (fun u => softE (logit q k b r u)) s := by
  pointwise [k0_pay13, zero_sub, pay12_apply, incE]
  rfl
theorem pay3_apply (r s : Fin 256) :
    k0_pay3 (F := Ideal) tri (k0_pay19 (F := Ideal) q k b) (k0_pay20 (F := Ideal) q k b) (ix2 r s)
      = incE (fun u s => tri (ix2 u s)) (fun u => softE (logit q k b r u)) s := by
  pointwise [k0_pay3, pay19_apply, pay20_apply, incE]

/-- Whether the key is before the query, in the block that holds it. -/
theorem pay31_apply (r s : Fin 256) : k0_pay31 (ix2 r s) = if s.val < r.val then 1#1 else 0#1 := by
  pointwise [k0_pay31]
  exact slt_nat _ _ (by have := s.isLt; omega) (by have := r.isLt; omega)

/-- A selection on that comparison. -/
theorem select_ite (c : Prop) [Decidable c] (x y : EReal) :
    Scalar.select (if c then 1#1 else 0#1) x y = if c then x else y := by
  split <;> rfl

/-- The softplus in the kernel's spelling. -/
theorem softE_fold (x : EReal) : max x 0 + Ideal.log1p (Ideal.exp (-(FloatOps.absf (F := Ideal) (φ := .f32) x))) = softE x := rfl

/-- The inclusive sums of the block that holds the queries. -/
theorem pay36_apply (w : Ideal .f32) (hw : w = (0 : EReal)) (r s : Fin 256) :
    k0_pay36 (F := Ideal) tri k0_pay31 (k0_pay35 (F := Ideal) q k b) w (ix2 r s)
      = incE (fun u s => tri (ix2 u s)) (fun u => if u.val < r.val then softE (logit q k b r u) else 0) s := by
  subst hw
  pointwise [k0_pay36, pay31_apply, pay35_apply, incE]
  simp only [select_ite, ite_mul, zero_mul]
theorem pay41_apply (r s : Fin 256) :
    k0_pay41 (F := Ideal) tri k0_pay31 q k b (ix2 r s)
      = incE (fun u s => tri (ix2 u s)) (fun u => if u.val < r.val then softE (logit q k b r u) else 0) s := by
  pointwise [k0_pay41, zero_sub, pay31_apply, pay40_apply, incE]
  simp only [softE_fold, select_ite, ite_mul, zero_mul]
end

section
variable (tri : Vec Ideal S256x256 .bf16) (q : Vec Ideal S1x256x64 .bf16) (k : Vec Ideal S1x1x64x256 .bf16) (b : Ideal .f32)
  (R : Vec Ideal S1x256x128 .f32) (A : Vec Ideal S1x256x64 .f32) (v : Vec Ideal S1x256x64 .bf16)

theorem pay17_apply (r : Fin 256) (l : Fin 128) :
    k0_pay17 (F := Ideal) (k0_pay13 (F := Ideal) tri q k b) (k0_pay14 (F := Ideal) R) (ix3 0 r l)
      = R (ix3 0 r l) + incE (fun u s => tri (ix2 u s)) (fun u => softE (logit q k b r u)) 0 := by
  pointwise [k0_pay17, k0_pay14, pay13_apply]
theorem pay6_apply (r : Fin 256) (l : Fin 128) :
    k0_pay6 (F := Ideal) tri (k0_pay19 (F := Ideal) q k b) (k0_pay20 (F := Ideal) q k b) R (ix3 0 r l)
      = R (ix3 0 r l) + incE (fun u s => tri (ix2 u s)) (fun u => softE (logit q k b r u)) 0 := by
  pointwise [k0_pay6, k0_pay4, pay3_apply]
theorem pay39_apply (w : Ideal .f32) (hw : w = (0 : EReal)) (r : Fin 256) (l : Fin 128) :
    k0_pay39 (F := Ideal) tri k0_pay31 (k0_pay35 (F := Ideal) q k b) w R (ix3 0 r l)
      = R (ix3 0 r l) + incE (fun u s => tri (ix2 u s)) (fun u => if u.val < r.val then softE (logit q k b r u) else 0) 0 := by
  pointwise [k0_pay39, k0_pay37, pay36_apply tri q k b w hw]
theorem pay2_apply (r : Fin 256) (l : Fin 128) :
    k0_pay2 (F := Ideal) (k0_pay41 (F := Ideal) tri k0_pay31 q k b) (k0_pay42 (F := Ideal) R) (ix3 0 r l)
      = R (ix3 0 r l) + incE (fun u s => tri (ix2 u s)) (fun u => if u.val < r.val then softE (logit q k b r u) else 0) 0 := by
  pointwise [k0_pay2, k0_pay42, pay41_apply]

theorem pay16_apply (Rr : Fin 256 → EReal) (hR : ∀ r l, R (ix3 0 r l) = Rr r) (r : Fin 256) (d : Fin 64) :
    k0_pay16 (F := Ideal) (k0_pay15 (F := Ideal) tri q k b R) A v (ix3 0 r d)
      = A (ix3 0 r d) + ∑ s : Fin 256, Ideal.exp (logit q k b r s
          - incE (fun u s => tri (ix2 u s)) (fun u => softE (logit q k b r u)) s - Rr r) * v (ix3 0 s d) := by
  pointwise [k0_pay16, k0_pay15, k0_pay14, pay12_apply, pay13_apply, hR, dite_eq_ite, ite_self]
theorem pay5_apply (Rr : Fin 256 → EReal) (hR : ∀ r l, R (ix3 0 r l) = Rr r) (r : Fin 256) (d : Fin 64) :
    k0_pay5 (F := Ideal) tri (k0_pay18 (F := Ideal) q k b) (k0_pay19 (F := Ideal) q k b) (k0_pay20 (F := Ideal) q k b) R A v (ix3 0 r d)
      = A (ix3 0 r d) + ∑ s : Fin 256, Ideal.exp (logit q k b r s
          - incE (fun u s => tri (ix2 u s)) (fun u => softE (logit q k b r u)) s - Rr r) * v (ix3 0 s d) := by
  pointwise [k0_pay5, k0_pay4, pay18_apply, pay3_apply, hR, dite_eq_ite, ite_self]
theorem pay38_apply (w : Ideal .f32) (hw : w = (0 : EReal)) (Rr : Fin 256 → EReal) (hR : ∀ r l, R (ix3 0 r l) = Rr r) (r : Fin 256) (d : Fin 64) :
    k0_pay38 (F := Ideal) tri k0_pay31 (k0_pay34 (F := Ideal) q k b) (k0_pay35 (F := Ideal) q k b) w R A v (ix3 0 r d)
      = A (ix3 0 r d) + ∑ s : Fin 256, (if s.val < r.val then Ideal.exp (logit q k b r s
          - incE (fun u s => tri (ix2 u s)) (fun u => if u.val < r.val then softE (logit q k b r u) else 0) s - Rr r) else 0) * v (ix3 0 s d) := by
  pointwise [k0_pay38, k0_pay37, pay34_apply, pay31_apply, pay36_apply tri q k b w hw, hR, dite_eq_ite, ite_self]
  simp only [select_ite, ite_mul, zero_mul]
theorem pay1_apply (Rr : Fin 256 → EReal) (hR : ∀ r l, R (ix3 0 r l) = Rr r) (r : Fin 256) (d : Fin 64) :
    k0_pay1 (F := Ideal) (k0_pay43 (F := Ideal) tri k0_pay31 q k b R) A v (ix3 0 r d)
      = A (ix3 0 r d) + ∑ s : Fin 256, (if s.val < r.val then Ideal.exp (logit q k b r s
          - incE (fun u s => tri (ix2 u s)) (fun u => if u.val < r.val then softE (logit q k b r u) else 0) s - Rr r) else 0) * v (ix3 0 s d) := by
  pointwise [k0_pay1, k0_pay43, k0_pay42, pay40_apply, pay31_apply, pay41_apply, hR, dite_eq_ite, ite_self]
  simp only [select_ite, ite_mul, zero_mul]

/-- The output block: the first head's 64 lanes, then the second's. -/
theorem pay11_apply (A B : Vec Ideal S1x256x64 .f32) (r : Fin 256) (c : Fin 128) :
    k0_pay11 (F := Ideal) A B (ix2 r c) = if h : c.val < 64 then A (ix3 0 r ⟨c.val, h⟩) else B (ix3 0 r ⟨c.val - 64, by omega⟩) := by
  pointwise [k0_pay11]
end

section
variable {tri : Vec Ideal S256x256 .bf16} (hT : ∀ u s : Fin 256, tri (ix2 u s) = if s.val ≤ u.val then (1 : EReal) else 0)
  {q : Vec Ideal S1x256x64 .bf16} {k : Vec Ideal S1x1x64x256 .bf16} {b : Ideal .f32} {z : Fin 256 → ℕ → ℝ} {B : ℕ}
  (hz : ∀ r s : Fin 256, logit q k b r s = (z r (B + s.val) : EReal))
include hT hz

/-- The inclusive sums of a block before the queries, over the reals. -/
theorem inc_block (r s : Fin 256) :
    incE (fun u s => tri (ix2 u s)) (fun u => softE (logit q k b r u)) s = ((∑ u ∈ Finset.Ico s.val 256, sp (z r (B + u)) : ℝ) : EReal) :=
  incE_coe _ hT _ (fun u => sp (z r (B + u))) (fun u => by rw [hz, softE_coe]) s

/-- The inclusive sums of the block that holds the queries, over the reals. -/
theorem inc_diag (r s : Fin 256) :
    incE (fun u s => tri (ix2 u s)) (fun u => if u.val < r.val then softE (logit q k b r u) else 0) s
      = ((∑ u ∈ Finset.Ico s.val 256, if u < r.val then sp (z r (B + u)) else 0 : ℝ) : EReal) :=
  incE_coe _ hT _ (fun u => if u < r.val then sp (z r (B + u)) else 0)
    (fun u => by rw [hz, softE_coe]; split <;> simp) s

/-- A block before the queries extends the running sums by its keys. -/
theorem step_R (p : ℕ) (r : Fin 256) (h : B + 256 ≤ p) :
    (upto (z r) p (B + 256) : EReal) + incE (fun u s => tri (ix2 u s)) (fun u => softE (logit q k b r u)) 0 = (upto (z r) p B : EReal) := by
  rw [inc_block hT hz, ← EReal.coe_add, add_comm]
  exact congrArg _ (upto_block (z r) p B 0 (by omega) h)

/-- A block before the queries extends the weighted values by its keys. -/
theorem step_A (p : ℕ) (r : Fin 256) (h : B + 256 ≤ p) (v : ℕ → EReal) (m : ℕ) (hm : B + 256 ≤ m) :
    acc (z r) p v (B + 256) m + ∑ s : Fin 256, Ideal.exp (logit q k b r s
          - incE (fun u s => tri (ix2 u s)) (fun u => softE (logit q k b r u)) s - (upto (z r) p (B + 256) : EReal)) * v (B + s.val)
      = acc (z r) p v B m := by
  rw [← acc_block (z r) p v B m hm]
  refine congrArg _ (Finset.sum_congr rfl fun s _ => ?_)
  rw [inc_block hT hz, hz, wt_block _ _ _ _ h]

/-- The block that holds the queries starts the running sums. -/
theorem diag_R (r : Fin 256) :
    0 + incE (fun u s => tri (ix2 u s)) (fun u => if u.val < r.val then softE (logit q k b r u) else 0) 0
      = (upto (z r) (B + r.val) B : EReal) := by
  rw [inc_diag hT hz, zero_add]
  exact congrArg _ (upto_diag (z r) B r.val 0 r.isLt)

/-- The block that holds the queries starts the weighted values. -/
theorem diag_A (r : Fin 256) (v : ℕ → EReal) :
    0 + ∑ s : Fin 256, (if s.val < r.val then Ideal.exp (logit q k b r s
          - incE (fun u s => tri (ix2 u s)) (fun u => if u.val < r.val then softE (logit q k b r u) else 0) s - 0) else 0) * v (B + s.val)
      = acc (z r) (B + r.val) v B (B + 256) := by
  rw [← acc_diag, zero_add]
  refine Finset.sum_congr rfl fun s _ => ?_
  rw [inc_diag hT hz, hz, wt_diag _ _ _ _ r.isLt]
end

end Cert.KernelIdeal.AttnPay

end
-- ==== Proof.AttnTrip.lean ====
/- One trip of the attention kernel's loop over the blocks of keys before the queries: what it leaves in the two running
   buffers, given what they held. -/
module

public import proofs.«01_k».proof.Proof.AttnPay
public import Idealize.ShloMosaic.Lib.Pipeline.ValueKit
public import Idealize.ShloMosaic.Lib.WritesUnit

@[expose] public section

set_option maxRecDepth 16384

noncomputable section

namespace Cert.KernelIdeal.AttnTrip

open Cert.KernelIdeal Cert.KernelIdeal.Gen Cert.KernelIdeal.AttnPay Idealize.ShloMosaic Idealize.ShloMosaic.TcCoe Idealize.SL.Sem Cert.AttnMath
open scoped BigOperators

/-- A buffer of two planes written plane by plane reads, at an index, the payload of the index's plane. -/
theorem read_two9 {κ : Kind} {sp : Space} (v : View sig κ sp S2x256x128 .f32) (f : v.ty.Contents (Elt Ideal))
    (w1 w0 : S1x256x128.Idx → Elt Ideal .f32) (L : List (View.Piece (Elt Ideal) S2x256x128 .f32)) (h : Fin 2) (r : Fin 256) (l : Fin 128) :
    v.read (Elt Ideal) (v.writes (Elt Ideal) f (⟨Rect.unit ![1, 0, 0] ![1, 256, 128] inb_S2x256x128_S1x256x128_1_0_0, w1⟩
      :: ⟨Rect.unit ![0, 0, 0] ![1, 256, 128] inb_S2x256x128_S1x256x128_0_0_0, w0⟩ :: L)) (ix3 h r l)
      = if h = 0 then w0 (ix3 0 r l) else w1 (ix3 0 r l) := by
  by_cases hh : h = 0
  · subst hh
    rw [if_pos rfl, View.read_writes_cons_unit_of_not_mem v f _ _ _ _ rfl 0 (Or.inl (by show 0 < 1; omega))]
    refine View.read_writes_cons_unit_of_mem v f _ _ _ _ (ix3 0 r l) rfl fun a => ?_
    fin_cases a <;> simp [ix3]
  · obtain rfl : h = 1 := by omega
    rw [if_neg hh]
    refine View.read_writes_cons_unit_of_mem v f _ _ _ _ (ix3 0 r l) rfl fun a => ?_
    fin_cases a <;> simp [ix3]

theorem read_two10 {κ : Kind} {sp : Space} (v : View sig κ sp S2x256x64 .f32) (f : v.ty.Contents (Elt Ideal))
    (w1 w0 : S1x256x64.Idx → Elt Ideal .f32) (L : List (View.Piece (Elt Ideal) S2x256x64 .f32)) (h : Fin 2) (r : Fin 256) (l : Fin 64) :
    v.read (Elt Ideal) (v.writes (Elt Ideal) f (⟨Rect.unit ![1, 0, 0] ![1, 256, 64] inb_S2x256x64_S1x256x64_1_0_0, w1⟩
      :: ⟨Rect.unit ![0, 0, 0] ![1, 256, 64] inb_S2x256x64_S1x256x64_0_0_0, w0⟩ :: L)) (ix3 h r l)
      = if h = 0 then w0 (ix3 0 r l) else w1 (ix3 0 r l) := by
  by_cases hh : h = 0
  · subst hh
    rw [if_pos rfl, View.read_writes_cons_unit_of_not_mem v f _ _ _ _ rfl 0 (Or.inl (by show 0 < 1; omega))]
    refine View.read_writes_cons_unit_of_mem v f _ _ _ _ (ix3 0 r l) rfl fun a => ?_
    fin_cases a <;> simp [ix3]
  · obtain rfl : h = 1 := by omega
    rw [if_neg hh]
    refine View.read_writes_cons_unit_of_mem v f _ _ _ _ (ix3 0 r l) rfl fun a => ?_
    fin_cases a <;> simp [ix3]

/-- A load of one plane of a two-plane buffer. -/
theorem ld_plane {a b : ℕ} {e : EltTy} (X : (⟨3, ![2, a, b]⟩ : Shape).Idx → Elt Ideal e) (h : Fin 2) (off : Fin 3 → ℕ) (n : ℕ) (m : ℕ)
    (inb : ∀ x, off x + ![1, n, b] x ≤ ![2, a, b] x) (h0 : off 0 = h.val) (h1 : off 1 = m) (h2 : off 2 = 0) (hm : m + n ≤ a)
    (r : Fin n) (d : Fin b) :
    View.ld X (Rect.unit off ![1, n, b] inb) (ix3 0 r d) = X (ix3 h ⟨m + r.val, by have := r.isLt; omega⟩ d) := by
  refine congrArg X (funext fun x => Fin.ext ?_)
  fin_cases x
  · show off 0 + 1 * 0 = h.val; omega
  · show off 1 + 1 * r.val = m + r.val; omega
  · show off 2 + 1 * d.val = d.val; omega

/-- The same, from the plane's first row. -/
theorem ld_plane0 {a b : ℕ} {e : EltTy} (X : (⟨3, ![2, a, b]⟩ : Shape).Idx → Elt Ideal e) (h : Fin 2) (off : Fin 3 → ℕ)
    (inb : ∀ x, off x + ![1, a, b] x ≤ ![2, a, b] x) (h0 : off 0 = h.val) (h1 : off 1 = 0) (h2 : off 2 = 0)
    (r : Fin a) (d : Fin b) : View.ld X (Rect.unit off ![1, a, b] inb) (ix3 0 r d) = X (ix3 h r d) := by
  rw [ld_plane X h off a 0 inb h0 h1 h2 (by omega)]
  exact congrArg (fun x => X (ix3 h x d)) (Fin.ext (Nat.zero_add _))

/-- A load of one block of keys. -/
theorem ld_key (X : S2x8x64x256.Idx → Elt Ideal .bf16) (h : Fin 2) (j : Fin 8) (off : Fin 4 → ℕ)
    (inb : ∀ x, off x + ![1, 1, 64, 256] x ≤ ![2, 8, 64, 256] x) (h0 : off 0 = h.val) (h1 : off 1 = j.val) (h2 : off 2 = 0) (h3 : off 3 = 0)
    (d : Fin 64) (s : Fin 256) :
    View.ld X (Rect.unit off ![1, 1, 64, 256] inb) (ix4 0 0 d s) = X (ix4 h j d s) := by
  refine congrArg X (funext fun x => Fin.ext ?_)
  fin_cases x
  · show off 0 + 1 * 0 = h.val; omega
  · show off 1 + 1 * 0 = j.val; omega
  · show off 2 + 1 * d.val = d.val; omega
  · show off 3 + 1 * s.val = s.val; omega

/-- A load of one bias. -/
theorem ld_bias (X : S16.Idx → Elt Ideal .f32) (n : Fin 16) (off : Fin 1 → ℕ)
    (inb : ∀ x, off x + ![1] x ≤ ![16] x) (h0 : off 0 = n.val) (y : (Rect.unit (s := S16) off ![1] inb).shape.Idx) :
    View.ld X (Rect.unit off ![1] inb) y = X (ix1 n) := by
  refine congrArg X (funext fun x => Fin.ext ?_)
  fin_cases x
  have : (y 0).val < 1 := (y 0).isLt
  show off 0 + 1 * (y 0).val = n.val; omega

/-- The logit of query row `r` and key `256 j + s` for head `h` of the pair `g`. -/
def Lg (x0 : Vec Ideal S16 .f32) (x1 : Vec Ideal S2x256x64 .bf16) (x2 : Vec Ideal S2x8x64x256 .bf16) (g : Fin 8) (h : Fin 2)
    (r : Fin 256) (j : Fin 8) (s : Fin 256) : EReal :=
  (∑ d : Fin 64, x1 (ix3 h r d) * x2 (ix4 h j d s)) + x0 (ix1 ⟨g.val * 2 + h.val, by omega⟩)

/-- A block's logits from its loads. -/
theorem logit_ld (x0 : Vec Ideal S16 .f32) (x1 : Vec Ideal S2x256x64 .bf16) (x2 : Vec Ideal S2x8x64x256 .bf16) (g : Fin 8) (h : Fin 2) (j : Fin 8)
    (off1 : Fin 3 → ℕ) (inb1 : ∀ x, off1 x + ![1, 256, 64] x ≤ ![2, 256, 64] x) (h10 : off1 0 = h.val) (h11 : off1 1 = 0) (h12 : off1 2 = 0)
    (off2 : Fin 4 → ℕ) (inb2 : ∀ x, off2 x + ![1, 1, 64, 256] x ≤ ![2, 8, 64, 256] x) (h20 : off2 0 = h.val) (h21 : off2 1 = j.val)
    (h22 : off2 2 = 0) (h23 : off2 3 = 0)
    (off0 : Fin 1 → ℕ) (inb0 : ∀ x, off0 x + ![1] x ≤ ![16] x) (h00 : off0 0 = g.val * 2 + h.val)
    (y : (Rect.unit (s := S16) off0 ![1] inb0).shape.Idx) (r s : Fin 256) :
    logit (View.ld x1 (Rect.unit off1 ![1, 256, 64] inb1)) (View.ld x2 (Rect.unit off2 ![1, 1, 64, 256] inb2))
      (View.ld x0 (Rect.unit off0 ![1] inb0) y) r s = Lg x0 x1 x2 g h r j s := by
  unfold logit Lg
  rw [ld_bias x0 ⟨g.val * 2 + h.val, by omega⟩ off0 inb0 h00]
  refine congrArg (· + _) (Finset.sum_congr rfl fun d _ => ?_)
  rw [ld_plane x1 h off1 256 0 inb1 h10 h11 h12 (by omega), ld_key x2 h j off2 inb2 h20 h21 h22 h23]
  refine congrArg (fun a => x1 (ix3 h a d) * _) (Fin.ext (Nat.zero_add _))

/-- The words of the loop: block `i − 1 − k` on trip `k`, its first key, and the head's number. -/
theorem block_word : ∀ i k : Fin 8, k.val < i.val →
    BitVec.toNat (Scalar.indexCast (Scalar.subi (Scalar.subi (BitVec.ofNat 32 i.val) 1#32) (Scf.iv 0#32 1#32 k.val))) = i.val - 1 - k.val := by
  decide +kernel
theorem head_word : ∀ g : Fin 8, BitVec.toNat (Scalar.indexCast (Scalar.addi (Scalar.muli (BitVec.ofNat 32 g.val) 2#32) 0#32)) = g.val * 2
    ∧ BitVec.toNat (Scalar.indexCast (Scalar.addi (Scalar.muli (BitVec.ofNat 32 g.val) 2#32) 1#32)) = g.val * 2 + 1 := by
  decide +kernel
theorem trips_word : ∀ i : Fin 8,
    Scf.trips 0#32 (Scalar.addi (0#32) (Scalar.muli (Scalar.divsi (Scalar.subi (BitVec.ofNat 32 i.val) 0#32) 1#32) 1#32)) 1#32 = i.val
    ∧ Scf.trips (Scalar.addi (0#32) (Scalar.muli (Scalar.divsi (Scalar.subi (BitVec.ofNat 32 i.val) 0#32) 1#32) 1#32))
        (Scalar.addi (0#32) (Scalar.subi (BitVec.ofNat 32 i.val) 0#32)) 1#32 = 0 := by
  decide +kernel

section
variable (c : Dev nD) (i : grid0.Coords) (arg3 : Memref sig .tc .smem S16 .f32) (harg3 : arg3.IsWhole) (arg4 : Memref sig .tc .vmem S2x256x64 .bf16) (harg4 : arg4.IsWhole) (arg5 : Memref sig .tc .vmem S2x8x64x256 .bf16) (harg5 : arg5.IsWhole) (arg6 : Memref sig .tc .vmem S2x2048x64 .bf16) (harg6 : arg6.IsWhole) (arg7 : Memref sig .tc .vmem S256x256 .bf16) (harg7 : arg7.IsWhole) (arg8 : Memref sig .tc .vmem S256x128 .bf16) (harg8 : arg8.IsWhole) (arg9 : Memref sig .tc .vmem S2x256x128 .f32) (harg9 : arg9.IsWhole) (arg10 : Memref sig .tc .vmem S2x256x64 .f32) (harg10 : arg10.IsWhole)
  (v1 : FVec Ideal S256x256 .bf16) (hT : ∀ u s : Fin 256, v1 (ix2 u s) = if s.val ≤ u.val then (1 : EReal) else 0)
  (x0 : Vec Ideal S16 .f32) (x1 : Vec Ideal S2x256x64 .bf16) (x2 : Vec Ideal S2x8x64x256 .bf16) (x3 : Vec Ideal S2x2048x64 .bf16)
  (z : Fin 2 → Fin 256 → ℕ → ℝ) (V : Fin 2 → Fin 64 → ℕ → EReal)
  (hz : ∀ h r j s, Lg x0 x1 x2 (i 1) h r j s = (z h r (256 * j.val + s.val) : EReal))
  (hV : ∀ h d (t : Fin 2048), x3 (ix3 h t d) = V h d t.val)

/-- What the running sums hold when the keys from block `n` on have been seen. -/
def State9 (f : arg9.view.ty.Contents (Elt Ideal)) (n : ℕ) : Prop :=
  ∀ h r l, arg9.view.read (Elt Ideal) f (ix3 h r l) = (upto (z h r) (256 * (i 2).val + r.val) (256 * n) : EReal)
/-- What the weighted values hold when the keys from block `n` on have been seen. -/
def State10 (f : arg10.view.ty.Contents (Elt Ideal)) (n : ℕ) : Prop :=
  ∀ h r d, arg10.view.read (Elt Ideal) f (ix3 h r d) = acc (z h r) (256 * (i 2).val + r.val) (V h d) (256 * n) (256 * (i 2).val + 256)

include hT hz in
theorem trip9 (k : Fin (k0_t1_loop i).trips) (hk : k.val < (i 2).val) (f9 f10)
    (h9 : State9 i arg9 z f9 ((i 2).val - k.val)) :
    State9 i arg9 z (arg9.view.writes (Elt Ideal) f9 (tripL_k0_t1 (F := Ideal) Variants.none c none i arg3 harg3 arg4 harg4 arg5 harg5 arg6 harg6 arg7 harg7 arg8 harg8 arg9 harg9 arg10 harg10 (BitVec.ofNat 32 ↑(i 1)) (BitVec.ofNat 32 ↑(i 2))
      v1 (harg3.unread x0) (harg4.unread x1) (harg5.unread x2) (harg6.unread x3) k f9 f10).1) ((i 2).val - (k.val + 1)) := by
  intro h r l
  have hi : (i 2).val < 8 := (i 2).isLt
  have hw := block_word (i 2) ⟨k.val, by omega⟩ hk
  obtain ⟨g0, g1⟩ := head_word (i 1)
  have hb : 256 * ((i 2).val - k.val) = 256 * ((i 2).val - 1 - k.val) + 256 := by omega
  have hb' : 256 * ((i 2).val - (k.val + 1)) = 256 * ((i 2).val - 1 - k.val) := by omega
  have hp : 256 * ((i 2).val - 1 - k.val) + 256 ≤ 256 * (i 2).val + r.val := by omega
  unfold State9 at h9
  rw [hb] at h9
  rw [hb']
  unfold tripL_k0_t1
  unfold trip_k0_t1
  dsimp only
  sl_unfold_words
  simp only [View.readAt_eq_ld, harg3.read_unread, harg4.read_unread, harg5.read_unread, harg6.read_unread]
  rw [read_two9]
  split
  · subst h
    rw [pay17_apply, ld_plane0 (a := 256) (b := 128) _ 0 _ _ rfl rfl rfl, h9]
    exact step_R hT (fun r s => (logit_ld x0 x1 x2 (i 1) 0 ⟨(i 2).val - 1 - k.val, by omega⟩ _ _ rfl rfl rfl _ _ rfl hw rfl rfl _ _ g0 _ r s).trans
      (hz 0 r _ s)) _ r hp
  · obtain rfl : h = 1 := by omega
    rw [pay6_apply, ld_plane0 (a := 256) (b := 128) _ 1 _ _ rfl rfl rfl, h9]
    exact step_R hT (fun r s => (logit_ld x0 x1 x2 (i 1) 1 ⟨(i 2).val - 1 - k.val, by omega⟩ _ _ rfl rfl rfl _ _ rfl hw rfl rfl _ _ g1 _ r s).trans
      (hz 1 r _ s)) _ r hp

/-- The first key of the block, in the values' load. -/
theorem value_word : ∀ i k : Fin 8, k.val < i.val →
    BitVec.toNat (Scalar.indexCast (Scalar.muli (Scalar.subi (Scalar.subi (BitVec.ofNat 32 i.val) 1#32) (Scf.iv 0#32 1#32 k.val)) 256#32))
      = 256 * (i.val - 1 - k.val) := by
  decide +kernel

include hT hz hV in
theorem trip10 (k : Fin (k0_t1_loop i).trips) (hk : k.val < (i 2).val) (f9 f10)
    (h9 : State9 i arg9 z f9 ((i 2).val - k.val)) (h10 : State10 i arg10 z V f10 ((i 2).val - k.val)) :
    State10 i arg10 z V (arg10.view.writes (Elt Ideal) f10 (tripL_k0_t1 (F := Ideal) Variants.none c none i arg3 harg3 arg4 harg4 arg5 harg5 arg6 harg6 arg7 harg7 arg8 harg8 arg9 harg9 arg10 harg10 (BitVec.ofNat 32 ↑(i 1)) (BitVec.ofNat 32 ↑(i 2))
      v1 (harg3.unread x0) (harg4.unread x1) (harg5.unread x2) (harg6.unread x3) k f9 f10).2) ((i 2).val - (k.val + 1)) := by
  intro h r d
  have hi : (i 2).val < 8 := (i 2).isLt
  have hw := block_word (i 2) ⟨k.val, by omega⟩ hk
  have hw' := value_word (i 2) ⟨k.val, by omega⟩ hk
  obtain ⟨g0, g1⟩ := head_word (i 1)
  have hb : 256 * ((i 2).val - k.val) = 256 * ((i 2).val - 1 - k.val) + 256 := by omega
  have hb' : 256 * ((i 2).val - (k.val + 1)) = 256 * ((i 2).val - 1 - k.val) := by omega
  have hp : 256 * ((i 2).val - 1 - k.val) + 256 ≤ 256 * (i 2).val + r.val := by omega
  unfold State9 at h9
  unfold State10 at h10
  rw [hb] at h9 h10
  rw [hb']
  unfold tripL_k0_t1
  unfold trip_k0_t1
  dsimp only
  sl_unfold_words
  simp only [View.readAt_eq_ld, harg3.read_unread, harg4.read_unread, harg5.read_unread, harg6.read_unread]
  rw [read_two10]
  split
  · subst h
    rw [pay16_apply _ _ _ _ _ _ _ (fun r => (upto (z 0 r) (256 * (i 2).val + r.val) (256 * ((i 2).val - 1 - k.val) + 256) : EReal))
      (fun r l => (ld_plane0 (a := 256) (b := 128) _ 0 _ _ rfl rfl rfl r l).trans (h9 0 r l)),
      ld_plane0 (a := 256) (b := 64) _ 0 _ _ rfl rfl rfl, h10]
    refine (congrArg (HAdd.hAdd _) (Finset.sum_congr rfl fun s _ => congrArg (HMul.hMul _)
      ((ld_plane (a := 2048) (b := 64) x3 0 _ 256 (256 * ((i 2).val - 1 - k.val)) _ rfl hw' rfl (by omega) s d).trans (hV 0 d _)))).trans ?_
    exact step_A hT (fun r s => (logit_ld x0 x1 x2 (i 1) 0 ⟨(i 2).val - 1 - k.val, by omega⟩ _ _ rfl rfl rfl _ _ rfl hw rfl rfl _ _ g0 _ r s).trans
      (hz 0 r _ s)) _ r hp (V 0 d) _ (by omega)
  · obtain rfl : h = 1 := by omega
    rw [pay5_apply _ _ _ _ _ _ _ (fun r => (upto (z 1 r) (256 * (i 2).val + r.val) (256 * ((i 2).val - 1 - k.val) + 256) : EReal))
      (fun r l => (ld_plane0 (a := 256) (b := 128) _ 1 _ _ rfl rfl rfl r l).trans (h9 1 r l)),
      ld_plane0 (a := 256) (b := 64) _ 1 _ _ rfl rfl rfl, h10]
    refine (congrArg (HAdd.hAdd _) (Finset.sum_congr rfl fun s _ => congrArg (HMul.hMul _)
      ((ld_plane (a := 2048) (b := 64) x3 1 _ 256 (256 * ((i 2).val - 1 - k.val)) _ rfl hw' rfl (by omega) s d).trans (hV 1 d _)))).trans ?_
    exact step_A hT (fun r s => (logit_ld x0 x1 x2 (i 1) 1 ⟨(i 2).val - 1 - k.val, by omega⟩ _ _ rfl rfl rfl _ _ rfl hw rfl rfl _ _ g1 _ r s).trans
      (hz 1 r _ s)) _ r hp (V 1 d) _ (by omega)

include hT hz hV in
/-- After `k` trips the two buffers hold the keys from block `i − k` on. -/
theorem loop (f9 f10) (h9 : State9 i arg9 z f9 (i 2).val) (h10 : State10 i arg10 z V f10 (i 2).val) (k : ℕ) (hk : k ≤ (i 2).val) :
    State9 i arg9 z (arg9.view.writes (Elt Ideal) f9 (pb_k0_t1 (F := Ideal) Variants.none c none i arg3 harg3 arg4 harg4 arg5 harg5 arg6 harg6 arg7 harg7 arg8 harg8 arg9 harg9 arg10 harg10 (BitVec.ofNat 32 ↑(i 1)) (BitVec.ofNat 32 ↑(i 2))
      v1 (harg3.unread x0) (harg4.unread x1) (harg5.unread x2) (harg6.unread x3) f9 f10 k).1) ((i 2).val - k)
    ∧ State10 i arg10 z V (arg10.view.writes (Elt Ideal) f10 (pb_k0_t1 (F := Ideal) Variants.none c none i arg3 harg3 arg4 harg4 arg5 harg5 arg6 harg6 arg7 harg7 arg8 harg8 arg9 harg9 arg10 harg10 (BitVec.ofNat 32 ↑(i 1)) (BitVec.ofNat 32 ↑(i 2))
      v1 (harg3.unread x0) (harg4.unread x1) (harg5.unread x2) (harg6.unread x3) f9 f10 k).2) ((i 2).val - k) := by
  induction k with
  | zero => exact ⟨h9, h10⟩
  | succ k ih =>
    obtain ⟨i9, i10⟩ := ih (by omega)
    have ht : k < (k0_t1_loop i).trips := by
      have e := (trips_word (i 2)).1
      show k < Scf.trips _ _ _
      rw [e]; omega
    rw [pb_k0_t1_succ Variants.none c none i arg3 harg3 arg4 harg4 arg5 harg5 arg6 harg6 arg7 harg7 arg8 harg8 arg9 harg9 arg10 harg10 _ _ _ _ _ _ _ _ _ ⟨k, ht⟩]
    rw [View.writes_append, View.writes_append]
    exact ⟨trip9 c i arg3 harg3 arg4 harg4 arg5 harg5 arg6 harg6 arg7 harg7 arg8 harg8 arg9 harg9 arg10 harg10 v1 hT x0 x1 x2 x3 z hz ⟨k, ht⟩ (show k < (i 2).val by omega) _ _ i9,
      trip10 c i arg3 harg3 arg4 harg4 arg5 harg5 arg6 harg6 arg7 harg7 arg8 harg8 arg9 harg9 arg10 harg10 v1 hT x0 x1 x2 x3 z V hz hV ⟨k, ht⟩ (show k < (i 2).val by omega) _ _ i9 i10⟩
end

end Cert.KernelIdeal.AttnTrip

end
-- ==== Proof.AttnDiag.lean ====
/- The block of the attention kernel that holds the queries, and one grid point's output block. -/
module

public import proofs.«01_k».proof.Proof.AttnTrip

@[expose] public section

set_option maxRecDepth 16384

noncomputable section

namespace Cert.KernelIdeal.AttnDiag

open Cert.KernelIdeal Cert.KernelIdeal.Gen Cert.KernelIdeal.AttnPay Cert.KernelIdeal.AttnTrip Idealize.ShloMosaic Idealize.ShloMosaic.TcCoe Idealize.SL.Sem Cert.AttnMath
open scoped BigOperators

/-- A load of one plane of a buffer just written. -/
theorem readCov_plane {a b : ℕ} {κ : Kind} {sp : Space} {e : EltTy} (v : View sig κ sp (⟨3, ![2, a, b]⟩ : Shape) e)
    (L : List (View.Piece (Elt Ideal) (⟨3, ![2, a, b]⟩ : Shape) e)) (h : Fin 2) (off : Fin 3 → ℕ)
    (inb : ∀ x, off x + ![1, a, b] x ≤ ![2, a, b] x) (h0 : off 0 = h.val) (h1 : off 1 = 0) (h2 : off 2 = 0) (r : Fin a) (d : Fin b) :
    v.readCov L (Rect.toLoadRect (Rect.unit off ![1, a, b] inb)) (ix3 0 r d) = v.read (Elt Ideal) (v.writes (Elt Ideal) v.junk L) (ix3 h r d) :=
  ld_plane0 (v.read (Elt Ideal) (v.writes (Elt Ideal) v.junk L)) h off inb h0 h1 h2 r d

theorem pay32_apply (y : S2x256x128.Idx) : k0_pay32 (F := Ideal) y = (0 : EReal) := by
  idx_vars y
  pointwise [k0_pay32]
theorem pay33_apply (y : S2x256x64.Idx) : k0_pay33 (F := Ideal) y = (0 : EReal) := by
  idx_vars y
  pointwise [k0_pay33]

section
variable {κ : Kind} {sp : Space}

/-- The cleared running sums, read in the first plane, and in the second once the first is written. -/
theorem zero9_0 (v : View sig κ sp S2x256x128 .f32) (r : Fin 256) (l : Fin 128) :
    v.readCov (Val := Elt Ideal) [⟨Rect.unit ![0, 0, 0] ![2, 256, 128] inb_S2x256x128_S2x256x128_0_0_0, k0_pay32 (F := Ideal)⟩]
      (Rect.toLoadRect (Rect.unit ![0, 0, 0] ![1, 256, 128] inb_S2x256x128_S1x256x128_0_0_0)) (ix3 0 r l) = (0 : EReal) := by
  rw [readCov_plane (a := 256) (b := 128) v _ 0 _ _ rfl rfl rfl]
  exact (View.read_writes_cons_unit_of_mem v _ _ _ _ (ix3 _ r l) (ix3 0 r l) rfl (fun a => by fin_cases a <;> simp [ix3])).trans (pay32_apply _)
theorem zero9_1 (v : View sig κ sp S2x256x128 .f32) (w : S1x256x128.Idx → Elt Ideal .f32) (r : Fin 256) (l : Fin 128) :
    v.readCov (Val := Elt Ideal) [⟨Rect.unit ![0, 0, 0] ![1, 256, 128] inb_S2x256x128_S1x256x128_0_0_0, w⟩,
        ⟨Rect.unit ![0, 0, 0] ![2, 256, 128] inb_S2x256x128_S2x256x128_0_0_0, k0_pay32 (F := Ideal)⟩]
      (Rect.toLoadRect (Rect.unit ![1, 0, 0] ![1, 256, 128] inb_S2x256x128_S1x256x128_1_0_0)) (ix3 0 r l) = (0 : EReal) := by
  rw [readCov_plane (a := 256) (b := 128) v _ 1 _ _ rfl rfl rfl,
    View.read_writes_cons_unit_of_not_mem v _ _ _ _ _ rfl 0 (Or.inr (by show 0 + 1 ≤ 1; omega))]
  exact (View.read_writes_cons_unit_of_mem v _ _ _ _ (ix3 _ r l) (ix3 1 r l) rfl (fun a => by fin_cases a <;> simp [ix3])).trans (pay32_apply _)
/-- The cleared weighted values likewise. -/
theorem zero10_0 (v : View sig κ sp S2x256x64 .f32) (r : Fin 256) (l : Fin 64) :
    v.readCov (Val := Elt Ideal) [⟨Rect.unit ![0, 0, 0] ![2, 256, 64] inb_S2x256x64_S2x256x64_0_0_0, k0_pay33 (F := Ideal)⟩]
      (Rect.toLoadRect (Rect.unit ![0, 0, 0] ![1, 256, 64] inb_S2x256x64_S1x256x64_0_0_0)) (ix3 0 r l) = (0 : EReal) := by
  rw [readCov_plane (a := 256) (b := 64) v _ 0 _ _ rfl rfl rfl]
  exact (View.read_writes_cons_unit_of_mem v _ _ _ _ (ix3 _ r l) (ix3 0 r l) rfl (fun a => by fin_cases a <;> simp [ix3])).trans (pay33_apply _)
theorem zero10_1 (v : View sig κ sp S2x256x64 .f32) (w : S1x256x64.Idx → Elt Ideal .f32) (r : Fin 256) (l : Fin 64) :
    v.readCov (Val := Elt Ideal) [⟨Rect.unit ![0, 0, 0] ![1, 256, 64] inb_S2x256x64_S1x256x64_0_0_0, w⟩,
        ⟨Rect.unit ![0, 0, 0] ![2, 256, 64] inb_S2x256x64_S2x256x64_0_0_0, k0_pay33 (F := Ideal)⟩]
      (Rect.toLoadRect (Rect.unit ![1, 0, 0] ![1, 256, 64] inb_S2x256x64_S1x256x64_1_0_0)) (ix3 0 r l) = (0 : EReal) := by
  rw [readCov_plane (a := 256) (b := 64) v _ 1 _ _ rfl rfl rfl,
    View.read_writes_cons_unit_of_not_mem v _ _ _ _ _ rfl 0 (Or.inr (by show 0 + 1 ≤ 1; omega))]
  exact (View.read_writes_cons_unit_of_mem v _ _ _ _ (ix3 _ r l) (ix3 1 r l) rfl (fun a => by fin_cases a <;> simp [ix3])).trans (pay33_apply _)
end

/-- The triangle of ones as the kernel reads it. -/
theorem tri_read (x4 : Vec Ideal S256x256 .bf16) (y : S256x256.Idx) :
    k0_pay30 (F := Ideal) (View.ld x4 (Rect.unit ![0, 0] ![256, 256] inb_S256x256_S256x256_0_0)) y = x4 y := by
  idx_vars y
  pointwise [k0_pay30]

/-- The words of the block that holds the queries. -/
theorem diag_word : ∀ i : Fin 8, BitVec.toNat (Scalar.indexCast (BitVec.ofNat 32 i.val)) = i.val
    ∧ BitVec.toNat (Scalar.indexCast (Scalar.muli (BitVec.ofNat 32 i.val) 256#32)) = 256 * i.val := by
  decide +kernel

/-- The word the mask writes where a key is not before the query. -/
theorem zero_word : (FloatOps.ofBits (F := Ideal) FTy.f32 0#32 : EReal) = 0 := by
  show Ideal.ofBits .f32 0#32 = 0
  exact Ideal.ofBits_zero_f32

section
variable (c : Dev nD) (i : grid0.Coords) (arg3 : Memref sig .tc .smem S16 .f32) (harg3 : arg3.IsWhole) (arg4 : Memref sig .tc .vmem S2x256x64 .bf16) (harg4 : arg4.IsWhole) (arg5 : Memref sig .tc .vmem S2x8x64x256 .bf16) (harg5 : arg5.IsWhole) (arg6 : Memref sig .tc .vmem S2x2048x64 .bf16) (harg6 : arg6.IsWhole) (arg7 : Memref sig .tc .vmem S256x256 .bf16) (harg7 : arg7.IsWhole) (arg8 : Memref sig .tc .vmem S256x128 .bf16) (harg8 : arg8.IsWhole) (arg9 : Memref sig .tc .vmem S2x256x128 .f32) (harg9 : arg9.IsWhole) (arg10 : Memref sig .tc .vmem S2x256x64 .f32) (harg10 : arg10.IsWhole)
  (x0 : Vec Ideal S16 .f32) (x1 : Vec Ideal S2x256x64 .bf16) (x2 : Vec Ideal S2x8x64x256 .bf16) (x3 : Vec Ideal S2x2048x64 .bf16)
  (x4 : Vec Ideal S256x256 .bf16) (hT : ∀ u s : Fin 256, x4 (ix2 u s) = if s.val ≤ u.val then (1 : EReal) else 0)
  (z : Fin 2 → Fin 256 → ℕ → ℝ) (V : Fin 2 → Fin 64 → ℕ → EReal)
  (hz : ∀ h r j s, Lg x0 x1 x2 (i 1) h r j s = (z h r (256 * j.val + s.val) : EReal))
  (hV : ∀ h d (t : Fin 2048), x3 (ix3 h t d) = V h d t.val)

include hT hz in
/-- The running sums after the block that holds the queries. -/
theorem diag9 : State9 i arg9 z (arg9.view.writes (Elt Ideal) arg9.view.junk
    (kernelRun0_A.sl.HS0_3 (F := Ideal) c i arg3 harg3 arg4 harg4 arg5 harg5 arg7 harg7 arg9 x0 x1 x2 x4)) (i 2).val := by
  intro h r l
  have hT' : ∀ u s : Fin 256, k0_pay30 (F := Ideal) (View.ld x4 (Rect.unit ![0, 0] ![256, 256] inb_S256x256_S256x256_0_0)) (ix2 u s)
      = if s.val ≤ u.val then (1 : EReal) else 0 := fun u s => (tri_read x4 _).trans (hT u s)
  obtain ⟨hw, hw'⟩ := diag_word (i 2)
  obtain ⟨g0, g1⟩ := head_word (i 1)
  delta kernelRun0_A.sl.HS0_3
  delta kernelRun0_A.sl.HS0_2
  dsimp only
  rw [read_two9]
  sl_unfold_words
  simp only [View.readAt_eq_ld, harg3.read_unread, harg4.read_unread, harg5.read_unread, harg7.read_unread]
  split
  · subst h
    rw [pay39_apply _ _ _ _ _ _ zero_word, zero9_0]
    exact diag_R hT' (fun r s => (logit_ld x0 x1 x2 (i 1) 0 (i 2) _ _ rfl rfl rfl _ _ rfl hw rfl rfl _ _ g0 _ r s).trans
      (hz 0 r _ s)) r
  · obtain rfl : h = 1 := by omega
    rw [pay2_apply, zero9_1]
    exact diag_R hT' (fun r s => (logit_ld x0 x1 x2 (i 1) 1 (i 2) _ _ rfl rfl rfl _ _ rfl hw rfl rfl _ _ g1 _ r s).trans
      (hz 1 r _ s)) r

include hT hz hV in
/-- The weighted values after the block that holds the queries. -/
theorem diag10 : State10 i arg10 z V (arg10.view.writes (Elt Ideal) arg10.view.junk
    (kernelRun0_A.sl.HS1_3 (F := Ideal) c i arg3 harg3 arg4 harg4 arg5 harg5 arg6 harg6 arg7 harg7 arg9 arg10 x0 x1 x2 x3 x4)) (i 2).val := by
  intro h r d
  have hi : (i 2).val < 8 := (i 2).isLt
  have hT' : ∀ u s : Fin 256, k0_pay30 (F := Ideal) (View.ld x4 (Rect.unit ![0, 0] ![256, 256] inb_S256x256_S256x256_0_0)) (ix2 u s)
      = if s.val ≤ u.val then (1 : EReal) else 0 := fun u s => (tri_read x4 _).trans (hT u s)
  obtain ⟨hw, hw'⟩ := diag_word (i 2)
  obtain ⟨g0, g1⟩ := head_word (i 1)
  delta kernelRun0_A.sl.HS1_3
  delta kernelRun0_A.sl.HS1_2
  dsimp only
  rw [read_two10]
  sl_unfold_words
  simp only [View.readAt_eq_ld, harg3.read_unread, harg4.read_unread, harg5.read_unread, harg6.read_unread, harg7.read_unread]
  split
  · subst h
    rw [pay38_apply _ _ _ _ _ _ _ _ zero_word (fun _ => 0) (fun r l => zero9_0 _ r l), zero10_0]
    refine (congrArg (HAdd.hAdd _) (Finset.sum_congr rfl fun s _ => congrArg (HMul.hMul _)
      ((ld_plane (a := 2048) (b := 64) x3 0 _ 256 (256 * (i 2).val) _ rfl hw' rfl (by omega) s d).trans (hV 0 d _)))).trans ?_
    exact diag_A hT' (fun r s => (logit_ld x0 x1 x2 (i 1) 0 (i 2) _ _ rfl rfl rfl _ _ rfl hw rfl rfl _ _ g0 _ r s).trans
      (hz 0 r _ s)) r (V 0 d)
  · obtain rfl : h = 1 := by omega
    rw [pay1_apply _ _ _ _ _ _ _ (fun _ => 0) (fun r l => zero9_1 _ _ r l), zero10_1]
    refine (congrArg (HAdd.hAdd _) (Finset.sum_congr rfl fun s _ => congrArg (HMul.hMul _)
      ((ld_plane (a := 2048) (b := 64) x3 1 _ 256 (256 * (i 2).val) _ rfl hw' rfl (by omega) s d).trans (hV 1 d _)))).trans ?_
    exact diag_A hT' (fun r s => (logit_ld x0 x1 x2 (i 1) 1 (i 2) _ _ rfl rfl rfl _ _ rfl hw rfl rfl _ _ g1 _ r s).trans
      (hz 1 r _ s)) r (V 1 d)

include hT hz hV in
set_option maxHeartbeats 2000000 in
/-- A grid point's output block: the first head's 64 columns, then the second's, each the weighted sum over all the keys. -/
theorem out_apply (r : Fin 256) (q : Fin 128) :
    out0_A_5 (F := Ideal) c i arg3 harg3 arg4 harg4 arg5 harg5 arg6 harg6 arg7 harg7 arg8 harg8 arg9 harg9 arg10 harg10 x0 x1 x2 x3 x4 (ix2 r q)
      = ∑ t : Fin 2048, (wt (z ⟨q.val / 64, by omega⟩ r) (256 * (i 2).val + r.val) t.val : EReal)
          * V ⟨q.val / 64, by omega⟩ ⟨q.val % 64, by omega⟩ t.val := by
  have hi : (i 2).val < 8 := (i 2).isLt
  have hT' : ∀ u s : Fin 256, kernelRun0_A.sl.r_1 (F := Ideal) c arg7 harg7 x4 (ix2 u s) = if s.val ≤ u.val then (1 : EReal) else 0 := by
    intro u s
    delta kernelRun0_A.sl.r_1
    sl_unfold_words
    simp only [View.readAt_eq_ld, harg7.read_unread]
    exact (tri_read x4 _).trans (hT u s)
  have e9 := diag9 c i arg3 harg3 arg4 harg4 arg5 harg5 arg7 harg7 arg9 x0 x1 x2 x4 hT z hz
  have e10 := diag10 c i arg3 harg3 arg4 harg4 arg5 harg5 arg6 harg6 arg7 harg7 arg9 arg10 x0 x1 x2 x3 x4 hT z V hz hV
  have el := (loop c i arg3 harg3 arg4 harg4 arg5 harg5 arg6 harg6 arg7 harg7 arg8 harg8 arg9 harg9 arg10 harg10 _ hT' x0 x1 x2 x3 z V hz hV _ _ e9 e10 (i 2).val le_rfl).2
  rw [Nat.sub_self] at el
  unfold State10 at el
  unfold out0_A_5
  unfold kernelRun0_A
  dsimp only
  rw [View.read_writes_junk_eq_canon, View.canon_unit_zero (by funext a; fin_cases a <;> rfl)]
  rw [pay11_apply]
  delta kernelRun0_A.sl.v132 kernelRun0_A.sl.v134
  dsimp only
  simp only [(trips_word (i 2)).1, (trips_word (i 2)).2]
  split
  · next h =>
    rw [acc_all _ _ _ (256 * (i 2).val + 256) (by omega) (by omega), readCov_plane (a := 256) (b := 64) _ _ 0 _ _ rfl rfl rfl, View.writes_append, View.writes_append]
    refine (el 0 r ⟨q.val, h⟩).trans ?_
    have a : (⟨q.val / 64, by omega⟩ : Fin 2) = 0 := Fin.ext (by show q.val / 64 = 0; omega)
    have b : (⟨q.val % 64, by omega⟩ : Fin 64) = ⟨q.val, h⟩ := Fin.ext (by show q.val % 64 = q.val; omega)
    rw [a, b, Nat.mul_zero]
  · next h =>
    rw [acc_all _ _ _ (256 * (i 2).val + 256) (by omega) (by omega), readCov_plane (a := 256) (b := 64) _ _ 1 _ _ rfl rfl rfl, View.writes_append, View.writes_append]
    refine (el 1 r ⟨q.val - 64, by omega⟩).trans ?_
    have a : (⟨q.val / 64, by omega⟩ : Fin 2) = 1 := Fin.ext (by show q.val / 64 = 1; omega)
    have b : (⟨q.val % 64, by omega⟩ : Fin 64) = ⟨q.val - 64, by omega⟩ := Fin.ext (by show q.val % 64 = q.val - 64; omega)
    rw [a, b, Nat.mul_zero]
end

end Cert.KernelIdeal.AttnDiag

end
-- ==== Proof.AttnSpec.lean ====
/- The attention as one function of its argument arrays. -/
module

public import proofs.«01_k».proof.Proof.AttnMath
public import Idealize.ShloMosaic.Lib.Pointwise

@[expose] public section

noncomputable section

namespace Cert.AttnSpec

open Idealize.ShloMosaic Cert.AttnMath

/-- The arrays: queries and values by head, sequence row and dimension; keys by head, block of 256 rows, dimension and row. -/
abbrev SQ : Shape := ⟨3, ![16, 16384, 64]⟩
abbrev SK : Shape := ⟨4, ![16, 64, 64, 256]⟩
abbrev SB : Shape := ⟨1, ![16]⟩

/-- The logit of the query at position `p` of sequence `b` for the key at position `t`, in head `h`. -/
def lgE (q : SQ.Idx → EReal) (k : SK.Idx → EReal) (β : SB.Idx → EReal) (b : Fin 8) (h : Fin 16) (p t : Fin 2048) : EReal :=
  (∑ d : Fin 64, q (ix3 h ⟨b.val * 2048 + p.val, by omega⟩ d) * k (ix4 h ⟨b.val * 8 + t.val / 256, by omega⟩ d ⟨t.val % 256, by omega⟩)) + β (ix1 h)

/-- The same logits as real numbers, at every position. -/
def zR (q : SQ.Idx → EReal) (k : SK.Idx → EReal) (β : SB.Idx → EReal) (b : Fin 8) (h : Fin 16) (p : Fin 2048) (t : ℕ) : ℝ :=
  (lgE q k β b h p ⟨t % 2048, by omega⟩).toReal

/-- Every logit is a real number. -/
def RealLg (q : SQ.Idx → EReal) (k : SK.Idx → EReal) (β : SB.Idx → EReal) : Prop :=
  ∀ b h p t, lgE q k β b h p t = ((lgE q k β b h p t).toReal : EReal)

theorem zR_coe (q : SQ.Idx → EReal) (k : SK.Idx → EReal) (β : SB.Idx → EReal) (H : RealLg q k β) (b : Fin 8) (h : Fin 16) (p t : Fin 2048) : (zR q k β b h p t.val : EReal) = lgE q k β b h p t := by
  have e : (⟨t.val % 2048, by omega⟩ : Fin 2048) = t := Fin.ext (Nat.mod_eq_of_lt t.isLt)
  unfold zR
  rw [e, ← H]

/-- The values of head `h` of sequence `b`, in dimension `d`, by position. -/
def vN (v : SQ.Idx → EReal) (b : Fin 8) (h : Fin 16) (d : Fin 64) (t : ℕ) : EReal := v (ix3 h ⟨(b.val * 2048 + t) % 16384, by omega⟩ d)

/-- The result at row `R` and column `C`: over the keys before the query, the sum of the stick-breaking weights times the values. -/
def layer (q : SQ.Idx → EReal) (k : SK.Idx → EReal) (v : SQ.Idx → EReal) (β : SB.Idx → EReal) (R : Fin 16384) (C : Fin 1024) : EReal :=
  ∑ t : Fin 2048, (wt (zR q k β ⟨R.val / 2048, by omega⟩ ⟨C.val / 64, by omega⟩ ⟨R.val % 2048, by omega⟩) (R.val % 2048) t.val : EReal)
    * vN v ⟨R.val / 2048, by omega⟩ ⟨C.val / 64, by omega⟩ ⟨C.val % 64, by omega⟩ t.val

/-- Finite arrays give real logits. -/
theorem real_of_finite (q : SQ.Idx → EReal) (k : SK.Idx → EReal) (β : SB.Idx → EReal) (hq : ∀ y, ∃ x : ℝ, q y = (x : EReal)) (hk : ∀ y, ∃ x : ℝ, k y = (x : EReal)) (hβ : ∀ y, ∃ x : ℝ, β y = (x : EReal)) : RealLg q k β := by
  intro b h p t
  have : ∃ x : ℝ, lgE q k β b h p t = (x : EReal) := by
    choose fq hq using hq
    choose fk hk using hk
    choose fb hβ using hβ
    unfold lgE
    simp only [hq, hk, hβ]
    simp only [← EReal.coe_mul]
    rw [← coe_sum, ← EReal.coe_add]
    exact ⟨_, rfl⟩
  obtain ⟨x, hx⟩ := this
  rw [hx, EReal.toReal_coe]

end Cert.AttnSpec

end
-- ==== Proof.AttnRun.lean ====
/- The attention kernel's result array after its run. -/
module

public import proofs.«01_k».proof.Proof.AttnDiag
public import proofs.«01_k».proof.Proof.AttnSpec
public import Idealize.ShloMosaic.Lib.Claim
public import Idealize.ShloMosaic.Lib.Pipeline.ValueKit

@[expose] public section

set_option maxRecDepth 16384

noncomputable section

namespace Cert.KernelIdeal.RefValue

open Cert.KernelIdeal Cert.KernelIdeal.Gen Cert.KernelIdeal.AttnTrip Idealize.ShloMosaic Idealize.ShloMosaic.TcCoe Idealize.SL.Sem Cert.AttnMath Cert.AttnSpec
open Idealize.ShloMosaic.Pipeline (Dat)

variable (m : (ℓ : Loc nD τ sig) → Buf (Elt Ideal) ℓ) (ρ : Dev nD → PrngReg)

/-- The attention over device `c`'s argument arrays. -/
abbrev G (c : Dev nD) : Buf (Elt Ideal) ((c : Thread nD τ).loc main_v4) := fun i : S16384x1024.Idx =>
  layer (m ((c : Thread nD τ).loc main_arg0)) (m ((c : Thread nD τ).loc main_arg1)) (m ((c : Thread nD τ).loc main_arg2))
    (m ((c : Thread nD τ).loc main_arg3)) (i 0) (i 1)

/-- The logits of device `c`'s arrays are real numbers. -/
abbrev RealAt (c : Dev nD) : Prop :=
  AttnSpec.RealLg (m ((c : Thread nD τ).loc main_arg0)) (m ((c : Thread nD τ).loc main_arg1)) (m ((c : Thread nD τ).loc main_arg3))

/-- The grid point's coordinates: sequence, head pair, block of queries. -/
abbrev cb (t : Fin cfg0.N) : Fin 8 := grid0.coords t 0
abbrev cg (t : Fin cfg0.N) : Fin 8 := grid0.coords t 1
abbrev ci (t : Fin cfg0.N) : Fin 8 := grid0.coords t 2

/-- Where each window's block lies at a grid point. -/
theorem idx_facts : ∀ t : Fin grid0.N, win0_0.index t = ![0]
    ∧ win0_1.index t = ![(grid0.coords t 1).val, (grid0.coords t 0).val * 8 + (grid0.coords t 2).val, 0]
    ∧ win0_2.index t = ![(grid0.coords t 1).val, (grid0.coords t 0).val, 0, 0]
    ∧ win0_3.index t = ![(grid0.coords t 1).val, (grid0.coords t 0).val, 0]
    ∧ win0_4.index t = ![0, 0]
    ∧ win0_5.index t = ![(grid0.coords t 0).val * 8 + (grid0.coords t 2).val, (grid0.coords t 1).val] := by
  decide +kernel

theorem iblk0 (c : Dev nD) (t : Fin cfg0.N) (h : Fin 16) :
    iblk m c 0 t (ix1 h) = m ((c : Thread nD τ).loc main_arg3) (ix1 h) := by
  have hi := (idx_facts t).1
  unfold iblk
  entry_read
  pointwise
  blk_ext [hi]

theorem iblk1 (c : Dev nD) (t : Fin cfg0.N) (h : Fin 2) (r : Fin 256) (d : Fin 64) :
    iblk m c 1 t (ix3 h r d) = m ((c : Thread nD τ).loc main_arg0)
      (ix3 ⟨(cg t).val * 2 + h.val, by omega⟩ ⟨(cb t).val * 2048 + (256 * (ci t).val + r.val), by omega⟩ d) := by
  have hi := (idx_facts t).2.1
  unfold iblk
  entry_read
  pointwise
  blk_ext [hi]
  show ((cb t).val * 8 + (ci t).val) * 256 + r.val = (cb t).val * 2048 + (256 * (ci t).val + r.val)
  omega

theorem iblk2 (c : Dev nD) (t : Fin cfg0.N) (h : Fin 2) (j : Fin 8) (d : Fin 64) (s : Fin 256) :
    iblk m c 2 t (ix4 h j d s) = m ((c : Thread nD τ).loc main_arg1)
      (ix4 ⟨(cg t).val * 2 + h.val, by omega⟩ ⟨(cb t).val * 8 + j.val, by omega⟩ d s) := by
  have hi := (idx_facts t).2.2.1
  unfold iblk
  entry_read
  pointwise
  blk_ext [hi]

theorem iblk3 (c : Dev nD) (t : Fin cfg0.N) (h : Fin 2) (s : Fin 2048) (d : Fin 64) :
    iblk m c 3 t (ix3 h s d) = m ((c : Thread nD τ).loc main_arg2)
      (ix3 ⟨(cg t).val * 2 + h.val, by omega⟩ ⟨(cb t).val * 2048 + s.val, by omega⟩ d) := by
  have hi := (idx_facts t).2.2.2.1
  unfold iblk
  entry_read
  pointwise
  blk_ext [hi]

theorem iblk4 (c : Dev nD) (t : Fin cfg0.N) (u s : Fin 256) :
    iblk m c 4 t (ix2 u s) = if s.val ≤ u.val then (1 : EReal) else 0 := by
  have hi := (idx_facts t).2.2.2.2.1
  unfold iblk
  entry_read
  pointwise
  blk_simp [hi]
  have e : (win0_4.blk t).view.emb (ix2 u s) = ix2 u s := by blk_ext [hi]
  rw [e]
  show ((IntOp.cmpi .sge (BitVec.ofNat 32 u.val) (BitVec.ofNat 32 s.val)).toNat : EReal) = _
  rw [sge_nat _ _ (by omega) (by omega)]
  split <;> simp

/-- After the run, on devices whose logits are real numbers, the result array is the attention. -/
theorem final (c : Dev nD) (H : RealAt m c) : (dats m 0 c).arrAt 5 cfg0.N = G m c := by
  refine (dats m 0 c).arrAt_eq_of_covers 5 _ (by decide +kernel) fun t hf y => ?_
  blk_simp
  rw [after0_5]
  have hi := (idx_facts t).2.2.2.2.2
  idx_vars y
  have hg : (cg t).val < 8 := (cg t).isLt
  have hb : (cb t).val < 8 := (cb t).isLt
  have hq : (ci t).val < 8 := (ci t).isLt
  have e0 : (((cfg0.win 5).blk t).view.emb (ix2 y0 y1) 0).val = ((cb t).val * 8 + (ci t).val) * 256 + y0.val := by blk_simp [hi]
  have e1 : (((cfg0.win 5).blk t).view.emb (ix2 y0 y1) 1).val = (cg t).val * 128 + y1.val := by blk_simp [hi]
  have eq : ((cfg0.win 5).blk t).view.emb (ix2 y0 y1)
      = ix2 ⟨((cb t).val * 8 + (ci t).val) * 256 + y0.val, by omega⟩ ⟨(cg t).val * 128 + y1.val, by omega⟩ := by
    funext a
    match a with
    | ⟨0, _⟩ => exact Fin.ext e0
    | ⟨1, _⟩ => exact Fin.ext e1
  refine Eq.trans ?_ (congrArg (G m c) eq).symm
  refine (AttnDiag.out_apply c (grid0.coords t) _ _ _ _ _ _ _ _ _ _ _ _ _ _ _ _ _ _ _ _ _ (iblk4 m c t)
    (fun h r => zR (m ((c : Thread nD τ).loc main_arg0)) (m ((c : Thread nD τ).loc main_arg1)) (m ((c : Thread nD τ).loc main_arg3))
      (cb t) ⟨(cg t).val * 2 + h.val, by omega⟩ ⟨256 * (ci t).val + r.val, by omega⟩)
    (fun h d => vN (m ((c : Thread nD τ).loc main_arg2)) (cb t) ⟨(cg t).val * 2 + h.val, by omega⟩ d) ?_ ?_ y0 y1).trans ?_
  · intro h r j s
    have hj : 256 * j.val + s.val < 2048 := by omega
    refine Eq.trans ?_ (zR_coe _ _ _ H (cb t) _ _ ⟨256 * j.val + s.val, hj⟩).symm
    unfold Lg lgE
    simp only [iblk0, iblk1, iblk2]
    have a : (⟨(cb t).val * 8 + (256 * j.val + s.val) / 256, by omega⟩ : Fin 64) = ⟨(cb t).val * 8 + j.val, by omega⟩ :=
      Fin.ext (by show (cb t).val * 8 + (256 * j.val + s.val) / 256 = (cb t).val * 8 + j.val; omega)
    have b : (⟨(256 * j.val + s.val) % 256, by omega⟩ : Fin 256) = s :=
      Fin.ext (by show (256 * j.val + s.val) % 256 = s.val; omega)
    rw [a, b]
  · intro h d s
    rw [iblk3]
    unfold vN
    exact congrArg (fun x => m ((c : Thread nD τ).loc main_arg2) (ix3 _ x d))
      (Fin.ext (by show (cb t).val * 2048 + s.val = ((cb t).val * 2048 + s.val) % 16384; omega))
  · unfold G layer
    dsimp only
    have a : (⟨(((cb t).val * 8 + (ci t).val) * 256 + y0.val) / 2048, by omega⟩ : Fin 8) = cb t := Fin.ext (by
      show (((cb t).val * 8 + (ci t).val) * 256 + y0.val) / 2048 = (cb t).val; omega)
    have b : (((cb t).val * 8 + (ci t).val) * 256 + y0.val) % 2048 = 256 * (ci t).val + y0.val := by omega
    have d : (⟨((cg t).val * 128 + y1.val) / 64, by omega⟩ : Fin 16) = ⟨(cg t).val * 2 + y1.val / 64, by omega⟩ := Fin.ext (by
      show ((cg t).val * 128 + y1.val) / 64 = (cg t).val * 2 + y1.val / 64; omega)
    have e : (⟨((cg t).val * 128 + y1.val) % 64, by omega⟩ : Fin 64) = ⟨y1.val % 64, by omega⟩ := Fin.ext (by
      show ((cg t).val * 128 + y1.val) % 64 = y1.val % 64; omega)
    have b' : (⟨(((cb t).val * 8 + (ci t).val) * 256 + y0.val) % 2048, by omega⟩ : Fin 2048) = ⟨256 * (ci t).val + y0.val, by omega⟩ := Fin.ext b
    show _ = ∑ s : Fin 2048, (wt (zR _ _ _ (⟨(((cb t).val * 8 + (ci t).val) * 256 + y0.val) / 2048, by omega⟩ : Fin 8)
      (⟨((cg t).val * 128 + y1.val) / 64, by omega⟩ : Fin 16) (⟨(((cb t).val * 8 + (ci t).val) * 256 + y0.val) % 2048, by omega⟩ : Fin 2048))
      ((((cb t).val * 8 + (ci t).val) * 256 + y0.val) % 2048) s.val : EReal)
        * vN _ (⟨(((cb t).val * 8 + (ci t).val) * 256 + y0.val) / 2048, by omega⟩ : Fin 8)
      (⟨((cg t).val * 128 + y1.val) / 64, by omega⟩ : Fin 16) (⟨((cg t).val * 128 + y1.val) % 64, by omega⟩ : Fin 64) s.val
    rw [a, b', d, e, b]

/-- The kernel's run, from logits that are real numbers: the result array is the attention, the arguments are as launched. -/
theorem run (H : ∀ c, RealAt m c) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c (H c)), (h c).2⟩) (Value.run_blocks m ρ)

end Cert.KernelIdeal.RefValue

end
-- ==== Proof.AttnRef.lean ====
/- The attention reference's result, read as the attention of its argument arrays. -/
module

public import proofs.«01_k».proof.Proof.AttnSpec
public import proofs.«01_k».proof.Proof.Gen.ReferenceIdeal.Read
public import Idealize.ShloMosaic.Lib.Claim

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem Cert.AttnMath Cert.AttnSpec
open scoped BigOperators

/-- A left fold of additions is the starting value and the sum. -/
theorem foldl_sum {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

/-- The window's indices are the positions along its last axis. -/
def lastAxis : (⟨4, ![1, 1, 1, 2048]⟩ : Shape).Idx ≃ Fin 2048 where
  toFun w := w 3
  invFun n := ix4 0 0 0 n
  left_inv w := by
    idx_vars w
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv n := rfl

/-- The running sum from a position to the end of the last axis. -/
theorem window_apply (x : S16x8x2048x2048.Idx → EReal) (v : EReal) (hv : v = 0)
    (h : S16x8x2048x2048.ReduceWindows ![1, 1, 1, 2048] ![1, 1, 1, 1] ![0, 0, 0, 0] ![0, 0, 0, 2047] S16x8x2048x2048)
    (a : Fin 16) (b : Fin 8) (p t : Fin 2048) :
    Ideal.hostReduceWindowAdd ![1, 1, 1, 2048] ![1, 1, 1, 1] ![0, 0, 0, 0] ![0, 0, 0, 2047] h x v (ix4 a b p t)
      = ∑ n : Fin 2048, if hn : t.val + n.val < 2048 then x (ix4 a b p ⟨t.val + n.val, hn⟩) else 0 := by
  subst hv
  unfold Ideal.hostReduceWindowAdd Host.reduceWindow
  dsimp only
  rw [foldl_sum, zero_add, ← Fin.sum_univ_def,
    ← Equiv.sum_comp ((⟨4, ![1, 1, 1, 2048]⟩ : Shape).rowMajor), ← Equiv.sum_comp lastAxis.symm]
  refine Finset.sum_congr rfl fun n _ => ?_
  simp only [Equiv.symm_apply_apply]
  by_cases hn : t.val + n.val < 2048
  · rw [dif_pos hn, dif_pos]
    · refine congrArg x (funext fun d => ?_)
      match d with
      | ⟨0, _⟩ => exact Fin.ext (show a.val * 1 + 0 - 0 = a.val by omega)
      | ⟨1, _⟩ => exact Fin.ext (show b.val * 1 + 0 - 0 = b.val by omega)
      | ⟨2, _⟩ => exact Fin.ext (show p.val * 1 + 0 - 0 = p.val by omega)
      | ⟨3, _⟩ => exact Fin.ext (show t.val * 1 + n.val - 0 = t.val + n.val by omega)
    · intro d
      match d with
      | ⟨0, _⟩ => exact ⟨Nat.zero_le _, show a.val * 1 + 0 - 0 < 16 by omega⟩
      | ⟨1, _⟩ => exact ⟨Nat.zero_le _, show b.val * 1 + 0 - 0 < 8 by omega⟩
      | ⟨2, _⟩ => exact ⟨Nat.zero_le _, show p.val * 1 + 0 - 0 < 2048 by omega⟩
      | ⟨3, _⟩ => exact ⟨Nat.zero_le _, show t.val * 1 + n.val - 0 < 2048 by omega⟩
  · rw [dif_neg hn, dif_neg]
    intro hd
    have h3 : t.val * 1 + n.val - 0 < 2048 := (hd 3).2
    omega

variable (x0 : (⟨S16x16384x64, .bf16⟩ : BufTy).Contents (Elt Ideal)) (x1 : (⟨S16x64x64x256, .bf16⟩ : BufTy).Contents (Elt Ideal))
  (x2 : (⟨S16x16384x64, .bf16⟩ : BufTy).Contents (Elt Ideal)) (x3 : (⟨S16, .f32⟩ : BufTy).Contents (Elt Ideal))

/-- The reference's logits. -/
theorem v10_apply (h : Fin 16) (b : Fin 8) (p t : Fin 2048) : val_main_v10 (F := Ideal) x0 x1 x3 (ix4 h b p t) = lgE x0 x1 x3 b h p t := by
  rw [val_main_v10_apply, val_main_v7_apply, val_main_v9_apply, val_main_v8_apply]
  unfold lgE
  refine congrArg₂ (· + ·) (Finset.sum_congr rfl fun d _ => ?_) ?_
  · rw [val_main_v1_apply, val_main_v6_apply, val_main_v5_apply]
    refine congrArg₂ (· * ·) (congrArg x0 ?_) (congrArg x1 ?_)
    · funext a
      match a with
      | ⟨0, _⟩ => exact Fin.ext (show (((h.val * 8 + b.val) * 2048 + p.val) * 64 + d.val) / 1048576 = h.val by omega)
      | ⟨1, _⟩ => exact Fin.ext (show (((h.val * 8 + b.val) * 2048 + p.val) * 64 + d.val) / 64 % 16384 = b.val * 2048 + p.val by omega)
      | ⟨2, _⟩ => exact Fin.ext (show (((h.val * 8 + b.val) * 2048 + p.val) * 64 + d.val) % 64 = d.val by omega)
    · funext a
      match a with
      | ⟨0, _⟩ => exact Fin.ext (show (((h.val * 8 + b.val) * 2048 + t.val) * 64 + d.val) / 1048576 = h.val by omega)
      | ⟨1, _⟩ => exact Fin.ext (show (((h.val * 8 + b.val) * 2048 + t.val) * 64 + d.val) / 16384 % 64 = b.val * 8 + t.val / 256 by omega)
      | ⟨2, _⟩ => exact Fin.ext (show (((h.val * 8 + b.val) * 2048 + t.val) * 64 + d.val) % 64 = d.val by omega)
      | ⟨3, _⟩ => exact Fin.ext (show (((h.val * 8 + b.val) * 2048 + t.val) * 64 + d.val) / 64 % 256 = t.val % 256 by omega)
  · refine congrArg x3 ?_
    funext a
    match a with
    | ⟨0, _⟩ => rfl

/-- The reference's mask: the key's position is before the query's. -/
theorem mask_apply (p t : Fin 2048) : val_main_v16 (F := Ideal) (ix2 p t) = if t.val < p.val then 1#1 else 0#1 :=
  slt_nat t.val p.val (by omega) (by omega)

theorem c0_apply (i : S16x8x2048x2048.Idx) : val_main_call0_v1 (F := Ideal) x0 x1 x3 i = softE (val_main_v10 (F := Ideal) x0 x1 x3 i) := by
  idx_vars i
  unfold val_main_call0_v1 val_main_call0_call0_v4 val_main_call0_call0_v6 val_main_call0_call0_v11 val_main_call0_call0_v10 val_main_call0_call0_v9
    val_main_call0_call0_v8 val_main_call0_call0_v7 val_main_call0_call0_v5 val_main_call0_call0_v3 val_main_call0_call0_v2 val_main_call0_call0_v1
    val_main_call0_call0_v0 val_main_call0_call0_cst val_main_call0_v0 val_main_v18
  generalize val_main_v10 (F := Ideal) x0 x1 x3 = y
  pointwise
  rw [if_neg (fun h => h rfl), neg_neg]
  rfl
theorem c3_apply (i : S16x8x2048x2048.Idx) : val_main_call3_v1 (F := Ideal) x0 x1 x3 i = softE (-(val_main_v10 (F := Ideal) x0 x1 x3 i : EReal)) := by
  idx_vars i
  unfold val_main_call3_v1 val_main_call3_call0_v4 val_main_call3_call0_v6 val_main_call3_call0_v11 val_main_call3_call0_v10 val_main_call3_call0_v9
    val_main_call3_call0_v8 val_main_call3_call0_v7 val_main_call3_call0_v5 val_main_call3_call0_v3 val_main_call3_call0_v2 val_main_call3_call0_v1
    val_main_call3_call0_v0 val_main_call3_call0_cst val_main_call3_v0
  generalize val_main_v10 (F := Ideal) x0 x1 x3 = y
  pointwise
  rw [if_neg (fun h => h rfl)]
  rfl

section
variable (H : RealLg x0 x1 x3)
include H

theorem v20_apply (h : Fin 16) (b : Fin 8) (p t : Fin 2048) : val_main_v20 (F := Ideal) x0 x1 x3 (ix4 h b p t)
    = ((if t.val < p.val then -(sp (zR x0 x1 x3 b h p t.val)) else 0 : ℝ) : EReal) := by
  unfold val_main_v20 val_main_call1_v1 val_main_call1_v2 val_main_call1_v0 val_main_cst val_main_v17 val_main_v19
  pointwise
  rw [c0_apply, v10_apply, ← zR_coe _ _ _ H, softE_coe, mask_apply]
  split <;> simp [Scalar.select, constant, Ideal.ofBits_zero_f32]

theorem v21_apply (h : Fin 16) (b : Fin 8) (p t : Fin 2048) : val_main_v21 (F := Ideal) x0 x1 x3 (ix4 h b p t)
    = ((∑ n : Fin 2048, if t.val + n.val < 2048 then (if t.val + n.val < p.val then -(sp (zR x0 x1 x3 b h p (t.val + n.val))) else 0) else 0 : ℝ) : EReal) := by
  have hx := v20_apply x0 x1 x3 H h b p
  have hv : (val_main_call2_v0 (F := Ideal) (Shape.Idx.first h_S_) : EReal) = 0 := Ideal.ofBits_zero_f32
  unfold val_main_v21 Host.reduceWindowAdd
  generalize val_main_v20 (F := Ideal) x0 x1 x3 = X at hx ⊢
  generalize val_main_call2_v0 (F := Ideal) (Shape.Idx.first h_S_) = v at hv ⊢
  refine (window_apply X v hv _ h b p t).trans ?_
  rw [coe_sum]
  refine Finset.sum_congr rfl fun n _ => ?_
  by_cases hn : t.val + n.val < 2048
  · rw [dif_pos hn, if_pos hn, hx]
  · rw [dif_neg hn, if_neg hn, EReal.coe_zero]

/-- The reference's weights. -/
theorem v26_apply (h : Fin 16) (b : Fin 8) (p t : Fin 2048) : val_main_v26 (F := Ideal) x0 x1 x3 (ix4 h b p t)
    = (wt (zR x0 x1 x3 b h p) p.val t.val : EReal) := by
  unfold val_main_v26 val_main_call4_v1 val_main_call4_v2 val_main_call4_v0 val_main_cst_0 val_main_v17 val_main_v25 val_main_v24 val_main_v23 val_main_v22
  pointwise
  rw [c3_apply, v10_apply, ← zR_coe _ _ _ H, ← EReal.coe_neg, softE_coe, mask_apply, v20_apply x0 x1 x3 H, v21_apply x0 x1 x3 H]
  unfold wt
  by_cases ht : t.val < p.val
  · rw [if_pos ht, if_pos ht, if_pos ht, ← EReal.coe_neg, ← EReal.coe_sub, ← EReal.coe_add, between_eq _ _ _ ht (by omega), exp_coe]
    rfl
  · rw [if_neg ht, if_neg ht, if_neg ht]
    simp [Scalar.select, constant, Ideal.ofBits_zero_f32]

/-- The reference's result is the attention. -/
theorem v30_apply : val_main_v30 (F := Ideal) x0 x1 x2 x3 = fun i : S16384x1024.Idx => layer x0 x1 x2 x3 (i 0) (i 1) := by
  funext i
  idx_vars i
  rw [val_main_v30_apply, val_main_v29_apply, val_main_v28_apply]
  show val_main_v27 (F := Ideal) x0 x1 x2 x3 _ = layer x0 x1 x2 x3 i0 i1
  rw [val_main_v27_apply]
  unfold layer
  refine Finset.sum_congr rfl fun t _ => ?_
  rw [mul_comm]
  refine congrArg₂ (· * ·) ?_ ?_
  · refine Eq.trans (congrArg (val_main_v26 (F := Ideal) x0 x1 x3) ?_) (v26_apply x0 x1 x3 H ⟨i1.val / 64, by omega⟩ ⟨i0.val / 2048, by omega⟩
      ⟨i0.val % 2048, by omega⟩ t)
    funext a
    match a with
    | ⟨0, _⟩ => exact Fin.ext (show (i0.val * 1024 + i1.val) / 64 % 16 = i1.val / 64 by omega)
    | ⟨1, _⟩ => exact Fin.ext (show (i0.val * 1024 + i1.val) / 2097152 = i0.val / 2048 by omega)
    | ⟨2, _⟩ => exact Fin.ext (show (i0.val * 1024 + i1.val) / 1024 % 2048 = i0.val % 2048 by omega)
    | ⟨3, _⟩ => rfl
  · rw [val_main_v3_apply]
    unfold vN
    have ha : (i0.val * 1024 + i1.val) / 64 % 16 = i1.val / 64 := by omega
    have hb : (i0.val * 1024 + i1.val) / 2097152 = i0.val / 2048 := by omega
    have hc : (i0.val * 1024 + i1.val) % 64 = i1.val % 64 := by omega
    refine congrArg x2 (funext fun a => ?_)
    match a with
    | ⟨0, _⟩ => exact Fin.ext (show ((((i0.val * 1024 + i1.val) / 64 % 16 * 8 + (i0.val * 1024 + i1.val) / 2097152) * 2048 + t.val) * 64 + (i0.val * 1024 + i1.val) % 64) / 1048576 = i1.val / 64 by rw [ha, hb, hc]; omega)
    | ⟨1, _⟩ => exact Fin.ext (show ((((i0.val * 1024 + i1.val) / 64 % 16 * 8 + (i0.val * 1024 + i1.val) / 2097152) * 2048 + t.val) * 64 + (i0.val * 1024 + i1.val) % 64) / 64 % 16384 = (i0.val / 2048 * 2048 + t.val) % 16384 by rw [ha, hb, hc]; omega)
    | ⟨2, _⟩ => exact Fin.ext (show ((((i0.val * 1024 + i1.val) / 64 % 16 * 8 + (i0.val * 1024 + i1.val) / 2097152) * 2048 + t.val) * 64 + (i0.val * 1024 + i1.val) % 64) % 64 = i1.val % 64 by rw [ha, hb, hc]; omega)

end
end Cert.ReferenceIdeal.RefValue

end
-- ==== Proof.AttnPre.lean ====
/- The attention's precondition: its queries, keys and biases are finite, so every logit is a real number. -/
module

public import proofs.«01_k».proof.Pre_finite
public import proofs.«01_k».proof.Proof.AttnSpec
public import Idealize.ShloMosaic.Lib.ReduceAll
public import Idealize.ShloMosaic.Lib.IdealHost

@[expose] public section

set_option maxRecDepth 16384

noncomputable section

namespace Cert.Pre_finite

open Idealize.ShloMosaic Cert.AttnSpec

/-- The side conditions of the precondition's operations. -/
theorem facts : Facts where
  bitsLt_bf16_f32 := by decide
  bcast_S_S16x16384x64 := by decide
  reducesTo_S16x16384x64_S_d0_1_2 := by decide
  h_S_ := by decide
  bcast_S_S16x64x64x256 := by decide
  reducesTo_S16x64x64x256_S_d0_1_2_3 := by decide
  bcast_S_S16 := by decide
  reducesTo_S16_S_d0 := by decide

instance : Subsingleton S_.Idx := ⟨fun a b => funext fun i => i.elim0⟩

/-- A number whose absolute value is below the infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | top => simp [Ideal.cmp] at h
  | coe r => exact ⟨r, rfl⟩

theorem and_one (a b : BitVec 1) (h : a &&& b = 1#1) : a = 1#1 ∧ b = 1#1 := by
  revert a b; decide

variable [hF : Facts]

/-- Where the precondition holds, every logit is a real number. -/
theorem real_of_pre (x0 : FVec Ideal S16x16384x64 .bf16) (x1 : FVec Ideal S16x64x64x256 .bf16) (x2 : FVec Ideal S16x16384x64 .bf16)
    (x3 : FVec Ideal S16 .f32) (h : fn (F := Ideal) x0 x1 x2 x3 = fun _ => 1#1) : RealLg x0 x1 x3 := by
  have h0 := congrFun h (fun i => i.elim0)
  unfold fn at h0
  dsimp only at h0
  obtain ⟨hab, hc⟩ := and_one _ _ h0
  obtain ⟨ha, hb⟩ := and_one _ _ hab
  refine real_of_finite _ _ _ (fun y => real_of_lt _ ?_) (fun y => real_of_lt _ ?_) (fun y => real_of_lt _ ?_)
  · exact Host.reduce_andi_all _ _ _ _ _ ha y
  · exact Host.reduce_andi_all _ _ _ _ _ hb y
  · exact Host.reduce_andi_all _ _ _ _ _ hc y

end Cert.Pre_finite

end
-- ==== Proof.ProjSpec.lean ====
/- A normalised row's product with a weight matrix over the extended reals. -/
module

public import proofs.«01_k».proof.Proof.FfnSpec

@[expose] public section

noncomputable section

namespace Cert.ProjSpec

open Idealize.ShloMosaic Cert.FfnSpec
open scoped BigOperators

/-- Row `r` normalised and scaled by the gain, times column `n` of the weights. -/
def lin {N : ℕ} (x : (⟨2, ![16384, 1024]⟩ : Shape).Idx → EReal) (g : (⟨1, ![1024]⟩ : Shape).Idx → EReal)
    (w : (⟨2, ![1024, N]⟩ : Shape).Idx → EReal) (r : Fin 16384) (n : Fin N) : EReal :=
  ∑ e : Fin 1024, rms (fun a => x (ix2 r a)) (fun a => g (ix1 a)) e * w (ix2 e n)

/-- The same over a block of 512 rows, the gain as one row. -/
def blin {N : ℕ} (x : (⟨2, ![512, 1024]⟩ : Shape).Idx → EReal) (g : (⟨2, ![1, 1024]⟩ : Shape).Idx → EReal)
    (w : (⟨2, ![1024, N]⟩ : Shape).Idx → EReal) (r : Fin 512) (n : Fin N) : EReal :=
  ∑ e : Fin 1024, rms (fun a => x (ix2 r a)) (fun a => g (ix2 0 a)) e * w (ix2 e n)

/-- The queries' scale, one over the root of the head's 64 columns. -/
abbrev eighth : EReal := Ideal.ofBits .f32 0x3E000000#32

end Cert.ProjSpec

end
-- ==== Proof.SbProjRun.lean ====
/- The projection to queries, keys and values: the kernel's blocks and launch, and the reference. -/
module

public import proofs.«01_k».proof.Proof.Gen.Kernel3Ideal.Frame
public import Idealize.ShloMosaic.Lib.Pipeline.Value
public import proofs.«01_k».proof.Proof.Gen.Reference3Ideal.Read
public import proofs.«01_k».proof.Proof.ProjSpec
public import Idealize.ShloMosaic.Lib.Claim
public import Idealize.ShloMosaic.Lib.Pipeline.ValueKit

@[expose] public section

set_option maxRecDepth 16384

noncomputable section

namespace Cert.ProjSpec

open Idealize.ShloMosaic

variable (x : (⟨2, ![16384, 1024]⟩ : Shape).Idx → EReal) (g : (⟨1, ![1024]⟩ : Shape).Idx → EReal) (w : (⟨2, ![1024, 3072]⟩ : Shape).Idx → EReal)

/-- Query column `d` of head `h` at token row `r`, scaled. -/
def sbQ (h : Fin 16) (r : Fin 16384) (d : Fin 64) : EReal := lin x g w r ⟨h.val * 64 + d.val, by omega⟩ * eighth

/-- Key column `d` of head `h` at token row `r`. -/
def sbK (h : Fin 16) (r : Fin 16384) (d : Fin 64) : EReal := lin x g w r ⟨1024 + (h.val * 64 + d.val), by omega⟩

/-- Value column `d` of head `h` at token row `r`. -/
def sbV (h : Fin 16) (r : Fin 16384) (d : Fin 64) : EReal := lin x g w r ⟨2048 + (h.val * 64 + d.val), by omega⟩

end Cert.ProjSpec

/-! ## The kernel -/

namespace Cert.Kernel3Ideal.RefValue

open Cert.Kernel3Ideal Cert.Kernel3Ideal.Gen Idealize.ShloMosaic Idealize.ShloMosaic.TcCoe Idealize.SL.Sem Cert.FfnSpec Cert.ProjSpec
open Idealize.ShloMosaic.Pipeline (Dat)
open scoped BigOperators

/-- The normalised rows at an index. -/
theorem pay3_apply (v0 : Vec Ideal S512x1024 .f32) (v1 : Vec Ideal S1x1024 .f32) (p : Fin 512) (e : Fin 1024) :
    k0_pay3 (F := Ideal) v0 v1 (ix2 p e) = rms (fun a => v0 (ix2 p a)) (fun a => v1 (ix2 0 a)) e := by
  unfold k0_pay3
  pointwise [rms]

/-- The scaled query columns at an index. -/
theorem pay4_apply (v0 : Vec Ideal S512x1024 .f32) (v1 : Vec Ideal S1x1024 .f32) (w : Vec Ideal S1024x1024 .bf16) (p : Fin 512) (n : Fin 1024) :
    k0_pay4 (F := Ideal) v0 v1 w (ix2 p n) = blin v0 v1 w p n * eighth := by
  unfold k0_pay4
  have hp := pay3_apply v0 v1 p
  generalize k0_pay3 (F := Ideal) v0 v1 = y at hp ⊢
  pointwise [blin]
  simp only [hp]

/-- The value columns at an index. -/
theorem pay5_apply (v0 : Vec Ideal S512x1024 .f32) (v1 : Vec Ideal S1x1024 .f32) (w : Vec Ideal S1024x1024 .bf16) (p : Fin 512) (n : Fin 1024) :
    k0_pay5 (F := Ideal) v0 v1 w (ix2 p n) = blin v0 v1 w p n := by
  unfold k0_pay5
  have hp := pay3_apply v0 v1 p
  generalize k0_pay3 (F := Ideal) v0 v1 = y at hp ⊢
  pointwise [blin]
  simp only [hp]

/-- The key columns at an index, transposed. -/
theorem pay6_apply (v0 : Vec Ideal S512x1024 .f32) (v1 : Vec Ideal S1x1024 .f32) (w : Vec Ideal S1024x1024 .bf16) (p : Fin 512) (n : Fin 1024) :
    k0_pay6 (F := Ideal) v0 v1 w (ix2 n p) = blin v0 v1 w p n := by
  unfold k0_pay6
  have hp := pay3_apply v0 v1 p
  generalize k0_pay3 (F := Ideal) v0 v1 = y at hp ⊢
  pointwise [blin]
  simp only [hp]

/-- The columns of a row table read by head: head, row, column of the head. -/
def byHead (q : FVec Ideal S512x1024 .f32) : S16x512x64.Idx → EReal := fun y =>
  q (ix2 (y 1) ⟨(y 0).val * 64 + (y 2).val, by have : (y 0).val < 16 := (y 0).isLt; have : (y 2).val < 64 := (y 2).isLt; omega⟩)

/-- The rows of a transposed table read by head and tile: head, tile, column of the head, row inside the tile. -/
def byTile (k : FVec Ideal S1024x512 .f32) : S16x2x64x256.Idx → EReal := fun y =>
  k (ix2 ⟨(y 0).val * 64 + (y 2).val, by have : (y 0).val < 16 := (y 0).isLt; have : (y 2).val < 64 := (y 2).isLt; omega⟩
    ⟨(y 1).val * 256 + (y 3).val, by have : (y 1).val < 2 := (y 1).isLt; have : (y 3).val < 256 := (y 3).isLt; omega⟩)

/-- One head's slice of a row table is `byHead` at that head. -/
theorem head_piece (q : FVec Ideal S512x1024 .f32) (n o : ℕ) (ho : o = n * 64) (hs : S512x1024.Slices ![0, o] S512x64)
    (hin : ∀ a, (![n, 0, 0] : Fin 3 → Nat) a + S1x512x64.size a ≤ S16x512x64.size a) (x : S1x512x64.Idx) :
    shapeCast S1x512x64 (truncf (F := Ideal) .bf16 (extractStridedSlice S512x64 ![0, o] q hs) bitsLt_bf16_f32) shapeCasts_S512x64_S1x512x64 x
      = byHead q ((Rect.unit (s := S16x512x64) ![n, 0, 0] S1x512x64.size hin).emb x) := by
  subst ho
  idx_vars x
  refine (shapeCast_apply _ shapeCasts_S512x64_S1x512x64 (ix3 x0 x1 x2) (ix2 x1 x2) ?_).trans ?_
  · rw [Shape.rowMajor_val_two, Shape.rowMajor_val_three]
    show x1.val * 64 + x2.val = (x0.val * 512 + x1.val) * 64 + x2.val
    have := x0.isLt
    omega
  · have hx : x0.val = 0 := by omega
    refine congrArg q (funext fun a => ?_)
    match a with
    | ⟨0, _⟩ => exact Fin.ext (show 0 + x1.val = 0 + 1 * x1.val by omega)
    | ⟨1, _⟩ => exact Fin.ext (show n * 64 + x2.val = (n + 1 * x0.val) * 64 + (0 + 1 * x2.val) by rw [hx]; omega)

/-- One head's and tile's slice of a transposed table is `byTile` at that head and tile. -/
theorem tile_piece (k : FVec Ideal S1024x512 .f32) (n j o u : ℕ) (ho : o = n * 64) (hu : u = j * 256)
    (hs : S1024x512.Slices ![o, u] S64x256)
    (hin : ∀ a, (![n, j, 0, 0] : Fin 4 → Nat) a + S1x1x64x256.size a ≤ S16x2x64x256.size a) (x : S1x1x64x256.Idx) :
    shapeCast S1x1x64x256 (truncf (F := Ideal) .bf16 (extractStridedSlice S64x256 ![o, u] k hs) bitsLt_bf16_f32) shapeCasts_S64x256_S1x1x64x256 x
      = byTile k ((Rect.unit (s := S16x2x64x256) ![n, j, 0, 0] S1x1x64x256.size hin).emb x) := by
  subst ho hu
  idx_vars x
  refine (shapeCast_apply _ shapeCasts_S64x256_S1x1x64x256 (ix4 x0 x1 x2 x3) (ix2 x2 x3) ?_).trans ?_
  · rw [Shape.rowMajor_val_two, Shape.rowMajor_val_four]
    show x2.val * 256 + x3.val = ((x0.val * 1 + x1.val) * 64 + x2.val) * 256 + x3.val
    have := x0.isLt
    have := x1.isLt
    omega
  · have hx : x0.val = 0 := by omega
    have hy : x1.val = 0 := by omega
    refine congrArg k (funext fun a => ?_)
    match a with
    | ⟨0, _⟩ => exact Fin.ext (show n * 64 + x2.val = (n + 1 * x0.val) * 64 + (0 + 1 * x2.val) by rw [hx]; omega)
    | ⟨1, _⟩ => exact Fin.ext (show j * 256 + x3.val = (j + 1 * x1.val) * 256 + (0 + 1 * x3.val) by rw [hy]; omega)

/-- The queries' pieces lay the row table out by head. -/
theorem canon5 (q : FVec Ideal S512x1024 .f32) (y) : View.canon (Val := Elt Ideal) (e := .bf16) [⟨r0_51, k0_pay78 (F := Ideal) q⟩,
    ⟨r0_48, k0_pay74 (F := Ideal) (k0_pay73 q)⟩,
    ⟨r0_45, k0_pay69 (F := Ideal) q⟩,
    ⟨r0_42, k0_pay64 (F := Ideal) q⟩,
    ⟨r0_39, k0_pay60 (F := Ideal) q⟩,
    ⟨r0_36, k0_pay55 (F := Ideal) q⟩,
    ⟨r0_33, k0_pay50 (F := Ideal) q⟩,
    ⟨r0_30, k0_pay46 (F := Ideal) q⟩,
    ⟨r0_27, k0_pay41 (F := Ideal) q⟩,
    ⟨r0_24, k0_pay37 (F := Ideal) (k0_pay36 q)⟩,
    ⟨r0_21, k0_pay32 (F := Ideal) q⟩,
    ⟨r0_18, k0_pay27 (F := Ideal) q⟩,
    ⟨r0_15, k0_pay23 (F := Ideal) (k0_pay22 q)⟩,
    ⟨r0_12, k0_pay18 (F := Ideal) q⟩,
    ⟨r0_9, k0_pay14 (F := Ideal) q⟩,
    ⟨r0_6, k0_pay10 (F := Ideal) q⟩] y = byHead q y := by
  refine View.canon_apply_of_pieces (Val := Elt Ideal) (e := .bf16) (byHead q) _ ?_ y (cover0_5 _ _ _ _ _ _ _ _ _ _ _ _ _ _ _ _ y)
  intro pc hpc
  rcases List.mem_cons.mp hpc with rfl | hpc
  · exact fun x => head_piece q 15 960 rfl slices_S512x1024_o0_960_S512x64 inb_S16x512x64_S1x512x64_15_0_0 x
  rcases List.mem_cons.mp hpc with rfl | hpc
  · exact fun x => head_piece q 14 896 rfl slices_S512x1024_o0_896_S512x64 inb_S16x512x64_S1x512x64_14_0_0 x
  rcases List.mem_cons.mp hpc with rfl | hpc
  · exact fun x => head_piece q 13 832 rfl slices_S512x1024_o0_832_S512x64 inb_S16x512x64_S1x512x64_13_0_0 x
  rcases List.mem_cons.mp hpc with rfl | hpc
  · exact fun x => head_piece q 12 768 rfl slices_S512x1024_o0_768_S512x64 inb_S16x512x64_S1x512x64_12_0_0 x
  rcases List.mem_cons.mp hpc with rfl | hpc
  · exact fun x => head_piece q 11 704 rfl slices_S512x1024_o0_704_S512x64 inb_S16x512x64_S1x512x64_11_0_0 x
  rcases List.mem_cons.mp hpc with rfl | hpc
  · exact fun x => head_piece q 10 640 rfl slices_S512x1024_o0_640_S512x64 inb_S16x512x64_S1x512x64_10_0_0 x
  rcases List.mem_cons.mp hpc with rfl | hpc
  · exact fun x => head_piece q 9 576 rfl slices_S512x1024_o0_576_S512x64 inb_S16x512x64_S1x512x64_9_0_0 x
  rcases List.mem_cons.mp hpc with rfl | hpc
  · exact fun x => head_piece q 8 512 rfl slices_S512x1024_o0_512_S512x64 inb_S16x512x64_S1x512x64_8_0_0 x
  rcases List.mem_cons.mp hpc with rfl | hpc
  · exact fun x => head_piece q 7 448 rfl slices_S512x1024_o0_448_S512x64 inb_S16x512x64_S1x512x64_7_0_0 x
  rcases List.mem_cons.mp hpc with rfl | hpc
  · exact fun x => head_piece q 6 384 rfl slices_S512x1024_o0_384_S512x64 inb_S16x512x64_S1x512x64_6_0_0 x
  rcases List.mem_cons.mp hpc with rfl | hpc
  · exact fun x => head_piece q 5 320 rfl slices_S512x1024_o0_320_S512x64 inb_S16x512x64_S1x512x64_5_0_0 x
  rcases List.mem_cons.mp hpc with rfl | hpc
  · exact fun x => head_piece q 4 256 rfl slices_S512x1024_o0_256_S512x64 inb_S16x512x64_S1x512x64_4_0_0 x
  rcases List.mem_cons.mp hpc with rfl | hpc
  · exact fun x => head_piece q 3 192 rfl slices_S512x1024_o0_192_S512x64 inb_S16x512x64_S1x512x64_3_0_0 x
  rcases List.mem_cons.mp hpc with rfl | hpc
  · exact fun x => head_piece q 2 128 rfl slices_S512x1024_o0_128_S512x64 inb_S16x512x64_S1x512x64_2_0_0 x
  rcases List.mem_cons.mp hpc with rfl | hpc
  · exact fun x => head_piece q 1 64 rfl slices_S512x1024_o0_64_S512x64 inb_S16x512x64_S1x512x64_1_0_0 x
  rcases List.mem_singleton.mp hpc with rfl
  · exact fun x => head_piece q 0 0 rfl slices_S512x1024_o0_0_S512x64 inb_S16x512x64_S1x512x64_0_0_0 x

/-- The key tiles' pieces lay the transposed table out by head and tile. -/
theorem canon6 (k : FVec Ideal S1024x512 .f32) (y) : View.canon (Val := Elt Ideal) (e := .bf16) [⟨r0_53, k0_pay2 (F := Ideal) k⟩,
    ⟨r0_52, k0_pay1 (F := Ideal) (k0_pay80 k)⟩,
    ⟨r0_50, k0_pay77 (F := Ideal) k⟩,
    ⟨r0_49, k0_pay76 (F := Ideal) k⟩,
    ⟨r0_47, k0_pay72 (F := Ideal) k⟩,
    ⟨r0_46, k0_pay71 (F := Ideal) k⟩,
    ⟨r0_44, k0_pay68 (F := Ideal) k⟩,
    ⟨r0_43, k0_pay67 (F := Ideal) (k0_pay66 k)⟩,
    ⟨r0_41, k0_pay63 (F := Ideal) k⟩,
    ⟨r0_40, k0_pay62 (F := Ideal) k⟩,
    ⟨r0_38, k0_pay59 (F := Ideal) (k0_pay58 k)⟩,
    ⟨r0_37, k0_pay57 (F := Ideal) k⟩,
    ⟨r0_35, k0_pay54 (F := Ideal) k⟩,
    ⟨r0_34, k0_pay53 (F := Ideal) k⟩,
    ⟨r0_32, k0_pay49 (F := Ideal) k⟩,
    ⟨r0_31, k0_pay48 (F := Ideal) k⟩,
    ⟨r0_29, k0_pay45 (F := Ideal) (k0_pay44 k)⟩,
    ⟨r0_28, k0_pay43 (F := Ideal) k⟩,
    ⟨r0_26, k0_pay40 (F := Ideal) k⟩,
    ⟨r0_25, k0_pay39 (F := Ideal) k⟩,
    ⟨r0_23, k0_pay35 (F := Ideal) k⟩,
    ⟨r0_22, k0_pay34 (F := Ideal) k⟩,
    ⟨r0_20, k0_pay31 (F := Ideal) k⟩,
    ⟨r0_19, k0_pay30 (F := Ideal) (k0_pay29 k)⟩,
    ⟨r0_17, k0_pay26 (F := Ideal) k⟩,
    ⟨r0_16, k0_pay25 (F := Ideal) k⟩,
    ⟨r0_14, k0_pay21 (F := Ideal) k⟩,
    ⟨r0_13, k0_pay20 (F := Ideal) k⟩,
    ⟨r0_11, k0_pay17 (F := Ideal) k⟩,
    ⟨r0_10, k0_pay16 (F := Ideal) k⟩,
    ⟨r0_8, k0_pay13 (F := Ideal) k⟩,
    ⟨r0_7, k0_pay12 (F := Ideal) k⟩] y = byTile k y := by
  refine View.canon_apply_of_pieces (Val := Elt Ideal) (e := .bf16) (byTile k) _ ?_ y (cover0_6 _ _ _ _ _ _ _ _ _ _ _ _ _ _ _ _ _ _ _ _ _ _ _ _ _ _ _ _ _ _ _ _ y)
  intro pc hpc
  rcases List.mem_cons.mp hpc with rfl | hpc
  · exact fun x => tile_piece k 15 1 960 256 rfl rfl slices_S1024x512_o960_256_S64x256 inb_S16x2x64x256_S1x1x64x256_15_1_0_0 x
  rcases List.mem_cons.mp hpc with rfl | hpc
  · exact fun x => tile_piece k 15 0 960 0 rfl rfl slices_S1024x512_o960_0_S64x256 inb_S16x2x64x256_S1x1x64x256_15_0_0_0 x
  rcases List.mem_cons.mp hpc with rfl | hpc
  · exact fun x => tile_piece k 14 1 896 256 rfl rfl slices_S1024x512_o896_256_S64x256 inb_S16x2x64x256_S1x1x64x256_14_1_0_0 x
  rcases List.mem_cons.mp hpc with rfl | hpc
  · exact fun x => tile_piece k 14 0 896 0 rfl rfl slices_S1024x512_o896_0_S64x256 inb_S16x2x64x256_S1x1x64x256_14_0_0_0 x
  rcases List.mem_cons.mp hpc with rfl | hpc
  · exact fun x => tile_piece k 13 1 832 256 rfl rfl slices_S1024x512_o832_256_S64x256 inb_S16x2x64x256_S1x1x64x256_13_1_0_0 x
  rcases List.mem_cons.mp hpc with rfl | hpc
  · exact fun x => tile_piece k 13 0 832 0 rfl rfl slices_S1024x512_o832_0_S64x256 inb_S16x2x64x256_S1x1x64x256_13_0_0_0 x
  rcases List.mem_cons.mp hpc with rfl | hpc
  · exact fun x => tile_piece k 12 1 768 256 rfl rfl slices_S1024x512_o768_256_S64x256 inb_S16x2x64x256_S1x1x64x256_12_1_0_0 x
  rcases List.mem_cons.mp hpc with rfl | hpc
  · exact fun x => tile_piece k 12 0 768 0 rfl rfl slices_S1024x512_o768_0_S64x256 inb_S16x2x64x256_S1x1x64x256_12_0_0_0 x
  rcases List.mem_cons.mp hpc with rfl | hpc
  · exact fun x => tile_piece k 11 1 704 256 rfl rfl slices_S1024x512_o704_256_S64x256 inb_S16x2x64x256_S1x1x64x256_11_1_0_0 x
  rcases List.mem_cons.mp hpc with rfl | hpc
  · exact fun x => tile_piece k 11 0 704 0 rfl rfl slices_S1024x512_o704_0_S64x256 inb_S16x2x64x256_S1x1x64x256_11_0_0_0 x
  rcases List.mem_cons.mp hpc with rfl | hpc
  · exact fun x => tile_piece k 10 1 640 256 rfl rfl slices_S1024x512_o640_256_S64x256 inb_S16x2x64x256_S1x1x64x256_10_1_0_0 x
  rcases List.mem_cons.mp hpc with rfl | hpc
  · exact fun x => tile_piece k 10 0 640 0 rfl rfl slices_S1024x512_o640_0_S64x256 inb_S16x2x64x256_S1x1x64x256_10_0_0_0 x
  rcases List.mem_cons.mp hpc with rfl | hpc
  · exact fun x => tile_piece k 9 1 576 256 rfl rfl slices_S1024x512_o576_256_S64x256 inb_S16x2x64x256_S1x1x64x256_9_1_0_0 x
  rcases List.mem_cons.mp hpc with rfl | hpc
  · exact fun x => tile_piece k 9 0 576 0 rfl rfl slices_S1024x512_o576_0_S64x256 inb_S16x2x64x256_S1x1x64x256_9_0_0_0 x
  rcases List.mem_cons.mp hpc with rfl | hpc
  · exact fun x => tile_piece k 8 1 512 256 rfl rfl slices_S1024x512_o512_256_S64x256 inb_S16x2x64x256_S1x1x64x256_8_1_0_0 x
  rcases List.mem_cons.mp hpc with rfl | hpc
  · exact fun x => tile_piece k 8 0 512 0 rfl rfl slices_S1024x512_o512_0_S64x256 inb_S16x2x64x256_S1x1x64x256_8_0_0_0 x
  rcases List.mem_cons.mp hpc with rfl | hpc
  · exact fun x => tile_piece k 7 1 448 256 rfl rfl slices_S1024x512_o448_256_S64x256 inb_S16x2x64x256_S1x1x64x256_7_1_0_0 x
  rcases List.mem_cons.mp hpc with rfl | hpc
  · exact fun x => tile_piece k 7 0 448 0 rfl rfl slices_S1024x512_o448_0_S64x256 inb_S16x2x64x256_S1x1x64x256_7_0_0_0 x
  rcases List.mem_cons.mp hpc with rfl | hpc
  · exact fun x => tile_piece k 6 1 384 256 rfl rfl slices_S1024x512_o384_256_S64x256 inb_S16x2x64x256_S1x1x64x256_6_1_0_0 x
  rcases List.mem_cons.mp hpc with rfl | hpc
  · exact fun x => tile_piece k 6 0 384 0 rfl rfl slices_S1024x512_o384_0_S64x256 inb_S16x2x64x256_S1x1x64x256_6_0_0_0 x
  rcases List.mem_cons.mp hpc with rfl | hpc
  · exact fun x => tile_piece k 5 1 320 256 rfl rfl slices_S1024x512_o320_256_S64x256 inb_S16x2x64x256_S1x1x64x256_5_1_0_0 x
  rcases List.mem_cons.mp hpc with rfl | hpc
  · exact fun x => tile_piece k 5 0 320 0 rfl rfl slices_S1024x512_o320_0_S64x256 inb_S16x2x64x256_S1x1x64x256_5_0_0_0 x
  rcases List.mem_cons.mp hpc with rfl | hpc
  · exact fun x => tile_piece k 4 1 256 256 rfl rfl slices_S1024x512_o256_256_S64x256 inb_S16x2x64x256_S1x1x64x256_4_1_0_0 x
  rcases List.mem_cons.mp hpc with rfl | hpc
  · exact fun x => tile_piece k 4 0 256 0 rfl rfl slices_S1024x512_o256_0_S64x256 inb_S16x2x64x256_S1x1x64x256_4_0_0_0 x
  rcases List.mem_cons.mp hpc with rfl | hpc
  · exact fun x => tile_piece k 3 1 192 256 rfl rfl slices_S1024x512_o192_256_S64x256 inb_S16x2x64x256_S1x1x64x256_3_1_0_0 x
  rcases List.mem_cons.mp hpc with rfl | hpc
  · exact fun x => tile_piece k 3 0 192 0 rfl rfl slices_S1024x512_o192_0_S64x256 inb_S16x2x64x256_S1x1x64x256_3_0_0_0 x
  rcases List.mem_cons.mp hpc with rfl | hpc
  · exact fun x => tile_piece k 2 1 128 256 rfl rfl slices_S1024x512_o128_256_S64x256 inb_S16x2x64x256_S1x1x64x256_2_1_0_0 x
  rcases List.mem_cons.mp hpc with rfl | hpc
  · exact fun x => tile_piece k 2 0 128 0 rfl rfl slices_S1024x512_o128_0_S64x256 inb_S16x2x64x256_S1x1x64x256_2_0_0_0 x
  rcases List.mem_cons.mp hpc with rfl | hpc
  · exact fun x => tile_piece k 1 1 64 256 rfl rfl slices_S1024x512_o64_256_S64x256 inb_S16x2x64x256_S1x1x64x256_1_1_0_0 x
  rcases List.mem_cons.mp hpc with rfl | hpc
  · exact fun x => tile_piece k 1 0 64 0 rfl rfl slices_S1024x512_o64_0_S64x256 inb_S16x2x64x256_S1x1x64x256_1_0_0_0 x
  rcases List.mem_cons.mp hpc with rfl | hpc
  · exact fun x => tile_piece k 0 1 0 256 rfl rfl slices_S1024x512_o0_256_S64x256 inb_S16x2x64x256_S1x1x64x256_0_1_0_0 x
  rcases List.mem_singleton.mp hpc with rfl
  · exact fun x => tile_piece k 0 0 0 0 rfl rfl slices_S1024x512_o0_0_S64x256 inb_S16x2x64x256_S1x1x64x256_0_0_0_0 x

/-- The values' pieces lay the row table out by head. -/
theorem canon7 (q : FVec Ideal S512x1024 .f32) (y) : View.canon (Val := Elt Ideal) (e := .bf16) [⟨r0_51, k0_pay79 (F := Ideal) q⟩,
    ⟨r0_48, k0_pay75 (F := Ideal) q⟩,
    ⟨r0_45, k0_pay70 (F := Ideal) q⟩,
    ⟨r0_42, k0_pay65 (F := Ideal) q⟩,
    ⟨r0_39, k0_pay61 (F := Ideal) q⟩,
    ⟨r0_36, k0_pay56 (F := Ideal) q⟩,
    ⟨r0_33, k0_pay52 (F := Ideal) (k0_pay51 q)⟩,
    ⟨r0_30, k0_pay47 (F := Ideal) q⟩,
    ⟨r0_27, k0_pay42 (F := Ideal) q⟩,
    ⟨r0_24, k0_pay38 (F := Ideal) q⟩,
    ⟨r0_21, k0_pay33 (F := Ideal) q⟩,
    ⟨r0_18, k0_pay28 (F := Ideal) q⟩,
    ⟨r0_15, k0_pay24 (F := Ideal) q⟩,
    ⟨r0_12, k0_pay19 (F := Ideal) q⟩,
    ⟨r0_9, k0_pay15 (F := Ideal) q⟩,
    ⟨r0_6, k0_pay11 (F := Ideal) q⟩] y = byHead q y := by
  refine View.canon_apply_of_pieces (Val := Elt Ideal) (e := .bf16) (byHead q) _ ?_ y (cover0_7 _ _ _ _ _ _ _ _ _ _ _ _ _ _ _ _ y)
  intro pc hpc
  rcases List.mem_cons.mp hpc with rfl | hpc
  · exact fun x => head_piece q 15 960 rfl slices_S512x1024_o0_960_S512x64 inb_S16x512x64_S1x512x64_15_0_0 x
  rcases List.mem_cons.mp hpc with rfl | hpc
  · exact fun x => head_piece q 14 896 rfl slices_S512x1024_o0_896_S512x64 inb_S16x512x64_S1x512x64_14_0_0 x
  rcases List.mem_cons.mp hpc with rfl | hpc
  · exact fun x => head_piece q 13 832 rfl slices_S512x1024_o0_832_S512x64 inb_S16x512x64_S1x512x64_13_0_0 x
  rcases List.mem_cons.mp hpc with rfl | hpc
  · exact fun x => head_piece q 12 768 rfl slices_S512x1024_o0_768_S512x64 inb_S16x512x64_S1x512x64_12_0_0 x
  rcases List.mem_cons.mp hpc with rfl | hpc
  · exact fun x => head_piece q 11 704 rfl slices_S512x1024_o0_704_S512x64 inb_S16x512x64_S1x512x64_11_0_0 x
  rcases List.mem_cons.mp hpc with rfl | hpc
  · exact fun x => head_piece q 10 640 rfl slices_S512x1024_o0_640_S512x64 inb_S16x512x64_S1x512x64_10_0_0 x
  rcases List.mem_cons.mp hpc with rfl | hpc
  · exact fun x => head_piece q 9 576 rfl slices_S512x1024_o0_576_S512x64 inb_S16x512x64_S1x512x64_9_0_0 x
  rcases List.mem_cons.mp hpc with rfl | hpc
  · exact fun x => head_piece q 8 512 rfl slices_S512x1024_o0_512_S512x64 inb_S16x512x64_S1x512x64_8_0_0 x
  rcases List.mem_cons.mp hpc with rfl | hpc
  · exact fun x => head_piece q 7 448 rfl slices_S512x1024_o0_448_S512x64 inb_S16x512x64_S1x512x64_7_0_0 x
  rcases List.mem_cons.mp hpc with rfl | hpc
  · exact fun x => head_piece q 6 384 rfl slices_S512x1024_o0_384_S512x64 inb_S16x512x64_S1x512x64_6_0_0 x
  rcases List.mem_cons.mp hpc with rfl | hpc
  · exact fun x => head_piece q 5 320 rfl slices_S512x1024_o0_320_S512x64 inb_S16x512x64_S1x512x64_5_0_0 x
  rcases List.mem_cons.mp hpc with rfl | hpc
  · exact fun x => head_piece q 4 256 rfl slices_S512x1024_o0_256_S512x64 inb_S16x512x64_S1x512x64_4_0_0 x
  rcases List.mem_cons.mp hpc with rfl | hpc
  · exact fun x => head_piece q 3 192 rfl slices_S512x1024_o0_192_S512x64 inb_S16x512x64_S1x512x64_3_0_0 x
  rcases List.mem_cons.mp hpc with rfl | hpc
  · exact fun x => head_piece q 2 128 rfl slices_S512x1024_o0_128_S512x64 inb_S16x512x64_S1x512x64_2_0_0 x
  rcases List.mem_cons.mp hpc with rfl | hpc
  · exact fun x => head_piece q 1 64 rfl slices_S512x1024_o0_64_S512x64 inb_S16x512x64_S1x512x64_1_0_0 x
  rcases List.mem_singleton.mp hpc with rfl
  · exact fun x => head_piece q 0 0 rfl slices_S512x1024_o0_0_S512x64 inb_S16x512x64_S1x512x64_0_0_0 x

variable (x0 : Vec Ideal S512x1024 .f32) (x1 : Vec Ideal S1x1024 .f32) (x2 : Vec Ideal S1024x3072 .bf16)

/-- A product with the first third of the weights. -/
theorem blin_q (p : Fin 512) (n : Fin 1024) : blin (View.ld x0 r0_0) (View.ld x1 r0_1) (View.ld x2 r0_2) p n = blin x0 x1 x2 p ⟨n.val, by omega⟩ := by
  unfold blin
  pointwise [r0_0, r0_1, r0_2]

/-- A product with the second third of the weights. -/
theorem blin_k (p : Fin 512) (n : Fin 1024) : blin (View.ld x0 r0_0) (View.ld x1 r0_1) (View.ld x2 r0_3) p n = blin x0 x1 x2 p ⟨1024 + n.val, by omega⟩ := by
  unfold blin
  pointwise [r0_0, r0_1, r0_3]

/-- A product with the last third of the weights. -/
theorem blin_v (p : Fin 512) (n : Fin 1024) : blin (View.ld x0 r0_0) (View.ld x1 r0_1) (View.ld x2 r0_4) p n = blin x0 x1 x2 p ⟨2048 + n.val, by omega⟩ := by
  unfold blin
  pointwise [r0_0, r0_1, r0_4]

/-- The cached keys' block. -/
theorem out3_apply (b : Fin 1) (h : Fin 16) (d : Fin 64) (p : Fin 512) :
    out0_3 (F := Ideal) x0 x1 x2 (ix4 b h d p) = blin x0 x1 x2 p ⟨1024 + (h.val * 64 + d.val), by omega⟩ := by
  have e : out0_3 (F := Ideal) x0 x1 x2 = k0_pay7 (F := Ideal) (View.ld x0 r0_0) (View.ld x1 r0_1) (View.ld x2 r0_3) := by
    unfold out0_3
    exact View.canon_unit_zero (by funext a; fin_cases a <;> rfl) _ _
  rw [e]
  unfold k0_pay7
  refine (shapeCast_apply _ shapeCasts_S16x64x512_S1x16x64x512 (ix4 b h d p) (ix3 h d p) ?_).trans
    ((shapeCast_apply _ shapeCasts_S1024x512_S16x64x512 (ix3 h d p) (ix2 ⟨h.val * 64 + d.val, by omega⟩ p) ?_).trans ?_)
  · rw [Shape.rowMajor_val_three, Shape.rowMajor_val_four]
    show (h.val * 64 + d.val) * 512 + p.val = ((b.val * 16 + h.val) * 64 + d.val) * 512 + p.val
    omega
  · rw [Shape.rowMajor_val_two, Shape.rowMajor_val_three]
    rfl
  · rw [pay6_apply, blin_k]

/-- The cached values' block. -/
theorem out4_apply (b : Fin 1) (h : Fin 16) (d : Fin 64) (p : Fin 512) :
    out0_4 (F := Ideal) x0 x1 x2 (ix4 b h d p) = blin x0 x1 x2 p ⟨2048 + (h.val * 64 + d.val), by omega⟩ := by
  have e : out0_4 (F := Ideal) x0 x1 x2 = k0_pay9 (F := Ideal) (k0_pay8 (View.ld x0 r0_0) (View.ld x1 r0_1) (View.ld x2 r0_4)) := by
    unfold out0_4
    exact View.canon_unit_zero (by funext a; fin_cases a <;> rfl) _ _
  rw [e]
  unfold k0_pay9 k0_pay8
  refine (shapeCast_apply _ shapeCasts_S16x64x512_S1x16x64x512 (ix4 b h d p) (ix3 h d p) ?_).trans
    ((shapeCast_apply _ shapeCasts_S1024x512_S16x64x512 (ix3 h d p) (ix2 ⟨h.val * 64 + d.val, by omega⟩ p) ?_).trans ?_)
  · rw [Shape.rowMajor_val_three, Shape.rowMajor_val_four]
    show (h.val * 64 + d.val) * 512 + p.val = ((b.val * 16 + h.val) * 64 + d.val) * 512 + p.val
    omega
  · rw [Shape.rowMajor_val_two, Shape.rowMajor_val_three]
    rfl
  · have hp := pay5_apply (View.ld x0 r0_0) (View.ld x1 r0_1) (View.ld x2 r0_4) p ⟨h.val * 64 + d.val, by omega⟩
    rw [blin_v] at hp
    generalize k0_pay5 (F := Ideal) (View.ld x0 r0_0) (View.ld x1 r0_1) (View.ld x2 r0_4) = v at hp ⊢
    pointwise
    exact hp

/-- The queries' block. -/
theorem out5_apply (h : Fin 16) (p : Fin 512) (d : Fin 64) :
    out0_5 (F := Ideal) x0 x1 x2 (ix3 h p d) = blin x0 x1 x2 p ⟨h.val * 64 + d.val, by omega⟩ * eighth := by
  unfold out0_5
  have hp := pay4_apply (View.ld x0 r0_0) (View.ld x1 r0_1) (View.ld x2 r0_2) p ⟨h.val * 64 + d.val, by omega⟩
  rw [blin_q] at hp
  unfold k0_pay81
  generalize k0_pay4 (F := Ideal) (View.ld x0 r0_0) (View.ld x1 r0_1) (View.ld x2 r0_2) = q at hp ⊢
  exact (canon5 q (ix3 h p d)).trans hp

/-- The key tiles' block. -/
theorem out6_apply (h : Fin 16) (a : Fin 2) (d : Fin 64) (q : Fin 256) :
    out0_6 (F := Ideal) x0 x1 x2 (ix4 h a d q) = blin x0 x1 x2 ⟨a.val * 256 + q.val, by omega⟩ ⟨1024 + (h.val * 64 + d.val), by omega⟩ := by
  unfold out0_6
  have hp := pay6_apply (View.ld x0 r0_0) (View.ld x1 r0_1) (View.ld x2 r0_3) ⟨a.val * 256 + q.val, by omega⟩ ⟨h.val * 64 + d.val, by omega⟩
  rw [blin_k] at hp
  unfold k0_pay83
  generalize k0_pay6 (F := Ideal) (View.ld x0 r0_0) (View.ld x1 r0_1) (View.ld x2 r0_3) = k at hp ⊢
  exact (canon6 k (ix4 h a d q)).trans hp

/-- The values' block. -/
theorem out7_apply (h : Fin 16) (p : Fin 512) (d : Fin 64) :
    out0_7 (F := Ideal) x0 x1 x2 (ix3 h p d) = blin x0 x1 x2 p ⟨2048 + (h.val * 64 + d.val), by omega⟩ := by
  unfold out0_7
  have hp := pay5_apply (View.ld x0 r0_0) (View.ld x1 r0_1) (View.ld x2 r0_4) p ⟨h.val * 64 + d.val, by omega⟩
  rw [blin_v] at hp
  unfold k0_pay82
  generalize k0_pay5 (F := Ideal) (View.ld x0 r0_0) (View.ld x1 r0_1) (View.ld x2 r0_4) = q at hp ⊢
  exact (canon7 q (ix3 h p d)).trans hp

variable (m : (ℓ : Loc nD τ sig) → Buf (Elt Ideal) ℓ) (ρ : Dev nD → PrngReg)

/-- The cached keys over device `c`'s arguments: sequence, head, column, position. -/
abbrev G3 (c : Dev nD) : Buf (Elt Ideal) ((c : Thread nD τ).loc main_v2_0) := fun i : S8x16x64x2048.Idx =>
  sbK (m ((c : Thread nD τ).loc main_arg0)) (m ((c : Thread nD τ).loc main_arg1)) (m ((c : Thread nD τ).loc main_arg2)) (i 1) ⟨(i 0).val * 2048 + (i 3).val, by have : (i 0).val < 8 := (i 0).isLt; have : (i 3).val < 2048 := (i 3).isLt; omega⟩ (i 2)

/-- The cached values. -/
abbrev G4 (c : Dev nD) : Buf (Elt Ideal) ((c : Thread nD τ).loc main_v2_1) := fun i : S8x16x64x2048.Idx =>
  sbV (m ((c : Thread nD τ).loc main_arg0)) (m ((c : Thread nD τ).loc main_arg1)) (m ((c : Thread nD τ).loc main_arg2)) (i 1) ⟨(i 0).val * 2048 + (i 3).val, by have : (i 0).val < 8 := (i 0).isLt; have : (i 3).val < 2048 := (i 3).isLt; omega⟩ (i 2)

/-- The queries: head, token row, column. -/
abbrev G5 (c : Dev nD) : Buf (Elt Ideal) ((c : Thread nD τ).loc main_v2_2) := fun i : S16x16384x64.Idx => sbQ (m ((c : Thread nD τ).loc main_arg0)) (m ((c : Thread nD τ).loc main_arg1)) (m ((c : Thread nD τ).loc main_arg2)) (i 0) (i 1) (i 2)

/-- The key tiles: head, tile, column, row inside the tile. -/
abbrev G6 (c : Dev nD) : Buf (Elt Ideal) ((c : Thread nD τ).loc main_v2_3) := fun i : S16x64x64x256.Idx =>
  sbK (m ((c : Thread nD τ).loc main_arg0)) (m ((c : Thread nD τ).loc main_arg1)) (m ((c : Thread nD τ).loc main_arg2)) (i 0) ⟨(i 1).val * 256 + (i 3).val, by have : (i 1).val < 64 := (i 1).isLt; have : (i 3).val < 256 := (i 3).isLt; omega⟩ (i 2)

/-- The values: head, token row, column. -/
abbrev G7 (c : Dev nD) : Buf (Elt Ideal) ((c : Thread nD τ).loc main_v2_4) := fun i : S16x16384x64.Idx => sbV (m ((c : Thread nD τ).loc main_arg0)) (m ((c : Thread nD τ).loc main_arg1)) (m ((c : Thread nD τ).loc main_arg2)) (i 0) (i 1) (i 2)

/-- Where each window's block lies at a grid point. -/
theorem idx_facts : ∀ t : Fin grid0.N, win0_0.index t = ![t.val, 0] ∧ win0_1.index t = ![0, 0] ∧ win0_2.index t = ![0, 0]
    ∧ win0_3.index t = ![t.val / 4, 0, 0, t.val % 4] ∧ win0_4.index t = ![t.val / 4, 0, 0, t.val % 4]
    ∧ win0_5.index t = ![0, t.val, 0] ∧ win0_6.index t = ![0, t.val, 0, 0] ∧ win0_7.index t = ![0, t.val, 0] := by
  decide +kernel

/-- Input window 0's block is 512 rows of the residual stream. -/
theorem iblk0 (c : Dev nD) (t : Fin cfg0.N) (p : Fin 512) (e : Fin 1024) :
    iblk m c 0 t (ix2 p e) = m ((c : Thread nD τ).loc main_arg0)
      (ix2 ⟨t.val * 512 + p.val, by have := t.isLt; have : cfg0.N = 32 := N_0; omega⟩ e) := by
  have hi := (idx_facts t).1
  unfold iblk
  entry_read
  pointwise
  blk_ext [hi]

/-- Input window 1's block is the gain as one row. -/
theorem iblk1 (c : Dev nD) (t : Fin cfg0.N) (e : Fin 1024) :
    iblk m c 1 t (ix2 0 e) = m ((c : Thread nD τ).loc main_arg1) (ix1 e) := by
  have hi := (idx_facts t).2.1
  unfold iblk
  entry_read
  blk_simp
  have h1 : ((win0_1.blk t).view.emb (ix2 0 e) 1).val = e.val := by blk_simp [hi]
  have h0 : ((win0_1.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- Input window 2's block is the weights. -/
theorem iblk2 (c : Dev nD) (t : Fin cfg0.N) (a : Fin 1024) (b : Fin 3072) :
    iblk m c 2 t (ix2 a b) = m ((c : Thread nD τ).loc main_arg2) (ix2 a b) := by
  have hi := (idx_facts t).2.2.1
  unfold iblk
  entry_read
  pointwise
  blk_ext [hi]

/-- A block's product is the arrays' product at the block's rows. -/
theorem blin_blk (c : Dev nD) (t : Fin cfg0.N) (p : Fin 512) (n : Fin 3072) :
    blin (iblk m c 0 t) (iblk m c 1 t) (iblk m c 2 t) p n
      = lin (m ((c : Thread nD τ).loc main_arg0)) (m ((c : Thread nD τ).loc main_arg1)) (m ((c : Thread nD τ).loc main_arg2)) ⟨t.val * 512 + p.val, by have := t.isLt; have : cfg0.N = 32 := N_0; omega⟩ n := by
  unfold blin lin
  simp only [iblk0, iblk1, iblk2]

/-- After the run, output window 3's array. -/
theorem final3 (c : Dev nD) : (dats m 0 c).arrAt 3 cfg0.N = G3 m c := by
  refine (dats m 0 c).arrAt_eq_of_covers 3 _ (by decide +kernel) fun t hf y => ?_
  blk_simp
  rw [after0_3]
  have hi := (idx_facts t).2.2.2.1
  have ht : t.val < 32 := t.isLt
  idx_vars y
  have e0 : (((cfg0.win 3).blk t).view.emb (ix4 y0 y1 y2 y3) 0).val = t.val / 4 * 1 + y0.val := by blk_simp [hi]
  have e1 : (((cfg0.win 3).blk t).view.emb (ix4 y0 y1 y2 y3) 1).val = y1.val := by blk_simp [hi]
  have e2 : (((cfg0.win 3).blk t).view.emb (ix4 y0 y1 y2 y3) 2).val = y2.val := by blk_simp [hi]
  have e3 : (((cfg0.win 3).blk t).view.emb (ix4 y0 y1 y2 y3) 3).val = t.val % 4 * 512 + y3.val := by blk_simp [hi]
  rw [out3_apply, blin_blk]
  have eq : ((cfg0.win 3).blk t).view.emb (ix4 y0 y1 y2 y3)
      = ix4 ⟨t.val / 4, by omega⟩ y1 y2 ⟨t.val % 4 * 512 + y3.val, by omega⟩ := by
    funext a
    match a with
    | ⟨0, _⟩ => exact Fin.ext (e0.trans (show t.val / 4 * 1 + y0.val = t.val / 4 by omega))
    | ⟨1, _⟩ => exact Fin.ext e1
    | ⟨2, _⟩ => exact Fin.ext e2
    | ⟨3, _⟩ => exact Fin.ext e3
  refine Eq.trans ?_ (congrArg (G3 m c) eq).symm
  refine congrArg (fun r => lin (m ((c : Thread nD τ).loc main_arg0)) (m ((c : Thread nD τ).loc main_arg1)) (m ((c : Thread nD τ).loc main_arg2)) r ⟨1024 + (y1.val * 64 + y2.val), by omega⟩) (Fin.ext ?_)
  show t.val * 512 + y3.val = t.val / 4 * 2048 + (t.val % 4 * 512 + y3.val)
  omega

/-- After the run, output window 4's array. -/
theorem final4 (c : Dev nD) : (dats m 0 c).arrAt 4 cfg0.N = G4 m c := by
  refine (dats m 0 c).arrAt_eq_of_covers 4 _ (by decide +kernel) fun t hf y => ?_
  blk_simp
  rw [after0_4]
  have hi := (idx_facts t).2.2.2.2.1
  have ht : t.val < 32 := t.isLt
  idx_vars y
  have e0 : (((cfg0.win 4).blk t).view.emb (ix4 y0 y1 y2 y3) 0).val = t.val / 4 * 1 + y0.val := by blk_simp [hi]
  have e1 : (((cfg0.win 4).blk t).view.emb (ix4 y0 y1 y2 y3) 1).val = y1.val := by blk_simp [hi]
  have e2 : (((cfg0.win 4).blk t).view.emb (ix4 y0 y1 y2 y3) 2).val = y2.val := by blk_simp [hi]
  have e3 : (((cfg0.win 4).blk t).view.emb (ix4 y0 y1 y2 y3) 3).val = t.val % 4 * 512 + y3.val := by blk_simp [hi]
  rw [out4_apply, blin_blk]
  have eq : ((cfg0.win 4).blk t).view.emb (ix4 y0 y1 y2 y3)
      = ix4 ⟨t.val / 4, by omega⟩ y1 y2 ⟨t.val % 4 * 512 + y3.val, by omega⟩ := by
    funext a
    match a with
    | ⟨0, _⟩ => exact Fin.ext (e0.trans (show t.val / 4 * 1 + y0.val = t.val / 4 by omega))
    | ⟨1, _⟩ => exact Fin.ext e1
    | ⟨2, _⟩ => exact Fin.ext e2
    | ⟨3, _⟩ => exact Fin.ext e3
  refine Eq.trans ?_ (congrArg (G4 m c) eq).symm
  refine congrArg (fun r => lin (m ((c : Thread nD τ).loc main_arg0)) (m ((c : Thread nD τ).loc main_arg1)) (m ((c : Thread nD τ).loc main_arg2)) r ⟨2048 + (y1.val * 64 + y2.val), by omega⟩) (Fin.ext ?_)
  show t.val * 512 + y3.val = t.val / 4 * 2048 + (t.val % 4 * 512 + y3.val)
  omega

/-- After the run, output window 5's array. -/
theorem final5 (c : Dev nD) : (dats m 0 c).arrAt 5 cfg0.N = G5 m c := by
  refine (dats m 0 c).arrAt_eq_of_covers 5 _ (by decide +kernel) fun t hf y => ?_
  blk_simp
  rw [after0_5]
  have hi := (idx_facts t).2.2.2.2.2.1
  have ht : t.val < 32 := t.isLt
  idx_vars y
  have e0 : (((cfg0.win 5).blk t).view.emb (ix3 y0 y1 y2) 0).val = y0.val := by blk_simp [hi]
  have e1 : (((cfg0.win 5).blk t).view.emb (ix3 y0 y1 y2) 1).val = t.val * 512 + y1.val := by blk_simp [hi]
  have e2 : (((cfg0.win 5).blk t).view.emb (ix3 y0 y1 y2) 2).val = y2.val := by blk_simp [hi]
  rw [out5_apply, blin_blk]
  have eq : ((cfg0.win 5).blk t).view.emb (ix3 y0 y1 y2) = ix3 y0 ⟨t.val * 512 + y1.val, by omega⟩ y2 := by
    funext a
    match a with
    | ⟨0, _⟩ => exact Fin.ext e0
    | ⟨1, _⟩ => exact Fin.ext e1
    | ⟨2, _⟩ => exact Fin.ext e2
  refine Eq.trans ?_ (congrArg (G5 m c) eq).symm
  rfl

/-- After the run, output window 6's array. -/
theorem final6 (c : Dev nD) : (dats m 0 c).arrAt 6 cfg0.N = G6 m c := by
  refine (dats m 0 c).arrAt_eq_of_covers 6 _ (by decide +kernel) fun t hf y => ?_
  blk_simp
  rw [after0_6]
  have hi := (idx_facts t).2.2.2.2.2.2.1
  have ht : t.val < 32 := t.isLt
  idx_vars y
  have e0 : (((cfg0.win 6).blk t).view.emb (ix4 y0 y1 y2 y3) 0).val = y0.val := by blk_simp [hi]
  have e1 : (((cfg0.win 6).blk t).view.emb (ix4 y0 y1 y2 y3) 1).val = t.val * 2 + y1.val := by blk_simp [hi]
  have e2 : (((cfg0.win 6).blk t).view.emb (ix4 y0 y1 y2 y3) 2).val = y2.val := by blk_simp [hi]
  have e3 : (((cfg0.win 6).blk t).view.emb (ix4 y0 y1 y2 y3) 3).val = y3.val := by blk_simp [hi]
  rw [out6_apply, blin_blk]
  have eq : ((cfg0.win 6).blk t).view.emb (ix4 y0 y1 y2 y3) = ix4 y0 ⟨t.val * 2 + y1.val, by omega⟩ y2 y3 := by
    funext a
    match a with
    | ⟨0, _⟩ => exact Fin.ext e0
    | ⟨1, _⟩ => exact Fin.ext e1
    | ⟨2, _⟩ => exact Fin.ext e2
    | ⟨3, _⟩ => exact Fin.ext e3
  refine Eq.trans ?_ (congrArg (G6 m c) eq).symm
  refine congrArg (fun r => lin (m ((c : Thread nD τ).loc main_arg0)) (m ((c : Thread nD τ).loc main_arg1)) (m ((c : Thread nD τ).loc main_arg2)) r ⟨1024 + (y0.val * 64 + y2.val), by omega⟩) (Fin.ext ?_)
  show t.val * 512 + (y1.val * 256 + y3.val) = (t.val * 2 + y1.val) * 256 + y3.val
  omega

/-- After the run, output window 7's array. -/
theorem final7 (c : Dev nD) : (dats m 0 c).arrAt 7 cfg0.N = G7 m c := by
  refine (dats m 0 c).arrAt_eq_of_covers 7 _ (by decide +kernel) fun t hf y => ?_
  blk_simp
  rw [after0_7]
  have hi := (idx_facts t).2.2.2.2.2.2.2
  have ht : t.val < 32 := t.isLt
  idx_vars y
  have e0 : (((cfg0.win 7).blk t).view.emb (ix3 y0 y1 y2) 0).val = y0.val := by blk_simp [hi]
  have e1 : (((cfg0.win 7).blk t).view.emb (ix3 y0 y1 y2) 1).val = t.val * 512 + y1.val := by blk_simp [hi]
  have e2 : (((cfg0.win 7).blk t).view.emb (ix3 y0 y1 y2) 2).val = y2.val := by blk_simp [hi]
  rw [out7_apply, blin_blk]
  have eq : ((cfg0.win 7).blk t).view.emb (ix3 y0 y1 y2) = ix3 y0 ⟨t.val * 512 + y1.val, by omega⟩ y2 := by
    funext a
    match a with
    | ⟨0, _⟩ => exact Fin.ext e0
    | ⟨1, _⟩ => exact Fin.ext e1
    | ⟨2, _⟩ => exact Fin.ext e2
  refine Eq.trans ?_ (congrArg (G7 m c) eq).symm
  rfl

/-- The kernel's run: each result array is its projection, the arguments are as launched. -/
theorem run : θ_run defs (onTc (τ := τ) (main (F := Ideal))) ⟨m, fun _ => 0, ρ⟩ fun r => ∀ c : Dev nD,
      r.2.mem ((c : Thread nD τ).loc main_v2_0) = G3 m c
      ∧ r.2.mem ((c : Thread nD τ).loc main_v2_1) = G4 m c
      ∧ r.2.mem ((c : Thread nD τ).loc main_v2_2) = G5 m c
      ∧ r.2.mem ((c : Thread nD τ).loc main_v2_3) = G6 m c
      ∧ r.2.mem ((c : Thread nD τ).loc main_v2_4) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
    ((h c).1 6).trans (final6 m c), ((h c).1 7).trans (final7 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

end Cert.Kernel3Ideal.RefValue

/-! ## The reference -/

namespace Cert.Reference3Ideal.RefValue

open Cert.Reference3Ideal Cert.Reference3Ideal.Gen Cert.Reference3Ideal.Read Idealize.ShloMosaic Idealize.ShloMosaic.TcCoe Idealize.SL.Sem Cert.FfnSpec Cert.ProjSpec

variable (x0 : (⟨S16384x1024, .f32⟩ : BufTy).Contents (Elt Ideal)) (x1 : (⟨S1024, .f32⟩ : BufTy).Contents (Elt Ideal))
  (x2 : (⟨S1024x3072, .f32⟩ : BufTy).Contents (Elt Ideal))

/-- The reference's normalised row at an index. -/
theorem v12_apply (r : Fin 16384) (e : Fin 1024) :
    val_main_v12 (F := Ideal) x0 x1 (ix2 r e) = rms (fun a => x0 (ix2 r a)) (fun a => x1 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's product with the weights at an index. -/
theorem v13_apply (r : Fin 16384) (n : Fin 3072) : val_main_v13 (F := Ideal) x0 x1 x2 (ix2 r n) = lin x0 x1 x2 r n := by
  unfold val_main_v13
  pointwise
  simp only [v12_apply]
  rfl

/-- The reference's scaled query columns at an index. -/
theorem v18_apply (r : Fin 16384) (h : Fin 16) (d : Fin 64) :
    val_main_v18 (F := Ideal) x0 x1 x2 (ix2 r ⟨h.val * 64 + d.val, by omega⟩) = sbQ x0 x1 x2 h r d := by
  unfold val_main_v18 val_main_v14 val_main_v17 val_main_cst_2
  pointwise
  simp only [v13_apply]
  first | rfl | (unfold sbQ; congr 2)

/-- The reference's key columns at an index. -/
theorem v15_apply (r : Fin 16384) (h : Fin 16) (d : Fin 64) :
    val_main_v15 (F := Ideal) x0 x1 x2 (ix2 r ⟨h.val * 64 + d.val, by omega⟩) = sbK x0 x1 x2 h r d := by
  unfold val_main_v15
  pointwise
  simp only [v13_apply]
  first | rfl | (unfold sbK; congr 2)

/-- The reference's value columns at an index. -/
theorem v16_apply (r : Fin 16384) (h : Fin 16) (d : Fin 64) :
    val_main_v16 (F := Ideal) x0 x1 x2 (ix2 r ⟨h.val * 64 + d.val, by omega⟩) = sbV x0 x1 x2 h r d := by
  unfold val_main_v16
  pointwise
  simp only [v13_apply]
  first | rfl | (unfold sbV; congr 2)

/-- The same by head. -/
theorem v19_apply (r : Fin 16384) (h : Fin 16) (d : Fin 64) : val_main_v19 (F := Ideal) x0 x1 x2 (ix3 r h d) = sbQ x0 x1 x2 h r d := by
  unfold val_main_v19
  refine (shapeCast_apply _ shapeCasts_S16384x1024_S16384x16x64 (ix3 r h d) (ix2 r ⟨h.val * 64 + d.val, by omega⟩) ?_).trans (v18_apply x0 x1 x2 r h d)
  rw [Shape.rowMajor_val_two, Shape.rowMajor_val_three]
  show r.val * 1024 + (h.val * 64 + d.val) = (r.val * 16 + h.val) * 64 + d.val
  omega

/-- The same by head. -/
theorem v20_apply (r : Fin 16384) (h : Fin 16) (d : Fin 64) : val_main_v20 (F := Ideal) x0 x1 x2 (ix3 r h d) = sbK x0 x1 x2 h r d := by
  unfold val_main_v20
  refine (shapeCast_apply _ shapeCasts_S16384x1024_S16384x16x64 (ix3 r h d) (ix2 r ⟨h.val * 64 + d.val, by omega⟩) ?_).trans (v15_apply x0 x1 x2 r h d)
  rw [Shape.rowMajor_val_two, Shape.rowMajor_val_three]
  show r.val * 1024 + (h.val * 64 + d.val) = (r.val * 16 + h.val) * 64 + d.val
  omega

/-- The same by head. -/
theorem v21_apply (r : Fin 16384) (h : Fin 16) (d : Fin 64) : val_main_v21 (F := Ideal) x0 x1 x2 (ix3 r h d) = sbV x0 x1 x2 h r d := by
  unfold val_main_v21
  refine (shapeCast_apply _ shapeCasts_S16384x1024_S16384x16x64 (ix3 r h d) (ix2 r ⟨h.val * 64 + d.val, by omega⟩) ?_).trans (v16_apply x0 x1 x2 r h d)
  rw [Shape.rowMajor_val_two, Shape.rowMajor_val_three]
  show r.val * 1024 + (h.val * 64 + d.val) = (r.val * 16 + h.val) * 64 + d.val
  omega

/-- The keys by tile. -/
theorem v22_apply (j : Fin 64) (q : Fin 256) (h : Fin 16) (d : Fin 64) : val_main_v22 (F := Ideal) x0 x1 x2 (ix4 j q h d) = sbK x0 x1 x2 h ⟨j.val * 256 + q.val, by omega⟩ d := by
  unfold val_main_v22
  refine (shapeCast_apply _ shapeCasts_S16384x16x64_S64x256x16x64 (ix4 j q h d) (ix3 ⟨j.val * 256 + q.val, by omega⟩ h d) ?_).trans (v20_apply x0 x1 x2 _ h d)
  rw [Shape.rowMajor_val_three, Shape.rowMajor_val_four]
  show ((j.val * 256 + q.val) * 16 + h.val) * 64 + d.val = ((j.val * 256 + q.val) * 16 + h.val) * 64 + d.val
  omega

/-- The same by sequence. -/
theorem v24_apply (b : Fin 8) (s : Fin 2048) (h : Fin 16) (d : Fin 64) : val_main_v24 (F := Ideal) x0 x1 x2 (ix4 b s h d) = sbK x0 x1 x2 h ⟨b.val * 2048 + s.val, by omega⟩ d := by
  unfold val_main_v24
  refine (shapeCast_apply _ shapeCasts_S16384x16x64_S8x2048x16x64 (ix4 b s h d) (ix3 ⟨b.val * 2048 + s.val, by omega⟩ h d) ?_).trans (v20_apply x0 x1 x2 _ h d)
  rw [Shape.rowMajor_val_three, Shape.rowMajor_val_four]
  show ((b.val * 2048 + s.val) * 16 + h.val) * 64 + d.val = ((b.val * 2048 + s.val) * 16 + h.val) * 64 + d.val
  omega

/-- The same by sequence. -/
theorem v26_apply (b : Fin 8) (s : Fin 2048) (h : Fin 16) (d : Fin 64) : val_main_v26 (F := Ideal) x0 x1 x2 (ix4 b s h d) = sbV x0 x1 x2 h ⟨b.val * 2048 + s.val, by omega⟩ d := by
  unfold val_main_v26
  refine (shapeCast_apply _ shapeCasts_S16384x16x64_S8x2048x16x64 (ix4 b s h d) (ix3 ⟨b.val * 2048 + s.val, by omega⟩ h d) ?_).trans (v21_apply x0 x1 x2 _ h d)
  rw [Shape.rowMajor_val_three, Shape.rowMajor_val_four]
  show ((b.val * 2048 + s.val) * 16 + h.val) * 64 + d.val = ((b.val * 2048 + s.val) * 16 + h.val) * 64 + d.val
  omega

/-- The reference's result. -/
theorem v25_eq' : val_main_v25 (F := Ideal) x0 x1 x2 = fun i : S8x16x64x2048.Idx => sbK x0 x1 x2 (i 1) ⟨(i 0).val * 2048 + (i 3).val, by have : (i 0).val < 8 := (i 0).isLt; have : (i 3).val < 2048 := (i 3).isLt; omega⟩ (i 2) := by
  funext i
  idx_vars i
  unfold val_main_v25
  pointwise
  exact v24_apply x0 x1 x2 i0 i3 i1 i2

/-- The reference's result. -/
theorem v27_eq' : val_main_v27 (F := Ideal) x0 x1 x2 = fun i : S8x16x64x2048.Idx => sbV x0 x1 x2 (i 1) ⟨(i 0).val * 2048 + (i 3).val, by have : (i 0).val < 8 := (i 0).isLt; have : (i 3).val < 2048 := (i 3).isLt; omega⟩ (i 2) := by
  funext i
  idx_vars i
  unfold val_main_v27
  pointwise
  exact v26_apply x0 x1 x2 i0 i3 i1 i2

/-- The reference's result. -/
theorem v29_eq' : val_main_v29 (F := Ideal) x0 x1 x2 = fun i : S16x16384x64.Idx => sbQ x0 x1 x2 (i 0) (i 1) (i 2) := by
  funext i
  idx_vars i
  unfold val_main_v29 val_main_v28
  pointwise
  exact v19_apply x0 x1 x2 i1 i0 i2

/-- The reference's result. -/
theorem v30_eq' : val_main_v30 (F := Ideal) x0 x1 x2 = fun i : S16x64x64x256.Idx => sbK x0 x1 x2 (i 0) ⟨(i 1).val * 256 + (i 3).val, by have : (i 1).val < 64 := (i 1).isLt; have : (i 3).val < 256 := (i 3).isLt; omega⟩ (i 2) := by
  funext i
  idx_vars i
  unfold val_main_v30 val_main_v23
  pointwise
  exact v22_apply x0 x1 x2 i1 i3 i0 i2

/-- The reference's result. -/
theorem v32_eq' : val_main_v32 (F := Ideal) x0 x1 x2 = fun i : S16x16384x64.Idx => sbV x0 x1 x2 (i 0) (i 1) (i 2) := by
  funext i
  idx_vars i
  unfold val_main_v32 val_main_v31
  pointwise
  exact v21_apply x0 x1 x2 i1 i0 i2

end Cert.Reference3Ideal.RefValue

end
-- ==== Proof.MlProjRun.lean ====
/- The mLSTM projection to queries, keys, values, output gate and gates: the kernel's blocks and launch, and the reference. -/
module

public import proofs.«01_k».proof.Proof.Gen.Kernel4Ideal.Value
public import proofs.«01_k».proof.Proof.Gen.Reference4Ideal.Read
public import proofs.«01_k».proof.Proof.ProjSpec
public import Idealize.ShloMosaic.Lib.Claim
public import Idealize.ShloMosaic.Lib.Pipeline.ValueKit

@[expose] public section

set_option maxRecDepth 16384

noncomputable section

namespace Cert.ProjSpec

open Idealize.ShloMosaic

variable (x : (⟨2, ![16384, 1024]⟩ : Shape).Idx → EReal) (g : (⟨1, ![1024]⟩ : Shape).Idx → EReal) (w : (⟨2, ![1024, 3088]⟩ : Shape).Idx → EReal)

/-- Query column `d` of head `h` at token row `r`, scaled. -/
def mlQ (h : Fin 8) (r : Fin 16384) (d : Fin 64) : EReal := lin x g w r ⟨h.val * 64 + d.val, by omega⟩ * eighth

/-- Key column `d` of head `h` at token row `r`. -/
def mlK (h : Fin 8) (r : Fin 16384) (d : Fin 64) : EReal := lin x g w r ⟨512 + (h.val * 64 + d.val), by omega⟩

/-- Value column `d` of head `h` at token row `r`. -/
def mlV (h : Fin 8) (r : Fin 16384) (d : Fin 128) : EReal := lin x g w r ⟨1024 + (h.val * 128 + d.val), by omega⟩

/-- Output-gate column `n` at token row `r`. -/
def mlO (r : Fin 16384) (n : Fin 1024) : EReal := lin x g w r ⟨2048 + n.val, by omega⟩

/-- Gate column `n` at token row `r`: sixteen columns, then zeros up to 128. -/
def mlG (r : Fin 16384) (n : Fin 128) : EReal := if h : n.val < 16 then lin x g w r ⟨3072 + n.val, by omega⟩ else 0

/-- The integer zero as a float is zero. -/
theorem sitofp_zero : Scalar.sitofp (F := Ideal) .f32 (0#32) = 0 := by
  show (((0#32 : BitVec 32).toInt : ℝ) : EReal) = 0
  simp

end Cert.ProjSpec

/-! ## The kernel -/

namespace Cert.Kernel4Ideal.RefValue

open Cert.Kernel4Ideal Cert.Kernel4Ideal.Gen Idealize.ShloMosaic Idealize.ShloMosaic.TcCoe Idealize.SL.Sem Cert.FfnSpec Cert.ProjSpec
open Idealize.ShloMosaic.Pipeline (Dat)
open scoped BigOperators

/-- The normalised rows at an index. -/
theorem pay2_apply (v0 : Vec Ideal S512x1024 .f32) (v1 : Vec Ideal S1x1024 .f32) (p : Fin 512) (e : Fin 1024) :
    k0_pay2 (F := Ideal) v0 v1 (ix2 p e) = rms (fun a => v0 (ix2 p a)) (fun a => v1 (ix2 0 a)) e := by
  unfold k0_pay2
  pointwise [rms]

/-- The scaled query columns at an index. -/
theorem pay3_apply (v0 : Vec Ideal S512x1024 .f32) (v1 : Vec Ideal S1x1024 .f32) (w : Vec Ideal S1024x512 .bf16) (p : Fin 512) (n : Fin 512) :
    k0_pay3 (F := Ideal) v0 v1 w (ix2 p n) = blin v0 v1 w p n * eighth := by
  unfold k0_pay3
  have hp := pay2_apply v0 v1 p
  generalize k0_pay2 (F := Ideal) v0 v1 = y at hp ⊢
  pointwise [blin]
  simp only [hp]

/-- The key columns at an index. -/
theorem pay4_apply (v0 : Vec Ideal S512x1024 .f32) (v1 : Vec Ideal S1x1024 .f32) (w : Vec Ideal S1024x512 .bf16) (p : Fin 512) (n : Fin 512) :
    k0_pay4 (F := Ideal) v0 v1 w (ix2 p n) = blin v0 v1 w p n := by
  unfold k0_pay4
  have hp := pay2_apply v0 v1 p
  generalize k0_pay2 (F := Ideal) v0 v1 = y at hp ⊢
  pointwise [blin]
  simp only [hp]

/-- The value columns at an index. -/
theorem pay5_apply (v0 : Vec Ideal S512x1024 .f32) (v1 : Vec Ideal S1x1024 .f32) (w : Vec Ideal S1024x1024 .bf16) (p : Fin 512) (n : Fin 1024) :
    k0_pay5 (F := Ideal) v0 v1 w (ix2 p n) = blin v0 v1 w p n := by
  unfold k0_pay5
  have hp := pay2_apply v0 v1 p
  generalize k0_pay2 (F := Ideal) v0 v1 = y at hp ⊢
  pointwise [blin]
  simp only [hp]

/-- The output-gate columns at an index. -/
theorem pay6_apply (v0 : Vec Ideal S512x1024 .f32) (v1 : Vec Ideal S1x1024 .f32) (w : Vec Ideal S1024x1024 .bf16) (p : Fin 512) (n : Fin 1024) :
    k0_pay6 (F := Ideal) v0 v1 w (ix2 p n) = blin v0 v1 w p n := by
  unfold k0_pay6
  have hp := pay2_apply v0 v1 p
  generalize k0_pay2 (F := Ideal) v0 v1 = y at hp ⊢
  pointwise [blin]
  simp only [hp]

/-- The gate columns at an index. -/
theorem pay8_apply (v0 : Vec Ideal S512x1024 .f32) (v1 : Vec Ideal S1x1024 .f32) (w : Vec Ideal S1024x128 .bf16) (p : Fin 512) (n : Fin 128) :
    k0_pay8 (F := Ideal) (k0_pay2 v0 v1) (k0_pay7 w) (constant S512x128 .f32 0x00000000#32) (ix2 p n) = blin v0 v1 w p n := by
  unfold k0_pay8 k0_pay7
  have hp := pay2_apply v0 v1 p
  generalize k0_pay2 (F := Ideal) v0 v1 = y at hp ⊢
  pointwise [blin]
  simp only [hp]

variable (x0 : Vec Ideal S512x1024 .f32) (x1 : Vec Ideal S1x1024 .f32) (x2 : Vec Ideal S1024x3200 .bf16)

/-- A product with the query columns of the weights. -/
theorem blin_q (p : Fin 512) (n : Fin 512) : blin (View.ld x0 r0_0) (View.ld x1 r0_1) (View.ld x2 r0_2) p n = blin x0 x1 x2 p ⟨n.val, by omega⟩ := by
  unfold blin
  pointwise [r0_0, r0_1, r0_2]

/-- A product with the key columns of the weights. -/
theorem blin_k (p : Fin 512) (n : Fin 512) : blin (View.ld x0 r0_0) (View.ld x1 r0_1) (View.ld x2 r0_3) p n = blin x0 x1 x2 p ⟨512 + n.val, by omega⟩ := by
  unfold blin
  pointwise [r0_0, r0_1, r0_3]

/-- A product with the value columns of the weights. -/
theorem blin_v (p : Fin 512) (n : Fin 1024) : blin (View.ld x0 r0_0) (View.ld x1 r0_1) (View.ld x2 r0_4) p n = blin x0 x1 x2 p ⟨1024 + n.val, by omega⟩ := by
  unfold blin
  pointwise [r0_0, r0_1, r0_4]

/-- A product with the output-gate columns of the weights. -/
theorem blin_o (p : Fin 512) (n : Fin 1024) : blin (View.ld x0 r0_0) (View.ld x1 r0_1) (View.ld x2 r0_5) p n = blin x0 x1 x2 p ⟨2048 + n.val, by omega⟩ := by
  unfold blin
  pointwise [r0_0, r0_1, r0_5]

/-- A product with the gate columns of the weights. -/
theorem blin_g (p : Fin 512) (n : Fin 128) : blin (View.ld x0 r0_0) (View.ld x1 r0_1) (View.ld x2 r0_6) p n = blin x0 x1 x2 p ⟨3072 + n.val, by omega⟩ := by
  unfold blin
  pointwise [r0_0, r0_1, r0_6]

/-- The output gate's block. -/
theorem out3_apply (p : Fin 512) (n : Fin 1024) : out0_3 (F := Ideal) x0 x1 x2 (ix2 p n) = blin x0 x1 x2 p ⟨2048 + n.val, by omega⟩ := by
  have e : out0_3 (F := Ideal) x0 x1 x2 = k0_pay6 (F := Ideal) (View.ld x0 r0_0) (View.ld x1 r0_1) (View.ld x2 r0_5) := by
    unfold out0_3
    exact View.canon_unit_zero (by funext a; fin_cases a <;> rfl) _ _
  rw [e, pay6_apply, blin_o]

/-- The gates' block. -/
theorem out4_apply (p : Fin 512) (n : Fin 128) : out0_4 (F := Ideal) x0 x1 x2 (ix2 p n) = blin x0 x1 x2 p ⟨3072 + n.val, by omega⟩ := by
  have e : out0_4 (F := Ideal) x0 x1 x2 = k0_pay8 (F := Ideal) (k0_pay2 (View.ld x0 r0_0) (View.ld x1 r0_1)) (k0_pay7 (View.ld x2 r0_6)) (constant S512x128 .f32 0x00000000#32) := by
    unfold out0_4
    exact View.canon_unit_zero (by funext a; fin_cases a <;> rfl) _ _
  rw [e, pay8_apply, blin_g]

/-- The queries' block. -/
theorem out5_apply (h : Fin 8) (p : Fin 512) (d : Fin 64) :
    out0_5 (F := Ideal) x0 x1 x2 (ix3 h p d) = blin x0 x1 x2 p ⟨h.val * 64 + d.val, by omega⟩ * eighth := by
  refine (Value.canon5_eq (F := Ideal) (View.ld x0 r0_0) (View.ld x1 r0_1) (View.ld x2 r0_2) (ix3 h p d)).trans ?_
  have e : Value.ix5_0 (ix3 h p d) = ix2 p ⟨h.val * 64 + d.val, by omega⟩ := by funext a; match a with | ⟨0, _⟩ => rfl | ⟨1, _⟩ => rfl
  refine (congrArg (k0_pay3 (F := Ideal) (View.ld x0 r0_0) (View.ld x1 r0_1) (View.ld x2 r0_2)) e).trans ?_
  rw [pay3_apply, blin_q]

/-- The key tiles' block. -/
theorem out6_apply (h : Fin 8) (a : Fin 2) (d : Fin 64) (q : Fin 256) :
    out0_6 (F := Ideal) x0 x1 x2 (ix4 h a d q) = blin x0 x1 x2 ⟨a.val * 256 + q.val, by omega⟩ ⟨512 + (h.val * 64 + d.val), by omega⟩ := by
  refine (Value.canon6_eq (F := Ideal) (View.ld x0 r0_0) (View.ld x1 r0_1) (View.ld x2 r0_3) (ix4 h a d q)).trans ?_
  have e : Value.ix6_0 (ix4 h a d q) = ix2 ⟨a.val * 256 + q.val, by omega⟩ ⟨h.val * 64 + d.val, by omega⟩ := by
    funext a; match a with | ⟨0, _⟩ => rfl | ⟨1, _⟩ => rfl
  refine (congrArg (k0_pay4 (F := Ideal) (View.ld x0 r0_0) (View.ld x1 r0_1) (View.ld x2 r0_3)) e).trans ?_
  rw [pay4_apply, blin_k]

/-- The values' block. -/
theorem out7_apply (h : Fin 8) (p : Fin 512) (d : Fin 128) :
    out0_7 (F := Ideal) x0 x1 x2 (ix3 h p d) = blin x0 x1 x2 p ⟨1024 + (h.val * 128 + d.val), by omega⟩ := by
  refine (Value.canon7_eq (F := Ideal) (View.ld x0 r0_0) (View.ld x1 r0_1) (View.ld x2 r0_4) (ix3 h p d)).trans ?_
  have e : Value.ix7_0 (ix3 h p d) = ix2 p ⟨h.val * 128 + d.val, by omega⟩ := by funext a; match a with | ⟨0, _⟩ => rfl | ⟨1, _⟩ => rfl
  refine (congrArg (k0_pay5 (F := Ideal) (View.ld x0 r0_0) (View.ld x1 r0_1) (View.ld x2 r0_4)) e).trans ?_
  rw [pay5_apply, blin_v]

variable (m : (ℓ : Loc nD τ sig) → Buf (Elt Ideal) ℓ) (ρ : Dev nD → PrngReg)

/-- The output gate over device `c`'s arguments: token row, column. -/
abbrev G3 (c : Dev nD) : Buf (Elt Ideal) ((c : Thread nD τ).loc main_v3_0) := fun i : S16384x1024.Idx => mlO (m ((c : Thread nD τ).loc main_arg0)) (m ((c : Thread nD τ).loc main_arg1)) (m ((c : Thread nD τ).loc main_arg2)) (i 0) (i 1)

/-- The gates: token row, column. -/
abbrev G4 (c : Dev nD) : Buf (Elt Ideal) ((c : Thread nD τ).loc main_v3_1) := fun i : S16384x128.Idx => mlG (m ((c : Thread nD τ).loc main_arg0)) (m ((c : Thread nD τ).loc main_arg1)) (m ((c : Thread nD τ).loc main_arg2)) (i 0) (i 1)

/-- The queries: head, token row, column. -/
abbrev G5 (c : Dev nD) : Buf (Elt Ideal) ((c : Thread nD τ).loc main_v3_2) := fun i : S8x16384x64.Idx => mlQ (m ((c : Thread nD τ).loc main_arg0)) (m ((c : Thread nD τ).loc main_arg1)) (m ((c : Thread nD τ).loc main_arg2)) (i 0) (i 1) (i 2)

/-- The key tiles: head, tile, column, row inside the tile. -/
abbrev G6 (c : Dev nD) : Buf (Elt Ideal) ((c : Thread nD τ).loc main_v3_3) := fun i : S8x64x64x256.Idx =>
  mlK (m ((c : Thread nD τ).loc main_arg0)) (m ((c : Thread nD τ).loc main_arg1)) (m ((c : Thread nD τ).loc main_arg2)) (i 0) ⟨(i 1).val * 256 + (i 3).val, by have : (i 1).val < 64 := (i 1).isLt; have : (i 3).val < 256 := (i 3).isLt; omega⟩ (i 2)

/-- The values: head, token row, column. -/
abbrev G7 (c : Dev nD) : Buf (Elt Ideal) ((c : Thread nD τ).loc main_v3_4) := fun i : S8x16384x128.Idx => mlV (m ((c : Thread nD τ).loc main_arg0)) (m ((c : Thread nD τ).loc main_arg1)) (m ((c : Thread nD τ).loc main_arg2)) (i 0) (i 1) (i 2)

/-- Where each window's block lies at a grid point. -/
theorem idx_facts : ∀ t : Fin grid0.N, win0_0.index t = ![t.val, 0] ∧ win0_1.index t = ![0, 0] ∧ win0_2.index t = ![0, 0]
    ∧ win0_3.index t = ![t.val, 0] ∧ win0_4.index t = ![t.val, 0]
    ∧ win0_5.index t = ![0, t.val, 0] ∧ win0_6.index t = ![0, t.val, 0, 0] ∧ win0_7.index t = ![0, t.val, 0] := by
  decide +kernel

/-- Input window 0's block is 512 rows of the residual stream. -/
theorem iblk0 (c : Dev nD) (t : Fin cfg0.N) (p : Fin 512) (e : Fin 1024) :
    iblk m c 0 t (ix2 p e) = m ((c : Thread nD τ).loc main_arg0)
      (ix2 ⟨t.val * 512 + p.val, by have := t.isLt; have : cfg0.N = 32 := N_0; omega⟩ e) := by
  have hi := (idx_facts t).1
  unfold iblk
  entry_read
  pointwise
  blk_ext [hi]

/-- Input window 1's block is the gain as one row. -/
theorem iblk1 (c : Dev nD) (t : Fin cfg0.N) (e : Fin 1024) :
    iblk m c 1 t (ix2 0 e) = m ((c : Thread nD τ).loc main_arg1) (ix1 e) := by
  have hi := (idx_facts t).2.1
  unfold iblk
  entry_read
  blk_simp
  have h1 : ((win0_1.blk t).view.emb (ix2 0 e) 1).val = e.val := by blk_simp [hi]
  have h0 : ((win0_1.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- The weights with zero columns up to 3200. -/
def padW (w : Vec Ideal S1024x3088 .f32) : Vec Ideal S1024x3200 .bf16 := truncf (F := Ideal) .bf16 (pad S1024x3200 ![0, 0] ![0, 112] ![0, 0] w
    (sitofp (F := Ideal) .f32 (constantI S_ 32 0#32)) pads_S1024x3088_S1024x3200_000_01120 h_S_) bitsLt_bf16_f32

/-- The padded weights when the launch starts. -/
theorem V_main_v1 (c : Dev nD) : (V m c main_v1 : Vec Ideal S1024x3200 .bf16) = padW (m ((c : Thread nD τ).loc main_arg2)) := rfl

/-- Input window 2's block is the padded weights. -/
theorem iblk2_eq (c : Dev nD) (t : Fin cfg0.N) (a : Fin 1024) (b : Fin 3200) :
    iblk m c 2 t (ix2 a b) = (V m c main_v1 : Vec Ideal S1024x3200 .bf16) (ix2 a b) := by
  have hi := (idx_facts t).2.2.1
  unfold iblk
  have e0 : ((win0_2.blk t).view.emb (ix2 a b) 0).val = a.val := by blk_simp [hi]
  have e1 : ((win0_2.blk t).view.emb (ix2 a b) 1).val = b.val := by blk_simp [hi]
  have eq : (win0_2.blk t).view.emb (ix2 a b) = ix2 a b := by
    funext i
    match i with
    | ⟨0, _⟩ => exact Fin.ext e0
    | ⟨1, _⟩ => exact Fin.ext e1
  exact congrArg (V m c main_v1 : Vec Ideal S1024x3200 .bf16) eq

/-- Inside the weights' columns the padded weights are the weights. -/
theorem iblk2 (c : Dev nD) (t : Fin cfg0.N) (a : Fin 1024) (b : Fin 3088) :
    iblk m c 2 t (ix2 a ⟨b.val, by omega⟩) = m ((c : Thread nD τ).loc main_arg2) (ix2 a b) := by
  rw [iblk2_eq, V_main_v1]
  unfold padW
  pointwise

/-- Beyond the weights' columns the padded weights are zero. -/
theorem iblk2_pad (c : Dev nD) (t : Fin cfg0.N) (a : Fin 1024) (b : Fin 3200) (hb : 3088 ≤ b.val) : iblk m c 2 t (ix2 a b) = (0 : EReal) := by
  rw [iblk2_eq, V_main_v1]
  unfold padW
  pointwise
  exact (dif_neg (by omega)).trans sitofp_zero

/-- A block's product is the arrays' product at the block's rows. -/
theorem blin_blk (c : Dev nD) (t : Fin cfg0.N) (p : Fin 512) (n : Fin 3088) :
    blin (iblk m c 0 t) (iblk m c 1 t) (iblk m c 2 t) p ⟨n.val, by omega⟩
      = lin (m ((c : Thread nD τ).loc main_arg0)) (m ((c : Thread nD τ).loc main_arg1)) (m ((c : Thread nD τ).loc main_arg2)) ⟨t.val * 512 + p.val, by have := t.isLt; have : cfg0.N = 32 := N_0; omega⟩ n := by
  unfold blin lin
  simp only [iblk0, iblk1, iblk2]

/-- A block's product with a padding column is zero. -/
theorem blin_pad (c : Dev nD) (t : Fin cfg0.N) (p : Fin 512) (n : Fin 3200) (hn : 3088 ≤ n.val) :
    blin (iblk m c 0 t) (iblk m c 1 t) (iblk m c 2 t) p n = 0 := by
  unfold blin
  simp only [iblk2_pad m c t _ n hn, mul_zero, Finset.sum_const_zero]

/-- After the run, output window 3's array. -/
theorem final3 (c : Dev nD) : (dats m 0 c).arrAt 3 cfg0.N = G3 m c := by
  refine (dats m 0 c).arrAt_eq_of_covers 3 _ (by decide +kernel) fun t hf y => ?_
  blk_simp
  rw [after0_3]
  have hi := (idx_facts t).2.2.2.1
  have ht : t.val < 32 := t.isLt
  idx_vars y
  have e0 : (((cfg0.win 3).blk t).view.emb (ix2 y0 y1) 0).val = t.val * 512 + y0.val := by blk_simp [hi]
  have e1 : (((cfg0.win 3).blk t).view.emb (ix2 y0 y1) 1).val = y1.val := by blk_simp [hi]
  have eq : ((cfg0.win 3).blk t).view.emb (ix2 y0 y1) = ix2 ⟨t.val * 512 + y0.val, by omega⟩ y1 := by
    funext a
    match a with
    | ⟨0, _⟩ => exact Fin.ext e0
    | ⟨1, _⟩ => exact Fin.ext e1
  refine Eq.trans ?_ (congrArg (G3 m c) eq).symm
  rw [out3_apply]
  exact blin_blk m c t y0 ⟨2048 + y1.val, by omega⟩

/-- After the run, output window 4's array. -/
theorem final4 (c : Dev nD) : (dats m 0 c).arrAt 4 cfg0.N = G4 m c := by
  refine (dats m 0 c).arrAt_eq_of_covers 4 _ (by decide +kernel) fun t hf y => ?_
  blk_simp
  rw [after0_4]
  have hi := (idx_facts t).2.2.2.2.1
  have ht : t.val < 32 := t.isLt
  idx_vars y
  have e0 : (((cfg0.win 4).blk t).view.emb (ix2 y0 y1) 0).val = t.val * 512 + y0.val := by blk_simp [hi]
  have e1 : (((cfg0.win 4).blk t).view.emb (ix2 y0 y1) 1).val = y1.val := by blk_simp [hi]
  have eq : ((cfg0.win 4).blk t).view.emb (ix2 y0 y1) = ix2 ⟨t.val * 512 + y0.val, by omega⟩ y1 := by
    funext a
    match a with
    | ⟨0, _⟩ => exact Fin.ext e0
    | ⟨1, _⟩ => exact Fin.ext e1
  refine Eq.trans ?_ (congrArg (G4 m c) eq).symm
  rw [out4_apply]
  show _ = mlG (m ((c : Thread nD τ).loc main_arg0)) (m ((c : Thread nD τ).loc main_arg1)) (m ((c : Thread nD τ).loc main_arg2)) ⟨t.val * 512 + y0.val, by omega⟩ y1
  unfold mlG
  by_cases h : y1.val < 16
  · rw [dif_pos h]
    exact blin_blk m c t y0 ⟨3072 + y1.val, by omega⟩
  · rw [dif_neg h]
    exact blin_pad m c t y0 ⟨3072 + y1.val, by omega⟩ (show 3088 ≤ 3072 + y1.val by omega)

/-- After the run, output window 5's array. -/
theorem final5 (c : Dev nD) : (dats m 0 c).arrAt 5 cfg0.N = G5 m c := by
  refine (dats m 0 c).arrAt_eq_of_covers 5 _ (by decide +kernel) fun t hf y => ?_
  blk_simp
  rw [after0_5]
  have hi := (idx_facts t).2.2.2.2.2.1
  have ht : t.val < 32 := t.isLt
  idx_vars y
  have e0 : (((cfg0.win 5).blk t).view.emb (ix3 y0 y1 y2) 0).val = y0.val := by blk_simp [hi]
  have e1 : (((cfg0.win 5).blk t).view.emb (ix3 y0 y1 y2) 1).val = t.val * 512 + y1.val := by blk_simp [hi]
  have e2 : (((cfg0.win 5).blk t).view.emb (ix3 y0 y1 y2) 2).val = y2.val := by blk_simp [hi]
  have eq : ((cfg0.win 5).blk t).view.emb (ix3 y0 y1 y2) = ix3 y0 ⟨t.val * 512 + y1.val, by omega⟩ y2 := by
    funext a
    match a with
    | ⟨0, _⟩ => exact Fin.ext e0
    | ⟨1, _⟩ => exact Fin.ext e1
    | ⟨2, _⟩ => exact Fin.ext e2
  refine Eq.trans ?_ (congrArg (G5 m c) eq).symm
  rw [out5_apply]
  exact congrArg (· * eighth) (blin_blk m c t y1 ⟨y0.val * 64 + y2.val, by omega⟩)

/-- After the run, output window 6's array. -/
theorem final6 (c : Dev nD) : (dats m 0 c).arrAt 6 cfg0.N = G6 m c := by
  refine (dats m 0 c).arrAt_eq_of_covers 6 _ (by decide +kernel) fun t hf y => ?_
  blk_simp
  rw [after0_6]
  have hi := (idx_facts t).2.2.2.2.2.2.1
  have ht : t.val < 32 := t.isLt
  idx_vars y
  have e0 : (((cfg0.win 6).blk t).view.emb (ix4 y0 y1 y2 y3) 0).val = y0.val := by blk_simp [hi]
  have e1 : (((cfg0.win 6).blk t).view.emb (ix4 y0 y1 y2 y3) 1).val = t.val * 2 + y1.val := by blk_simp [hi]
  have e2 : (((cfg0.win 6).blk t).view.emb (ix4 y0 y1 y2 y3) 2).val = y2.val := by blk_simp [hi]
  have e3 : (((cfg0.win 6).blk t).view.emb (ix4 y0 y1 y2 y3) 3).val = y3.val := by blk_simp [hi]
  have eq : ((cfg0.win 6).blk t).view.emb (ix4 y0 y1 y2 y3) = ix4 y0 ⟨t.val * 2 + y1.val, by omega⟩ y2 y3 := by
    funext a
    match a with
    | ⟨0, _⟩ => exact Fin.ext e0
    | ⟨1, _⟩ => exact Fin.ext e1
    | ⟨2, _⟩ => exact Fin.ext e2
    | ⟨3, _⟩ => exact Fin.ext e3
  refine Eq.trans ?_ (congrArg (G6 m c) eq).symm
  rw [out6_apply]
  refine (blin_blk m c t ⟨y1.val * 256 + y3.val, by omega⟩ ⟨512 + (y0.val * 64 + y2.val), by omega⟩).trans ?_
  refine congrArg (fun r => lin (m ((c : Thread nD τ).loc main_arg0)) (m ((c : Thread nD τ).loc main_arg1)) (m ((c : Thread nD τ).loc main_arg2)) r ⟨512 + (y0.val * 64 + y2.val), by omega⟩) (Fin.ext ?_)
  show t.val * 512 + (y1.val * 256 + y3.val) = (t.val * 2 + y1.val) * 256 + y3.val
  omega

/-- After the run, output window 7's array. -/
theorem final7 (c : Dev nD) : (dats m 0 c).arrAt 7 cfg0.N = G7 m c := by
  refine (dats m 0 c).arrAt_eq_of_covers 7 _ (by decide +kernel) fun t hf y => ?_
  blk_simp
  rw [after0_7]
  have hi := (idx_facts t).2.2.2.2.2.2.2
  have ht : t.val < 32 := t.isLt
  idx_vars y
  have e0 : (((cfg0.win 7).blk t).view.emb (ix3 y0 y1 y2) 0).val = y0.val := by blk_simp [hi]
  have e1 : (((cfg0.win 7).blk t).view.emb (ix3 y0 y1 y2) 1).val = t.val * 512 + y1.val := by blk_simp [hi]
  have e2 : (((cfg0.win 7).blk t).view.emb (ix3 y0 y1 y2) 2).val = y2.val := by blk_simp [hi]
  have eq : ((cfg0.win 7).blk t).view.emb (ix3 y0 y1 y2) = ix3 y0 ⟨t.val * 512 + y1.val, by omega⟩ y2 := by
    funext a
    match a with
    | ⟨0, _⟩ => exact Fin.ext e0
    | ⟨1, _⟩ => exact Fin.ext e1
    | ⟨2, _⟩ => exact Fin.ext e2
  refine Eq.trans ?_ (congrArg (G7 m c) eq).symm
  rw [out7_apply]
  exact blin_blk m c t y1 ⟨1024 + (y0.val * 128 + y2.val), by omega⟩

/-- The kernel's run: each result array is its projection, the arguments are as launched. -/
theorem run : θ_run defs (onTc (τ := τ) (main (F := Ideal))) ⟨m, fun _ => 0, ρ⟩ fun r => ∀ c : Dev nD,
      r.2.mem ((c : Thread nD τ).loc main_v3_0) = G3 m c
      ∧ r.2.mem ((c : Thread nD τ).loc main_v3_1) = G4 m c
      ∧ r.2.mem ((c : Thread nD τ).loc main_v3_2) = G5 m c
      ∧ r.2.mem ((c : Thread nD τ).loc main_v3_3) = G6 m c
      ∧ r.2.mem ((c : Thread nD τ).loc main_v3_4) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final3 m c), (h c).2.1.trans (final4 m c), (h c).2.2.1.trans (final5 m c),
    (h c).2.2.2.1.trans (final6 m c), (h c).2.2.2.2.1.trans (final7 m c), (h c).2.2.2.2.2⟩) (Value.run_blocks m ρ)

end Cert.Kernel4Ideal.RefValue

/-! ## The reference -/

namespace Cert.Reference4Ideal.RefValue

open Cert.Reference4Ideal Cert.Reference4Ideal.Gen Cert.Reference4Ideal.Read Idealize.ShloMosaic Idealize.ShloMosaic.TcCoe Idealize.SL.Sem Cert.FfnSpec Cert.ProjSpec

variable (x0 : (⟨S16384x1024, .f32⟩ : BufTy).Contents (Elt Ideal)) (x1 : (⟨S1024, .f32⟩ : BufTy).Contents (Elt Ideal))
  (x2 : (⟨S1024x3088, .f32⟩ : BufTy).Contents (Elt Ideal))

/-- The reference's normalised row at an index. -/
theorem v12_apply (r : Fin 16384) (e : Fin 1024) :
    val_main_v12 (F := Ideal) x0 x1 (ix2 r e) = rms (fun a => x0 (ix2 r a)) (fun a => x1 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's product with the weights at an index. -/
theorem v13_apply (r : Fin 16384) (n : Fin 3088) : val_main_v13 (F := Ideal) x0 x1 x2 (ix2 r n) = lin x0 x1 x2 r n := by
  unfold val_main_v13
  pointwise
  simp only [v12_apply]
  rfl

/-- The query columns by head, before the scale. -/
theorem v19_apply (r : Fin 16384) (h : Fin 8) (d : Fin 64) :
    val_main_v19 (F := Ideal) x0 x1 x2 (ix3 r h d) = lin x0 x1 x2 r ⟨h.val * 64 + d.val, by omega⟩ := by
  have e : val_main_v14 (F := Ideal) x0 x1 x2 (ix2 r ⟨h.val * 64 + d.val, by omega⟩) = lin x0 x1 x2 r ⟨h.val * 64 + d.val, by omega⟩ := by
    unfold val_main_v14
    pointwise
    simp only [v13_apply]
  unfold val_main_v19
  refine (shapeCast_apply _ shapeCasts_S16384x512_S16384x8x64 (ix3 r h d) (ix2 r ⟨h.val * 64 + d.val, by omega⟩) ?_).trans e
  rw [Shape.rowMajor_val_two, Shape.rowMajor_val_three]
  show r.val * 512 + (h.val * 64 + d.val) = (r.val * 8 + h.val) * 64 + d.val
  omega

/-- The key columns by tile. -/
theorem v22_apply (j : Fin 64) (q : Fin 256) (h : Fin 8) (d : Fin 64) :
    val_main_v22 (F := Ideal) x0 x1 x2 (ix4 j q h d) = mlK x0 x1 x2 h ⟨j.val * 256 + q.val, by omega⟩ d := by
  have e : val_main_v15 (F := Ideal) x0 x1 x2 (ix2 ⟨j.val * 256 + q.val, by omega⟩ ⟨h.val * 64 + d.val, by omega⟩) = mlK x0 x1 x2 h ⟨j.val * 256 + q.val, by omega⟩ d := by
    unfold val_main_v15
    pointwise
    simp only [v13_apply]
    rfl
  unfold val_main_v22
  refine (shapeCast_apply _ shapeCasts_S16384x512_S64x256x8x64 (ix4 j q h d) (ix2 ⟨j.val * 256 + q.val, by omega⟩ ⟨h.val * 64 + d.val, by omega⟩) ?_).trans e
  rw [Shape.rowMajor_val_two, Shape.rowMajor_val_four]
  show (j.val * 256 + q.val) * 512 + (h.val * 64 + d.val) = ((j.val * 256 + q.val) * 8 + h.val) * 64 + d.val
  omega

/-- The value columns by head. -/
theorem v23_apply (r : Fin 16384) (h : Fin 8) (d : Fin 128) :
    val_main_v23 (F := Ideal) x0 x1 x2 (ix3 r h d) = mlV x0 x1 x2 h r d := by
  have e : val_main_v16 (F := Ideal) x0 x1 x2 (ix2 r ⟨h.val * 128 + d.val, by omega⟩) = mlV x0 x1 x2 h r d := by
    unfold val_main_v16
    pointwise
    simp only [v13_apply]
    rfl
  unfold val_main_v23
  refine (shapeCast_apply _ shapeCasts_S16384x1024_S16384x8x128 (ix3 r h d) (ix2 r ⟨h.val * 128 + d.val, by omega⟩) ?_).trans e
  rw [Shape.rowMajor_val_two, Shape.rowMajor_val_three]
  show r.val * 1024 + (h.val * 128 + d.val) = (r.val * 8 + h.val) * 128 + d.val
  omega

/-- The reference's output gate. -/
theorem v17_eq' : val_main_v17 (F := Ideal) x0 x1 x2 = fun i : S16384x1024.Idx => mlO x0 x1 x2 (i 0) (i 1) := by
  funext i
  idx_vars i
  unfold val_main_v17
  pointwise
  simp only [v13_apply]
  rfl

/-- The reference's gates. -/
theorem v24_eq' : val_main_v24 (F := Ideal) x0 x1 x2 = fun i : S16384x128.Idx => mlG x0 x1 x2 (i 0) (i 1) := by
  funext i
  idx_vars i
  show _ = mlG x0 x1 x2 i0 i1
  unfold mlG
  by_cases h : i1.val < 16
  · rw [dif_pos h]
    unfold val_main_v24 val_main_v18
    pointwise
    simp only [v13_apply]
    exact dif_pos h
  · rw [dif_neg h]
    unfold val_main_v24 val_main_call0_v0 val_main_c
    pointwise
    exact (dif_neg h).trans sitofp_zero

/-- The reference's queries. -/
theorem v26_eq' : val_main_v26 (F := Ideal) x0 x1 x2 = fun i : S8x16384x64.Idx => mlQ x0 x1 x2 (i 0) (i 1) (i 2) := by
  funext i
  idx_vars i
  unfold val_main_v26 val_main_v25 val_main_v21 val_main_v20 val_main_cst_2
  pointwise
  exact congrArg (· * eighth) (v19_apply x0 x1 x2 i1 i0 i2)

/-- The reference's key tiles. -/
theorem v28_eq' : val_main_v28 (F := Ideal) x0 x1 x2 = fun i : S8x64x64x256.Idx => mlK x0 x1 x2 (i 0) ⟨(i 1).val * 256 + (i 3).val, by have : (i 1).val < 64 := (i 1).isLt; have : (i 3).val < 256 := (i 3).isLt; omega⟩ (i 2) := by
  funext i
  idx_vars i
  unfold val_main_v28 val_main_v27
  pointwise
  exact v22_apply x0 x1 x2 i1 i3 i0 i2

/-- The reference's values. -/
theorem v30_eq' : val_main_v30 (F := Ideal) x0 x1 x2 = fun i : S8x16384x128.Idx => mlV x0 x1 x2 (i 0) (i 1) (i 2) := by
  funext i
  idx_vars i
  unfold val_main_v30 val_main_v29
  pointwise
  exact v23_apply x0 x1 x2 i1 i0 i2

end Cert.Reference4Ideal.RefValue

end
-- ==== Proof.OutRun.lean ====
/- The output projection's kernel, launch and reference: the row plus the mixer's row times the weights. -/
module

public import proofs.«01_k».proof.Proof.Gen.Kernel5Ideal.Value
public import proofs.«01_k».proof.Proof.Gen.Reference5Ideal.Read
public import Idealize.ShloMosaic.Lib.Pointwise
public import Idealize.ShloMosaic.Lib.Claim
public import Idealize.ShloMosaic.Lib.Pipeline.ValueKit

@[expose] public section

set_option maxRecDepth 16384

noncomputable section

namespace Cert.OutSpec

open Idealize.ShloMosaic
open scoped BigOperators

/-- The result array: at row `r` and column `d` the residual's element plus row `r` of the mixer times column `d` of the weights. -/
def layer (a : (⟨2, ![16384, 1024]⟩ : Shape).Idx → EReal) (w : (⟨2, ![1024, 1024]⟩ : Shape).Idx → EReal)
    (x : (⟨2, ![16384, 1024]⟩ : Shape).Idx → EReal) (r : Fin 16384) (d : Fin 1024) : EReal :=
  x (ix2 r d) + ∑ e : Fin 1024, a (ix2 r e) * w (ix2 e d)

end Cert.OutSpec

/-! ## The kernel -/

namespace Cert.Kernel5Ideal.RefValue

open Cert.Kernel5Ideal Cert.Kernel5Ideal.Gen Idealize.ShloMosaic Idealize.ShloMosaic.TcCoe Idealize.SL.Sem Cert.OutSpec
open Idealize.ShloMosaic.Pipeline (Dat)
open scoped BigOperators

/-- One grid point's block, element by element. -/
theorem out_apply (x0 : Vec Ideal S512x1024 .bf16) (x1 : Vec Ideal S1024x1024 .bf16) (x2 : Vec Ideal S512x1024 .f32) (p : Fin 512) (d : Fin 1024) :
    out0_3 (F := Ideal) x0 x1 x2 (ix2 p d) = x2 (ix2 p d) + ∑ e : Fin 1024, x0 (ix2 p e) * x1 (ix2 e d) := by
  have hz : (![0, 0] : Fin 2 → ℕ) = fun _ => 0 := funext fun i => by fin_cases i <;> rfl
  unfold out0_3
  rw [View.canon_unit_zero hz]
  unfold k0_pay1
  pointwise [r0_0, r0_1]

variable (m : (ℓ : Loc nD τ sig) → Buf (Elt Ideal) ℓ) (ρ : Dev nD → PrngReg)

/-- The layer over device `c`'s argument arrays. -/
abbrev G (c : Dev nD) : Buf (Elt Ideal) ((c : Thread nD τ).loc main_v1) := fun i : S16384x1024.Idx =>
  layer (m ((c : Thread nD τ).loc main_arg0)) (m ((c : Thread nD τ).loc main_arg1)) (m ((c : Thread nD τ).loc main_arg2)) (i 0) (i 1)

/-- Where each window's block lies at a grid point. -/
theorem idx_facts : ∀ t : Fin grid0.N, win0_0.index t = ![t.val, 0] ∧ win0_1.index t = ![0, 0] ∧ win0_2.index t = ![t.val, 0]
    ∧ win0_3.index t = ![t.val, 0] := by
  decide +kernel

/-- Input window 0's block is 512 rows of the mixer's output. -/
theorem iblk0 (c : Dev nD) (t : Fin cfg0.N) (p : Fin 512) (e : Fin 1024) :
    iblk m c 0 t (ix2 p e) = m ((c : Thread nD τ).loc main_arg0)
      (ix2 ⟨t.val * 512 + p.val, by have := t.isLt; have : cfg0.N = 32 := N_0; omega⟩ e) := by
  have hi := (idx_facts t).1
  unfold iblk
  entry_read
  pointwise
  blk_ext [hi]

/-- Input window 1's block is the weights. -/
theorem iblk1 (c : Dev nD) (t : Fin cfg0.N) (a : Fin 1024) (b : Fin 1024) :
    iblk m c 1 t (ix2 a b) = m ((c : Thread nD τ).loc main_arg1) (ix2 a b) := by
  have hi := (idx_facts t).2.1
  unfold iblk
  entry_read
  pointwise
  blk_ext [hi]

/-- Input window 2's block is 512 rows of the residual stream. -/
theorem iblk2 (c : Dev nD) (t : Fin cfg0.N) (p : Fin 512) (e : Fin 1024) :
    iblk m c 2 t (ix2 p e) = m ((c : Thread nD τ).loc main_arg2)
      (ix2 ⟨t.val * 512 + p.val, by have := t.isLt; have : cfg0.N = 32 := N_0; omega⟩ e) := by
  have hi := (idx_facts t).2.2.1
  unfold iblk
  entry_read
  pointwise
  blk_ext [hi]

/-- After the run the result array is the layer. -/
theorem final (c : Dev nD) : (dats m 0 c).arrAt 3 cfg0.N = G m c := by
  refine (dats m 0 c).arrAt_eq_of_covers 3 _ (by decide +kernel) fun t hf y => ?_
  blk_simp
  rw [after0_3]
  have hi := (idx_facts t).2.2.2
  idx_vars y
  have e0 : (((cfg0.win 3).blk t).view.emb (ix2 y0 y1) 0).val = t.val * 512 + y0.val := by blk_simp [hi]
  have e1 : (((cfg0.win 3).blk t).view.emb (ix2 y0 y1) 1).val = y1.val := by blk_simp [hi]
  rw [out_apply]
  simp only [iblk0, iblk1, iblk2]
  have eq : ((cfg0.win 3).blk t).view.emb (ix2 y0 y1)
      = ix2 ⟨t.val * 512 + y0.val, by have := t.isLt; have : cfg0.grid.N = 32 := N_0; omega⟩ y1 := by
    funext a
    match a with
    | ⟨0, _⟩ => exact Fin.ext e0
    | ⟨1, _⟩ => exact Fin.ext e1
  refine Eq.trans ?_ (congrArg (G m c) eq).symm
  rfl

/-- The kernel's run: the result array is the layer, the arguments are as launched. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel5Ideal.RefValue

/-! ## The reference -/

namespace Cert.Reference5Ideal.RefValue

open Cert.Reference5Ideal Cert.Reference5Ideal.Gen Cert.Reference5Ideal.Read Idealize.ShloMosaic Idealize.ShloMosaic.TcCoe Idealize.SL.Sem Cert.OutSpec

/-- The reference's result is the layer. -/
theorem v2_apply (x0 : (⟨S16384x1024, .bf16⟩ : BufTy).Contents (Elt Ideal)) (x1 : (⟨S1024x1024, .f32⟩ : BufTy).Contents (Elt Ideal))
    (x2 : (⟨S16384x1024, .f32⟩ : BufTy).Contents (Elt Ideal)) :
    val_main_v2 (F := Ideal) x0 x1 x2 = fun i : S16384x1024.Idx => layer x0 x1 x2 (i 0) (i 1) := by
  funext i
  idx_vars i
  unfold val_main_v2 val_main_v1 val_main_v0
  pointwise [layer]

end Cert.Reference5Ideal.RefValue

end
-- ==== Proof.PleSpec.lean ====
/- One row of the per-layer embedding over the extended reals. -/
module

public import proofs.«01_k».proof.Proof.FfnSpec

@[expose] public section

noncomputable section

namespace Cert.PleSpec

open Idealize.ShloMosaic Cert.FfnSpec
open scoped BigOperators

/-- One element: the row's own plus the logistic of the normalised row's gate times the embedding row's product with its weights. -/
def ple (x g : Fin 1024 → EReal) (p : Fin 256 → EReal) (u : Fin 1024 → Fin 1024 → EReal) (w : Fin 256 → Fin 1024 → EReal) (d : Fin 1024) : EReal :=
  x d + Ideal.div 1 (1 + Ideal.exp (-∑ e : Fin 1024, rms x g e * u e d)) * ∑ k : Fin 256, p k * w k d

/-- The result array without the final norm: row `r` takes embedding row `r % 2048` of sequence `r / 2048`. -/
def layer (x : (⟨2, ![16384, 1024]⟩ : Shape).Idx → EReal) (p : (⟨3, ![8, 2048, 256]⟩ : Shape).Idx → EReal)
    (g : (⟨1, ![1024]⟩ : Shape).Idx → EReal) (u : (⟨2, ![1024, 1024]⟩ : Shape).Idx → EReal) (w : (⟨2, ![256, 1024]⟩ : Shape).Idx → EReal)
    (r : Fin 16384) (d : Fin 1024) : EReal :=
  ple (fun e => x (ix2 r e)) (fun e => g (ix1 e)) (fun k => p (ix3 ⟨r.val / 2048, by omega⟩ ⟨r.val % 2048, by omega⟩ k))
    (fun a b => u (ix2 a b)) (fun a b => w (ix2 a b)) d

/-- The result array with the final norm: its rows normalised once more, by the final gain. -/
def layerN (x : (⟨2, ![16384, 1024]⟩ : Shape).Idx → EReal) (p : (⟨3, ![8, 2048, 256]⟩ : Shape).Idx → EReal)
    (g : (⟨1, ![1024]⟩ : Shape).Idx → EReal) (u : (⟨2, ![1024, 1024]⟩ : Shape).Idx → EReal) (w : (⟨2, ![256, 1024]⟩ : Shape).Idx → EReal)
    (h : (⟨1, ![1024]⟩ : Shape).Idx → EReal) (r : Fin 16384) (d : Fin 1024) : EReal :=
  rms (fun e => layer x p g u w r e) (fun e => h (ix1 e)) d

end Cert.PleSpec

end
-- ==== Proof.PleRun.lean ====
/- The per-layer embedding: the kernel's launch and the reference. -/
module

public import proofs.«01_k».proof.Proof.Gen.Kernel6Ideal.Value
public import proofs.«01_k».proof.Proof.Gen.Reference6Ideal.Read
public import proofs.«01_k».proof.Proof.PleSpec
public import Idealize.ShloMosaic.Lib.Claim
public import Idealize.ShloMosaic.Lib.Pipeline.ValueKit

@[expose] public section

set_option maxRecDepth 16384

noncomputable section

/-! ## The kernel -/

namespace Cert.Kernel6Ideal.RefValue

open Cert.Kernel6Ideal Cert.Kernel6Ideal.Gen Idealize.ShloMosaic Idealize.ShloMosaic.TcCoe Idealize.SL.Sem Cert.FfnSpec Cert.PleSpec
open Idealize.ShloMosaic.Pipeline (Dat)

/-- One grid point's block, element by element. -/
theorem out_apply (x0 : Vec Ideal S512x1024 .f32) (x1 : Vec Ideal S512x256 .f32) (x2 : Vec Ideal S1x1024 .f32) (x3 : Vec Ideal S1024x1024 .bf16)
    (x4 : Vec Ideal S256x1024 .bf16) (p : Fin 512) (d : Fin 1024) :
    out0_5 (F := Ideal) x0 x1 x2 x3 x4 (ix2 p d)
      = ple (fun a => x0 (ix2 p a)) (fun a => x2 (ix2 0 a)) (fun k => x1 (ix2 p k)) (fun a b => x3 (ix2 a b)) (fun a b => x4 (ix2 a b)) d := by
  have hz : (![0, 0] : Fin 2 → ℕ) = fun _ => 0 := funext fun i => by fin_cases i <;> rfl
  unfold out0_5
  rw [View.canon_unit_zero hz]
  unfold k0_pay1
  pointwise [r0_0, r0_1, r0_2, r0_3, r0_4, zero_sub, ple, rms]

variable (m : (ℓ : Loc nD τ sig) → Buf (Elt Ideal) ℓ) (ρ : Dev nD → PrngReg)

/-- The layer over device `c`'s argument arrays. -/
abbrev G (c : Dev nD) : Buf (Elt Ideal) ((c : Thread nD τ).loc main_v4) := fun i : S16384x1024.Idx =>
  layer (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)

/-- Where each window's block lies at a grid point: the rows move with the point, the weights and the gains stay. -/
theorem idx_facts : ∀ t : Fin grid0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0] := by
  decide +kernel

/-- Input window 0's block is 512 rows of the residual stream. -/
theorem iblk0 (c : Dev nD) (t : Fin cfg0.N) (p : Fin 512) (e : Fin 1024) :
    iblk m c 0 t (ix2 p e) = m ((c : Thread nD τ).loc main_arg0)
      (ix2 ⟨t.val * 512 + p.val, by have := t.isLt; have : cfg0.N = 32 := N_0; omega⟩ e) := by
  have hi := (idx_facts t).1
  unfold iblk
  entry_read
  pointwise
  blk_ext [hi]

/-- Input window 1's block is 512 embedding rows. -/
theorem iblk1 (c : Dev nD) (t : Fin cfg0.N) (p : Fin 512) (e : Fin 256) :
    iblk m c 1 t (ix2 p e) = m ((c : Thread nD τ).loc main_arg1)
      (ix3 ⟨(t.val * 512 + p.val) / 2048, by have := t.isLt; have : cfg0.N = 32 := N_0; omega⟩ ⟨(t.val * 512 + p.val) % 2048, by omega⟩ e) := by
  have hi := (idx_facts t).2.1
  unfold iblk
  entry_read
  blk_simp
  have h0 : ((win0_1.blk t).view.emb (ix2 p e) 0).val = t.val * 512 + p.val := by blk_simp [hi]
  have h1 : ((win0_1.blk t).view.emb (ix2 p e) 1).val = e.val := by blk_simp [hi]
  refine shapeCast_apply _ shapeCasts_S8x2048x256_S16384x256 _ _ ?_
  rw [Shape.rowMajor_val_three, Shape.rowMajor_val_two, h0, h1]
  show ((t.val * 512 + p.val) / 2048 * 2048 + (t.val * 512 + p.val) % 2048) * 256 + e.val = (t.val * 512 + p.val) * 256 + e.val
  omega

/-- Input window 2's block is the gain as one row. -/
theorem iblk2 (c : Dev nD) (t : Fin cfg0.N) (e : Fin 1024) :
    iblk m c 2 t (ix2 0 e) = m ((c : Thread nD τ).loc main_arg2) (ix1 e) := by
  have hi := (idx_facts t).2.2.1
  unfold iblk
  entry_read
  blk_simp
  have h1 : ((win0_2.blk t).view.emb (ix2 0 e) 1).val = e.val := by blk_simp [hi]
  have h0 : ((win0_2.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- Input window 3's block is the gate's weights. -/
theorem iblk3 (c : Dev nD) (t : Fin cfg0.N) (a : Fin 1024) (b : Fin 1024) :
    iblk m c 3 t (ix2 a b) = m ((c : Thread nD τ).loc main_arg3) (ix2 a b) := by
  have hi := (idx_facts t).2.2.2.1
  unfold iblk
  entry_read
  pointwise
  blk_ext [hi]

/-- Input window 4's block is the embedding's weights. -/
theorem iblk4 (c : Dev nD) (t : Fin cfg0.N) (a : Fin 256) (b : Fin 1024) :
    iblk m c 4 t (ix2 a b) = m ((c : Thread nD τ).loc main_arg4) (ix2 a b) := by
  have hi := (idx_facts t).2.2.2.2.1
  unfold iblk
  entry_read
  pointwise
  blk_ext [hi]

/-- After the run the result array is the layer. -/
theorem final (c : Dev nD) : (dats m 0 c).arrAt 5 cfg0.N = G m c := by
  refine (dats m 0 c).arrAt_eq_of_covers 5 _ (by decide +kernel) fun t hf y => ?_
  blk_simp
  rw [after0_5]
  have hi := (idx_facts t).2.2.2.2.2
  idx_vars y
  have e0 : (((cfg0.win 5).blk t).view.emb (ix2 y0 y1) 0).val = t.val * 512 + y0.val := by blk_simp [hi]
  have e1 : (((cfg0.win 5).blk t).view.emb (ix2 y0 y1) 1).val = y1.val := by blk_simp [hi]
  rw [out_apply]
  simp only [iblk0, iblk1, iblk2, iblk3, iblk4]
  have eq : ((cfg0.win 5).blk t).view.emb (ix2 y0 y1)
      = ix2 ⟨t.val * 512 + y0.val, by have := t.isLt; have : cfg0.grid.N = 32 := N_0; omega⟩ y1 := by
    funext a
    match a with
    | ⟨0, _⟩ => exact Fin.ext e0
    | ⟨1, _⟩ => exact Fin.ext e1
  refine Eq.trans ?_ (congrArg (G m c) eq).symm
  rfl

/-- The kernel's run: the result array is the layer, the arguments are as launched. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel6Ideal.RefValue

/-! ## The reference -/

namespace Cert.Reference6Ideal.RefValue

open Cert.Reference6Ideal Cert.Reference6Ideal.Gen Cert.Reference6Ideal.Read Idealize.ShloMosaic Idealize.ShloMosaic.TcCoe Idealize.SL.Sem Cert.FfnSpec Cert.PleSpec

/-- The reference's normalised row at an index. -/
theorem v12_apply (x0 : (⟨S16384x1024, .f32⟩ : BufTy).Contents (Elt Ideal)) (x2 : (⟨S1024, .f32⟩ : BufTy).Contents (Elt Ideal))
    (r : Fin 16384) (e : Fin 1024) :
    val_main_v12 (F := Ideal) x0 x2 (ix2 r e) = rms (fun a => x0 (ix2 r a)) (fun a => x2 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's flattened embedding rows at an index. -/
theorem v20_apply (x1 : (⟨S8x2048x256, .f32⟩ : BufTy).Contents (Elt Ideal)) (r : Fin 16384) (k : Fin 256) :
    val_main_v20 (F := Ideal) x1 (ix2 r k) = x1 (ix3 ⟨r.val / 2048, by omega⟩ ⟨r.val % 2048, by omega⟩ k) := by
  unfold val_main_v20
  refine shapeCast_apply _ shapeCasts_S8x2048x256_S16384x256 _ _ ?_
  rw [Shape.rowMajor_val_three, Shape.rowMajor_val_two]
  show (r.val / 2048 * 2048 + r.val % 2048) * 256 + k.val = r.val * 256 + k.val
  omega

/-- The reference's residual row after the embedding. -/
theorem v23_apply (x0 : (⟨S16384x1024, .f32⟩ : BufTy).Contents (Elt Ideal)) (x1 : (⟨S8x2048x256, .f32⟩ : BufTy).Contents (Elt Ideal))
    (x2 : (⟨S1024, .f32⟩ : BufTy).Contents (Elt Ideal)) (x3 : (⟨S1024x1024, .f32⟩ : BufTy).Contents (Elt Ideal))
    (x4 : (⟨S256x1024, .f32⟩ : BufTy).Contents (Elt Ideal))
    (r : Fin 16384) (d : Fin 1024) :
    val_main_v23 (F := Ideal) x0 x1 x2 x3 x4 (ix2 r d) = layer x0 x1 x2 x3 x4 r d := by
  unfold val_main_v23 val_main_v22 val_main_v21 val_main_v19 val_main_v18 val_main_v17 val_main_v16 val_main_v15 val_main_v14 val_main_v13
    val_main_cst_2 val_main_cst_3
  pointwise
  simp only [v12_apply, v20_apply]
  rfl

/-- The reference's result is the layer. -/
theorem v23_eq (x0 : (⟨S16384x1024, .f32⟩ : BufTy).Contents (Elt Ideal)) (x1 : (⟨S8x2048x256, .f32⟩ : BufTy).Contents (Elt Ideal))
    (x2 : (⟨S1024, .f32⟩ : BufTy).Contents (Elt Ideal)) (x3 : (⟨S1024x1024, .f32⟩ : BufTy).Contents (Elt Ideal))
    (x4 : (⟨S256x1024, .f32⟩ : BufTy).Contents (Elt Ideal)) :
    val_main_v23 (F := Ideal) x0 x1 x2 x3 x4 = fun i : S16384x1024.Idx => layer x0 x1 x2 x3 x4 (i 0) (i 1) := by
  funext i
  idx_vars i
  exact v23_apply x0 x1 x2 x3 x4 i0 i1

end Cert.Reference6Ideal.RefValue

end
-- ==== Proof.PleNormRun.lean ====
/- The last layer's per-layer embedding with the final norm: the kernel's launch and the reference. -/
module

public import proofs.«01_k».proof.Proof.Gen.Kernel7Ideal.Value
public import proofs.«01_k».proof.Proof.Gen.Reference7Ideal.Read
public import proofs.«01_k».proof.Proof.PleSpec
public import Idealize.ShloMosaic.Lib.Claim
public import Idealize.ShloMosaic.Lib.Pipeline.ValueKit

@[expose] public section

set_option maxRecDepth 16384

noncomputable section

/-! ## The kernel -/

namespace Cert.Kernel7Ideal.RefValue

open Cert.Kernel7Ideal Cert.Kernel7Ideal.Gen Idealize.ShloMosaic Idealize.ShloMosaic.TcCoe Idealize.SL.Sem Cert.FfnSpec Cert.PleSpec
open Idealize.ShloMosaic.Pipeline (Dat)

/-- The residual row after the embedding, before the final norm. -/
theorem pay2_apply (v0 : Vec Ideal S512x1024 .f32) (v1 : Vec Ideal S1x1024 .f32) (v16 : Vec Ideal S1024x1024 .bf16) (v26 : Vec Ideal S512x256 .f32)
    (v29 : Vec Ideal S256x1024 .bf16) (p : Fin 512) (d : Fin 1024) :
    k0_pay2 (F := Ideal) v0 v1 v16 v26 v29 (ix2 p d)
      = ple (fun a => v0 (ix2 p a)) (fun a => v1 (ix2 0 a)) (fun k => v26 (ix2 p k)) (fun a b => v16 (ix2 a b)) (fun a b => v29 (ix2 a b)) d := by
  unfold k0_pay2
  pointwise [zero_sub, ple, rms]

/-- One grid point's block, element by element. -/
theorem out_apply (x0 : Vec Ideal S512x1024 .f32) (x1 : Vec Ideal S512x256 .f32) (x2 : Vec Ideal S1x1024 .f32) (x3 : Vec Ideal S1024x1024 .bf16)
    (x4 : Vec Ideal S256x1024 .bf16) (x5 : Vec Ideal S1x1024 .f32) (p : Fin 512) (d : Fin 1024) :
    out0_6 (F := Ideal) x0 x1 x2 x3 x4 x5 (ix2 p d)
      = rms (fun e => ple (fun a => x0 (ix2 p a)) (fun a => x2 (ix2 0 a)) (fun k => x1 (ix2 p k)) (fun a b => x3 (ix2 a b)) (fun a b => x4 (ix2 a b)) e)
          (fun e => x5 (ix2 0 e)) d := by
  have hz : (![0, 0] : Fin 2 → ℕ) = fun _ => 0 := funext fun i => by fin_cases i <;> rfl
  unfold out0_6
  rw [View.canon_unit_zero hz]
  unfold k0_pay1 k0_pay3 k0_pay4
  have hp := pay2_apply (View.ld x0 r0_0) (View.ld x2 r0_1) (View.ld x3 r0_2) (View.ld x1 r0_3) (View.ld x4 r0_4) p
  revert hp
  generalize k0_pay2 (F := Ideal) (View.ld x0 r0_0) (View.ld x2 r0_1) (View.ld x3 r0_2) (View.ld x1 r0_3) (View.ld x4 r0_4) = y
  intro hp
  pointwise [r0_1, rms]
  simp only [hp]
  pointwise [r0_0, r0_1, r0_2, r0_3, r0_4]

variable (m : (ℓ : Loc nD τ sig) → Buf (Elt Ideal) ℓ) (ρ : Dev nD → PrngReg)

/-- The layer over device `c`'s argument arrays. -/
abbrev G (c : Dev nD) : Buf (Elt Ideal) ((c : Thread nD τ).loc main_v5) := fun i : S16384x1024.Idx =>
  layerN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1)

/-- Where each window's block lies at a grid point: the rows move with the point, the weights and the gains stay. -/
theorem idx_facts : ∀ t : Fin grid0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0] := by
  decide +kernel

/-- Input window 0's block is 512 rows of the residual stream. -/
theorem iblk0 (c : Dev nD) (t : Fin cfg0.N) (p : Fin 512) (e : Fin 1024) :
    iblk m c 0 t (ix2 p e) = m ((c : Thread nD τ).loc main_arg0)
      (ix2 ⟨t.val * 512 + p.val, by have := t.isLt; have : cfg0.N = 32 := N_0; omega⟩ e) := by
  have hi := (idx_facts t).1
  unfold iblk
  entry_read
  pointwise
  blk_ext [hi]

/-- Input window 1's block is 512 embedding rows. -/
theorem iblk1 (c : Dev nD) (t : Fin cfg0.N) (p : Fin 512) (e : Fin 256) :
    iblk m c 1 t (ix2 p e) = m ((c : Thread nD τ).loc main_arg1)
      (ix3 ⟨(t.val * 512 + p.val) / 2048, by have := t.isLt; have : cfg0.N = 32 := N_0; omega⟩ ⟨(t.val * 512 + p.val) % 2048, by omega⟩ e) := by
  have hi := (idx_facts t).2.1
  unfold iblk
  entry_read
  blk_simp
  have h0 : ((win0_1.blk t).view.emb (ix2 p e) 0).val = t.val * 512 + p.val := by blk_simp [hi]
  have h1 : ((win0_1.blk t).view.emb (ix2 p e) 1).val = e.val := by blk_simp [hi]
  refine shapeCast_apply _ shapeCasts_S8x2048x256_S16384x256 _ _ ?_
  rw [Shape.rowMajor_val_three, Shape.rowMajor_val_two, h0, h1]
  show ((t.val * 512 + p.val) / 2048 * 2048 + (t.val * 512 + p.val) % 2048) * 256 + e.val = (t.val * 512 + p.val) * 256 + e.val
  omega

/-- Input window 2's block is the gain as one row. -/
theorem iblk2 (c : Dev nD) (t : Fin cfg0.N) (e : Fin 1024) :
    iblk m c 2 t (ix2 0 e) = m ((c : Thread nD τ).loc main_arg2) (ix1 e) := by
  have hi := (idx_facts t).2.2.1
  unfold iblk
  entry_read
  blk_simp
  have h1 : ((win0_2.blk t).view.emb (ix2 0 e) 1).val = e.val := by blk_simp [hi]
  have h0 : ((win0_2.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- Input window 3's block is the gate's weights. -/
theorem iblk3 (c : Dev nD) (t : Fin cfg0.N) (a : Fin 1024) (b : Fin 1024) :
    iblk m c 3 t (ix2 a b) = m ((c : Thread nD τ).loc main_arg3) (ix2 a b) := by
  have hi := (idx_facts t).2.2.2.1
  unfold iblk
  entry_read
  pointwise
  blk_ext [hi]

/-- Input window 4's block is the embedding's weights. -/
theorem iblk4 (c : Dev nD) (t : Fin cfg0.N) (a : Fin 256) (b : Fin 1024) :
    iblk m c 4 t (ix2 a b) = m ((c : Thread nD τ).loc main_arg4) (ix2 a b) := by
  have hi := (idx_facts t).2.2.2.2.1
  unfold iblk
  entry_read
  pointwise
  blk_ext [hi]

/-- Input window 5's block is the final gain as one row. -/
theorem iblk5 (c : Dev nD) (t : Fin cfg0.N) (e : Fin 1024) :
    iblk m c 5 t (ix2 0 e) = m ((c : Thread nD τ).loc main_arg5) (ix1 e) := by
  have hi := (idx_facts t).2.2.2.2.2.1
  unfold iblk
  entry_read
  blk_simp
  have h1 : ((win0_5.blk t).view.emb (ix2 0 e) 1).val = e.val := by blk_simp [hi]
  have h0 : ((win0_5.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- After the run the result array is the layer. -/
theorem final (c : Dev nD) : (dats m 0 c).arrAt 6 cfg0.N = G m c := by
  refine (dats m 0 c).arrAt_eq_of_covers 6 _ (by decide +kernel) fun t hf y => ?_
  blk_simp
  rw [after0_6]
  have hi := (idx_facts t).2.2.2.2.2.2
  idx_vars y
  have e0 : (((cfg0.win 6).blk t).view.emb (ix2 y0 y1) 0).val = t.val * 512 + y0.val := by blk_simp [hi]
  have e1 : (((cfg0.win 6).blk t).view.emb (ix2 y0 y1) 1).val = y1.val := by blk_simp [hi]
  rw [out_apply]
  simp only [iblk0, iblk1, iblk2, iblk3, iblk4, iblk5]
  have eq : ((cfg0.win 6).blk t).view.emb (ix2 y0 y1)
      = ix2 ⟨t.val * 512 + y0.val, by have := t.isLt; have : cfg0.grid.N = 32 := N_0; omega⟩ y1 := by
    funext a
    match a with
    | ⟨0, _⟩ => exact Fin.ext e0
    | ⟨1, _⟩ => exact Fin.ext e1
  refine Eq.trans ?_ (congrArg (G m c) eq).symm
  rfl

/-- The kernel's run: the result array is the layer, the arguments are as launched. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.Kernel7Ideal.RefValue

/-! ## The reference -/

namespace Cert.Reference7Ideal.RefValue

open Cert.Reference7Ideal Cert.Reference7Ideal.Gen Cert.Reference7Ideal.Read Idealize.ShloMosaic Idealize.ShloMosaic.TcCoe Idealize.SL.Sem Cert.FfnSpec Cert.PleSpec

/-- The reference's normalised row at an index. -/
theorem v12_apply (x0 : (⟨S16384x1024, .f32⟩ : BufTy).Contents (Elt Ideal)) (x2 : (⟨S1024, .f32⟩ : BufTy).Contents (Elt Ideal))
    (r : Fin 16384) (e : Fin 1024) :
    val_main_v12 (F := Ideal) x0 x2 (ix2 r e) = rms (fun a => x0 (ix2 r a)) (fun a => x2 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's flattened embedding rows at an index. -/
theorem v20_apply (x1 : (⟨S8x2048x256, .f32⟩ : BufTy).Contents (Elt Ideal)) (r : Fin 16384) (k : Fin 256) :
    val_main_v20 (F := Ideal) x1 (ix2 r k) = x1 (ix3 ⟨r.val / 2048, by omega⟩ ⟨r.val % 2048, by omega⟩ k) := by
  unfold val_main_v20
  refine shapeCast_apply _ shapeCasts_S8x2048x256_S16384x256 _ _ ?_
  rw [Shape.rowMajor_val_three, Shape.rowMajor_val_two]
  show (r.val / 2048 * 2048 + r.val % 2048) * 256 + k.val = r.val * 256 + k.val
  omega

/-- The reference's residual row after the embedding. -/
theorem v23_apply (x0 : (⟨S16384x1024, .f32⟩ : BufTy).Contents (Elt Ideal)) (x1 : (⟨S8x2048x256, .f32⟩ : BufTy).Contents (Elt Ideal))
    (x2 : (⟨S1024, .f32⟩ : BufTy).Contents (Elt Ideal)) (x3 : (⟨S1024x1024, .f32⟩ : BufTy).Contents (Elt Ideal))
    (x4 : (⟨S256x1024, .f32⟩ : BufTy).Contents (Elt Ideal))
    (r : Fin 16384) (d : Fin 1024) :
    val_main_v23 (F := Ideal) x0 x1 x2 x3 x4 (ix2 r d) = layer x0 x1 x2 x3 x4 r d := by
  unfold val_main_v23 val_main_v22 val_main_v21 val_main_v19 val_main_v18 val_main_v17 val_main_v16 val_main_v15 val_main_v14 val_main_v13
    val_main_cst_2 val_main_cst_3
  pointwise
  simp only [v12_apply, v20_apply]
  rfl

/-- The reference's result is the layer with the final norm. -/
theorem v36_apply (x0 : (⟨S16384x1024, .f32⟩ : BufTy).Contents (Elt Ideal)) (x1 : (⟨S8x2048x256, .f32⟩ : BufTy).Contents (Elt Ideal))
    (x2 : (⟨S1024, .f32⟩ : BufTy).Contents (Elt Ideal)) (x3 : (⟨S1024x1024, .f32⟩ : BufTy).Contents (Elt Ideal))
    (x4 : (⟨S256x1024, .f32⟩ : BufTy).Contents (Elt Ideal))
    (x5 : (⟨S1024, .f32⟩ : BufTy).Contents (Elt Ideal)) :
    val_main_v36 (F := Ideal) x0 x1 x2 x3 x4 x5 = fun i : S16384x1024.Idx => layerN x0 x1 x2 x3 x4 x5 (i 0) (i 1) := by
  funext i
  idx_vars i
  unfold val_main_v36 val_main_v33 val_main_v32 val_main_v31 val_main_v30 val_main_v28 val_main_v26 val_main_v25 val_main_v24 val_main_cst_4
    val_main_v27 val_main_cst_5 val_main_v29 val_main_cst_6 val_main_v35 val_main_v34
  pointwise
  simp only [v23_apply]
  rfl

end Cert.Reference7Ideal.RefValue

end
-- ==== Proof.StepRun.lean ====
/- The decode step's norm and projection, for the attention and for the memory layer: launches and references. -/
module

public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.FfnSpec
public import Idealize.ShloMosaic.Lib.Pointwise
public import Idealize.ShloMosaic.Lib.Claim
public import Idealize.ShloMosaic.Lib.Pipeline.ValueKit

@[expose] public section

set_option maxRecDepth 16384

noncomputable section

namespace Cert.StepSpec

open Idealize.ShloMosaic Cert.FfnSpec
open scoped BigOperators

/-- One of the 32 rows normalised and scaled by the gain, times column `n` of the weights. -/
def row {N : ℕ} (x : (⟨2, ![32, 1024]⟩ : Shape).Idx → EReal) (g : (⟨1, ![1024]⟩ : Shape).Idx → EReal)
    (w : (⟨2, ![1024, N]⟩ : Shape).Idx → EReal) (r : Fin 32) (n : Fin N) : EReal :=
  ∑ e : Fin 1024, rms (fun a => x (ix2 r a)) (fun a => g (ix1 a)) e * w (ix2 e n)

/-- The same beside columns of zeros up to 3200. -/
def rowPad (x : (⟨2, ![32, 1024]⟩ : Shape).Idx → EReal) (g : (⟨1, ![1024]⟩ : Shape).Idx → EReal)
    (w : (⟨2, ![1024, 3088]⟩ : Shape).Idx → EReal) (r : Fin 32) (n : Fin 3200) : EReal :=
  if h : n.val < 3088 then row x g w r ⟨n.val, h⟩ else 0

/-- The integer zero as a float is zero. -/
theorem zero_of_int : Scalar.sitofp (F := Ideal) .f32 (0#32) = 0 := by
  show (((0#32 : BitVec 32).toInt : ℝ) : EReal) = 0
  simp

end Cert.StepSpec

/-! ## The kernel of the attention's projection -/

namespace Cert.Kernel8Ideal.RefValue

open Cert.Kernel8Ideal Cert.Kernel8Ideal.Gen Idealize.ShloMosaic Idealize.ShloMosaic.TcCoe Idealize.SL.Sem Cert.FfnSpec Cert.StepSpec
open Idealize.ShloMosaic.Pipeline (Dat)
open scoped BigOperators

/-- The one grid point's block, element by element. -/
theorem out_apply (x0 : Vec Ideal S32x1024 .f32) (x1 : Vec Ideal S1x1024 .f32) (x2 : Vec Ideal S1024x3072 .bf16) (p : Fin 32) (d : Fin 3072) :
    out0_3 (F := Ideal) x0 x1 x2 (ix2 p d) = ∑ e : Fin 1024, rms (fun a => x0 (ix2 p a)) (fun a => x1 (ix2 0 a)) e * x2 (ix2 e d) := by
  have hz : (![0, 0] : Fin 2 → ℕ) = fun _ => 0 := funext fun i => by fin_cases i <;> rfl
  unfold out0_3
  rw [View.canon_unit_zero hz]
  unfold k0_pay1
  pointwise [r0_0, r0_1, r0_2, rms]

variable (m : (ℓ : Loc nD τ sig) → Buf (Elt Ideal) ℓ) (ρ : Dev nD → PrngReg)

/-- The result over device `c`'s argument arrays. -/
abbrev G (c : Dev nD) : Buf (Elt Ideal) ((c : Thread nD τ).loc main_v2) := fun i : S32x3072.Idx =>
  row (m ((c : Thread nD τ).loc main_arg0)) (m ((c : Thread nD τ).loc main_arg1)) (m ((c : Thread nD τ).loc main_arg2)) (i 0) (i 1)

/-- Where each window's block lies. -/
theorem idx_facts : ∀ t : Fin grid0.N, win0_0.index t = ![0, 0] ∧ win0_1.index t = ![0, 0] ∧ win0_2.index t = ![0, 0]
    ∧ win0_3.index t = ![0, 0] := by
  decide +kernel

/-- Input window 0's block is the rows. -/
theorem iblk0 (c : Dev nD) (t : Fin cfg0.N) (p : Fin 32) (e : Fin 1024) :
    iblk m c 0 t (ix2 p e) = m ((c : Thread nD τ).loc main_arg0) (ix2 p e) := by
  have hi := (idx_facts t).1
  unfold iblk
  entry_read
  pointwise
  blk_ext [hi]

/-- Input window 1's block is the gain as one row. -/
theorem iblk1 (c : Dev nD) (t : Fin cfg0.N) (e : Fin 1024) :
    iblk m c 1 t (ix2 0 e) = m ((c : Thread nD τ).loc main_arg1) (ix1 e) := by
  have hi := (idx_facts t).2.1
  unfold iblk
  entry_read
  blk_simp
  have h1 : ((win0_1.blk t).view.emb (ix2 0 e) 1).val = e.val := by blk_simp [hi]
  have h0 : ((win0_1.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- Input window 2's block is the weights. -/
theorem iblk2 (c : Dev nD) (t : Fin cfg0.N) (a : Fin 1024) (b : Fin 3072) :
    iblk m c 2 t (ix2 a b) = m ((c : Thread nD τ).loc main_arg2) (ix2 a b) := by
  have hi := (idx_facts t).2.2.1
  unfold iblk
  entry_read
  pointwise
  blk_ext [hi]

/-- After the run the result array is the product. -/
theorem final (c : Dev nD) : (dats m 0 c).arrAt 3 cfg0.N = G m c := by
  refine (dats m 0 c).arrAt_eq_of_covers 3 _ (by decide +kernel) fun t hf y => ?_
  blk_simp
  rw [after0_3]
  have hi := (idx_facts t).2.2.2
  idx_vars y
  have e0 : (((cfg0.win 3).blk t).view.emb (ix2 y0 y1) 0).val = y0.val := by blk_simp [hi]
  have e1 : (((cfg0.win 3).blk t).view.emb (ix2 y0 y1) 1).val = y1.val := by blk_simp [hi]
  have eq : ((cfg0.win 3).blk t).view.emb (ix2 y0 y1) = ix2 y0 y1 := by
    funext a
    match a with
    | ⟨0, _⟩ => exact Fin.ext e0
    | ⟨1, _⟩ => exact Fin.ext e1
  refine Eq.trans ?_ (congrArg (G m c) eq).symm
  rw [out_apply]
  simp only [iblk0, iblk1, iblk2]
  rfl

/-- The kernel's run: the result array is the product, the arguments are as launched. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel8Ideal.RefValue

/-! ## Its reference -/

namespace Cert.Reference8Ideal.RefValue

open Cert.Reference8Ideal Cert.Reference8Ideal.Gen Cert.Reference8Ideal.Read Idealize.ShloMosaic Idealize.ShloMosaic.TcCoe Idealize.SL.Sem Cert.FfnSpec Cert.StepSpec

variable (x0 : (⟨S32x1024, .f32⟩ : BufTy).Contents (Elt Ideal)) (x1 : (⟨S1024, .f32⟩ : BufTy).Contents (Elt Ideal))
  (x2 : (⟨S1024x3072, .f32⟩ : BufTy).Contents (Elt Ideal))

/-- The reference's normalised row at an index. -/
theorem v12_apply (r : Fin 32) (e : Fin 1024) :
    val_main_v12 (F := Ideal) x0 x1 (ix2 r e) = rms (fun a => x0 (ix2 r a)) (fun a => x1 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's product with the weights at an index. -/
theorem v13_apply (r : Fin 32) (n : Fin 3072) : val_main_v13 (F := Ideal) x0 x1 x2 (ix2 r n) = row x0 x1 x2 r n := by
  unfold val_main_v13
  pointwise
  simp only [v12_apply]
  rfl

/-- The reference's result is the product. -/
theorem v13_eq' : val_main_v13 (F := Ideal) x0 x1 x2 = fun i : S32x3072.Idx => row x0 x1 x2 (i 0) (i 1) := by
  funext i
  idx_vars i
  exact v13_apply x0 x1 x2 i0 i1

end Cert.Reference8Ideal.RefValue

/-! ## The kernel of the memory layer's projection -/

namespace Cert.Kernel9Ideal.RefValue

open Cert.Kernel9Ideal Cert.Kernel9Ideal.Gen Idealize.ShloMosaic Idealize.ShloMosaic.TcCoe Idealize.SL.Sem Cert.FfnSpec Cert.StepSpec
open Idealize.ShloMosaic.Pipeline (Dat)
open scoped BigOperators

/-- The one grid point's block, element by element. -/
theorem out_apply (x0 : Vec Ideal S32x1024 .f32) (x1 : Vec Ideal S1x1024 .f32) (x2 : Vec Ideal S1024x3200 .bf16) (p : Fin 32) (d : Fin 3200) :
    out0_3 (F := Ideal) x0 x1 x2 (ix2 p d) = ∑ e : Fin 1024, rms (fun a => x0 (ix2 p a)) (fun a => x1 (ix2 0 a)) e * x2 (ix2 e d) := by
  have hz : (![0, 0] : Fin 2 → ℕ) = fun _ => 0 := funext fun i => by fin_cases i <;> rfl
  unfold out0_3
  rw [View.canon_unit_zero hz]
  unfold k0_pay1
  pointwise [r0_0, r0_1, r0_2, rms]

variable (m : (ℓ : Loc nD τ sig) → Buf (Elt Ideal) ℓ) (ρ : Dev nD → PrngReg)

/-- The result over device `c`'s argument arrays. -/
abbrev G (c : Dev nD) : Buf (Elt Ideal) ((c : Thread nD τ).loc main_v3) := fun i : S32x3200.Idx =>
  rowPad (m ((c : Thread nD τ).loc main_arg0)) (m ((c : Thread nD τ).loc main_arg1)) (m ((c : Thread nD τ).loc main_arg2)) (i 0) (i 1)

/-- Where each window's block lies. -/
theorem idx_facts : ∀ t : Fin grid0.N, win0_0.index t = ![0, 0] ∧ win0_1.index t = ![0, 0] ∧ win0_2.index t = ![0, 0]
    ∧ win0_3.index t = ![0, 0] := by
  decide +kernel

/-- Input window 0's block is the rows. -/
theorem iblk0 (c : Dev nD) (t : Fin cfg0.N) (p : Fin 32) (e : Fin 1024) :
    iblk m c 0 t (ix2 p e) = m ((c : Thread nD τ).loc main_arg0) (ix2 p e) := by
  have hi := (idx_facts t).1
  unfold iblk
  entry_read
  pointwise
  blk_ext [hi]

/-- Input window 1's block is the gain as one row. -/
theorem iblk1 (c : Dev nD) (t : Fin cfg0.N) (e : Fin 1024) :
    iblk m c 1 t (ix2 0 e) = m ((c : Thread nD τ).loc main_arg1) (ix1 e) := by
  have hi := (idx_facts t).2.1
  unfold iblk
  entry_read
  blk_simp
  have h1 : ((win0_1.blk t).view.emb (ix2 0 e) 1).val = e.val := by blk_simp [hi]
  have h0 : ((win0_1.blk t).view.emb (ix2 0 e) 0).val = 0 := by blk_simp [hi]; rfl
  refine shapeCast_apply _ shapeCasts_S1024_S1x1024 _ _ ?_
  rw [Shape.rowMajor_val_one, Shape.rowMajor_val_two, h0, h1]
  show e.val = 0 * 1024 + e.val
  omega

/-- The weights with zero columns up to 3200. -/
def padW (w : Vec Ideal S1024x3088 .f32) : Vec Ideal S1024x3200 .bf16 := truncf (F := Ideal) .bf16 (pad S1024x3200 ![0, 0] ![0, 112] ![0, 0] w
    (sitofp (F := Ideal) .f32 (constantI S_ 32 0#32)) pads_S1024x3088_S1024x3200_000_01120 h_S_) bitsLt_bf16_f32

/-- The padded weights when the launch starts. -/
theorem V_weights (c : Dev nD) : (V m c main_v2 : Vec Ideal S1024x3200 .bf16) = padW (m ((c : Thread nD τ).loc main_arg2)) := rfl

/-- Input window 2's block is the padded weights. -/
theorem iblk2_eq (c : Dev nD) (t : Fin cfg0.N) (a : Fin 1024) (b : Fin 3200) :
    iblk m c 2 t (ix2 a b) = (V m c main_v2 : Vec Ideal S1024x3200 .bf16) (ix2 a b) := by
  have hi := (idx_facts t).2.2.1
  unfold iblk
  have e0 : ((win0_2.blk t).view.emb (ix2 a b) 0).val = a.val := by blk_simp [hi]
  have e1 : ((win0_2.blk t).view.emb (ix2 a b) 1).val = b.val := by blk_simp [hi]
  have eq : (win0_2.blk t).view.emb (ix2 a b) = ix2 a b := by
    funext i
    match i with
    | ⟨0, _⟩ => exact Fin.ext e0
    | ⟨1, _⟩ => exact Fin.ext e1
  exact congrArg (V m c main_v2 : Vec Ideal S1024x3200 .bf16) eq

/-- Inside the weights' columns the padded weights are the weights. -/
theorem iblk2 (c : Dev nD) (t : Fin cfg0.N) (a : Fin 1024) (b : Fin 3088) :
    iblk m c 2 t (ix2 a ⟨b.val, by omega⟩) = m ((c : Thread nD τ).loc main_arg2) (ix2 a b) := by
  rw [iblk2_eq, V_weights]
  unfold padW
  pointwise

/-- Beyond the weights' columns the padded weights are zero. -/
theorem iblk2_pad (c : Dev nD) (t : Fin cfg0.N) (a : Fin 1024) (b : Fin 3200) (hb : 3088 ≤ b.val) : iblk m c 2 t (ix2 a b) = (0 : EReal) := by
  rw [iblk2_eq, V_weights]
  unfold padW
  pointwise
  exact (dif_neg (by omega)).trans zero_of_int

/-- After the run the result array is the product. -/
theorem final (c : Dev nD) : (dats m 0 c).arrAt 3 cfg0.N = G m c := by
  refine (dats m 0 c).arrAt_eq_of_covers 3 _ (by decide +kernel) fun t hf y => ?_
  blk_simp
  rw [after0_3]
  have hi := (idx_facts t).2.2.2
  idx_vars y
  have e0 : (((cfg0.win 3).blk t).view.emb (ix2 y0 y1) 0).val = y0.val := by blk_simp [hi]
  have e1 : (((cfg0.win 3).blk t).view.emb (ix2 y0 y1) 1).val = y1.val := by blk_simp [hi]
  have eq : ((cfg0.win 3).blk t).view.emb (ix2 y0 y1) = ix2 y0 y1 := by
    funext a
    match a with
    | ⟨0, _⟩ => exact Fin.ext e0
    | ⟨1, _⟩ => exact Fin.ext e1
  refine Eq.trans ?_ (congrArg (G m c) eq).symm
  rw [out_apply]
  show _ = rowPad (m ((c : Thread nD τ).loc main_arg0)) (m ((c : Thread nD τ).loc main_arg1)) (m ((c : Thread nD τ).loc main_arg2)) y0 y1
  unfold rowPad
  by_cases h : y1.val < 3088
  · rw [dif_pos h]
    have hw : ∀ e : Fin 1024, iblk m c 2 t (ix2 e y1) = m ((c : Thread nD τ).loc main_arg2) (ix2 e ⟨y1.val, h⟩) :=
      fun e => iblk2 m c t e ⟨y1.val, h⟩
    simp only [iblk0, iblk1, hw]
    rfl
  · rw [dif_neg h]
    simp only [iblk2_pad m c t _ y1 (Nat.le_of_not_lt h), mul_zero, Finset.sum_const_zero]

/-- The kernel's run: the result array is the product, the arguments are as launched. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel9Ideal.RefValue

/-! ## Its reference -/

namespace Cert.Reference9Ideal.RefValue

open Cert.Reference9Ideal Cert.Reference9Ideal.Gen Cert.Reference9Ideal.Read Idealize.ShloMosaic Idealize.ShloMosaic.TcCoe Idealize.SL.Sem Cert.FfnSpec Cert.StepSpec

variable (x0 : (⟨S32x1024, .f32⟩ : BufTy).Contents (Elt Ideal)) (x1 : (⟨S1024, .f32⟩ : BufTy).Contents (Elt Ideal))
  (x2 : (⟨S1024x3088, .f32⟩ : BufTy).Contents (Elt Ideal))

/-- The reference's normalised row at an index. -/
theorem v12_apply (r : Fin 32) (e : Fin 1024) :
    val_main_v12 (F := Ideal) x0 x1 (ix2 r e) = rms (fun a => x0 (ix2 r a)) (fun a => x1 (ix1 a)) e := by
  unfold val_main_v12 val_main_v9 val_main_v8 val_main_v7 val_main_v6 val_main_v4 val_main_v2 val_main_v1 val_main_v0 val_main_cst
    val_main_v3 val_main_cst_0 val_main_v5 val_main_cst_1 val_main_v11 val_main_v10
  pointwise [rms]

/-- The reference's product with the weights at an index. -/
theorem v13_apply (r : Fin 32) (n : Fin 3088) : val_main_v13 (F := Ideal) x0 x1 x2 (ix2 r n) = row x0 x1 x2 r n := by
  unfold val_main_v13
  pointwise
  simp only [v12_apply]
  rfl

/-- The reference's result is the product beside its columns of zeros. -/
theorem v14_eq' : val_main_v14 (F := Ideal) x0 x1 x2 = fun i : S32x3200.Idx => rowPad x0 x1 x2 (i 0) (i 1) := by
  funext i
  idx_vars i
  show _ = rowPad x0 x1 x2 i0 i1
  unfold rowPad
  by_cases h : i1.val < 3088
  · rw [dif_pos h]
    unfold val_main_v14
    pointwise
    simp only [v13_apply]
    exact dif_pos h
  · rw [dif_neg h]
    unfold val_main_v14 val_main_call0_v0 val_main_c
    pointwise
    exact (dif_neg h).trans zero_of_int

end Cert.Reference9Ideal.RefValue

end
-- ==== Proof.MlMath.lean ====
/- The arithmetic of one head's gated memory over one sequence, over the reals: the running sums of the forget gates, the
   running maximum, the weights, and how a block of rows extends the memory. -/
module

public import proofs.«01_k».proof.Proof.AttnMath

@[expose] public section

noncomputable section

namespace Cert.MlMath

open Idealize.ShloMosaic Cert.AttnMath
open scoped BigOperators

/-- The sum of the first `n` forget gates' logarithms. -/
def S (f : ℕ → ℝ) (n : ℕ) : ℝ := ∑ u ∈ Finset.range n, f u

/-- The input gate at position `s` less the forget gates up to it. -/
def A (f i : ℕ → ℝ) (s : ℕ) : ℝ := i s - S f (s + 1)

/-- The largest of zero and of the first `n` of those differences. -/
def P (f i : ℕ → ℝ) : ℕ → ℝ
  | 0 => 0
  | n + 1 => max (P f i n) (A f i n)

/-- The stabiliser after `n` positions. -/
def M (f i : ℕ → ℝ) (n : ℕ) : ℝ := S f n + P f i n

theorem S_succ (f : ℕ → ℝ) (n : ℕ) : S f (n + 1) = S f n + f n := Finset.sum_range_succ f n

/-- The sums over a block on top of those before it. -/
theorem S_add (f : ℕ → ℝ) (T n : ℕ) : S f (T + n) = S f T + ∑ u ∈ Finset.range n, f (T + u) := by
  unfold S
  rw [Finset.sum_range_add]

/-- A sum over the rows of a block against the column of ones up to row `r`. -/
theorem sum_upto (L : ℕ) (f : ℕ → ℝ) (T : ℕ) (r : Fin L) :
    (∑ u : Fin L, (if u.val ≤ r.val then f (T + u.val) else 0)) = S f (T + r.val + 1) - S f T := by
  rw [Fin.sum_univ_eq_sum_range (fun u => if u ≤ r.val then f (T + u) else 0) L, add_assoc, S_add, add_sub_cancel_left,
    ← Finset.sum_filter]
  refine Finset.sum_congr (Finset.ext fun u => ?_) fun _ _ => rfl
  have := r.isLt
  simp only [Finset.mem_filter, Finset.mem_range]
  omega

theorem P_le_succ (f i : ℕ → ℝ) (n : ℕ) : P f i n ≤ P f i (n + 1) := le_max_left _ _

theorem P_mono (f i : ℕ → ℝ) (T n : ℕ) : P f i T ≤ P f i (T + n) := by
  induction n with
  | zero => exact le_refl _
  | succ n ih => exact ih.trans (P_le_succ f i (T + n))

theorem A_le (f i : ℕ → ℝ) (T n c : ℕ) (h : c < n) : A f i (T + c) ≤ P f i (T + n) := by
  have h1 : A f i (T + c) ≤ P f i (T + c + 1) := le_max_right _ _
  have h2 := P_mono f i (T + c + 1) (n - c - 1)
  rw [show T + c + 1 + (n - c - 1) = T + n by omega] at h2
  exact h1.trans h2

/-- The running maximum is the one before the block or one of the block's differences. -/
theorem P_attain (f i : ℕ → ℝ) (T n : ℕ) : P f i (T + n) = P f i T ∨ ∃ c, c < n ∧ P f i (T + n) = A f i (T + c) := by
  induction n with
  | zero => exact Or.inl rfl
  | succ n ih =>
    rcases max_choice (P f i (T + n)) (A f i (T + n)) with h | h
    · rcases ih with e | ⟨c, hc, e⟩
      · exact Or.inl (h.trans e)
      · exact Or.inr ⟨c, by omega, h.trans e⟩
    · exact Or.inr ⟨n, by omega, h⟩

/-- The stabiliser of row `r` of a block from the masked maximum over the block and the one before it. -/
theorem sup_eq (f i : ℕ → ℝ) (L T : ℕ) (r : Fin L) (g : Fin L → EReal)
    (hg : ∀ c : Fin L, g c = if c.val ≤ r.val then ((S f (T + r.val + 1) + A f i (T + c.val) : ℝ) : EReal) else ⊥) :
    max ((S f (T + r.val + 1) + P f i T : ℝ) : EReal) (Finset.univ.sup g) = ((M f i (T + r.val + 1) : ℝ) : EReal) := by
  have hr := r.isLt
  unfold M
  apply le_antisymm
  · refine max_le (EReal.coe_le_coe_iff.mpr ?_) (Finset.sup_le fun c _ => ?_)
    · have := P_mono f i T (r.val + 1)
      rw [← add_assoc] at this
      linarith
    · rw [hg]
      split
      · have := A_le f i T (r.val + 1) c.val (by omega)
        rw [← add_assoc] at this
        exact EReal.coe_le_coe_iff.mpr (by linarith)
      · exact bot_le
  · have := P_attain f i T (r.val + 1)
    rw [← add_assoc] at this
    rcases this with e | ⟨c, hc, e⟩
    · rw [e]; exact le_max_left _ _
    · rw [e]
      refine le_trans ?_ (le_max_right _ _)
      have h := Finset.le_sup (f := g) (Finset.mem_univ (⟨c, by omega⟩ : Fin L))
      rw [hg, if_pos (show c ≤ r.val by omega)] at h
      exact h

/-- The weight the row at position `t` gives position `s`: the decay and the input gate times the product of query and key. -/
def W (f i : ℕ → ℝ) (qk : ℕ → ℕ → ℝ) (t s : ℕ) : ℝ := Real.exp (A f i s - P f i (t + 1)) * qk t s

/-- The weighted sum over the positions up to `t` of `x`. -/
def N (f i : ℕ → ℝ) (qk : ℕ → ℕ → ℝ) (x : ℕ → ℝ) (t : ℕ) : ℝ := ∑ s ∈ Finset.range (t + 1), W f i qk t s * x s

/-- The memory after `T` positions: the gated sum of `y s * x s`. -/
def C (f i y x : ℕ → ℝ) (T : ℕ) : ℝ := ∑ s ∈ Finset.range T, Real.exp (A f i s - P f i T) * (y s * x s)

/-- A row's masked weights over a block and the memory before it give its sum over all positions up to it. -/
theorem N_block (f i : ℕ → ℝ) (L D T : ℕ) (r : Fin L) (q : Fin D → ℝ) (k : Fin D → ℕ → ℝ) (qk : ℕ → ℕ → ℝ) (x : ℕ → ℝ)
    (hqk : ∀ s, qk (T + r.val) s = ∑ d, q d * k d s) :
    (∑ c : Fin L, (if c.val ≤ r.val then W f i qk (T + r.val) (T + c.val) else 0) * x (T + c.val))
      + Real.exp (P f i T - P f i (T + r.val + 1)) * (∑ d, q d * C f i (k d) x T) = N f i qk x (T + r.val) := by
  have h1 : (∑ c : Fin L, (if c.val ≤ r.val then W f i qk (T + r.val) (T + c.val) else 0) * x (T + c.val))
      = ∑ c ∈ Finset.range (r.val + 1), W f i qk (T + r.val) (T + c) * x (T + c) := by
    rw [Fin.sum_univ_eq_sum_range (fun c => (if c ≤ r.val then W f i qk (T + r.val) (T + c) else 0) * x (T + c)) L]
    simp only [ite_mul, zero_mul]
    rw [← Finset.sum_filter]
    refine Finset.sum_congr (Finset.ext fun u => ?_) fun _ _ => rfl
    have := r.isLt
    simp only [Finset.mem_filter, Finset.mem_range]
    omega
  have h2 : Real.exp (P f i T - P f i (T + r.val + 1)) * (∑ d, q d * C f i (k d) x T)
      = ∑ s ∈ Finset.range T, W f i qk (T + r.val) s * x s := by
    unfold C W
    rw [Finset.mul_sum]
    simp only [Finset.mul_sum]
    rw [Finset.sum_comm]
    refine Finset.sum_congr rfl fun s _ => ?_
    rw [hqk, Finset.mul_sum, Finset.sum_mul]
    refine Finset.sum_congr rfl fun d _ => ?_
    rw [show A f i s - P f i (T + r.val + 1) = (P f i T - P f i (T + r.val + 1)) + (A f i s - P f i T) by ring, Real.exp_add]
    ring
  unfold N
  rw [h1, h2, add_assoc T, Finset.sum_range_add (fun s => W f i qk (T + r.val) s * x s) T (r.val + 1), add_comm]

/-- A block of rows extends the memory. -/
theorem C_block (f i y x : ℕ → ℝ) (L T : ℕ) :
    Real.exp (P f i T - P f i (T + L)) * C f i y x T
      + (∑ c : Fin L, y (T + c.val) * (x (T + c.val) * Real.exp (A f i (T + c.val) - P f i (T + L)))) = C f i y x (T + L) := by
  unfold C
  rw [Finset.sum_range_add, Finset.mul_sum,
    Fin.sum_univ_eq_sum_range (fun c => y (T + c) * (x (T + c) * Real.exp (A f i (T + c) - P f i (T + L)))) L]
  congr 1
  · refine Finset.sum_congr rfl fun s _ => ?_
    rw [← mul_assoc, ← Real.exp_add]
    congr 2
    ring
  · exact Finset.sum_congr rfl fun s _ => by ring

/-- The masked weight of row `r` of a block on its position `c`, as the exponential of the masked difference. -/
theorem W_coe (f i : ℕ → ℝ) (qk : ℕ → ℕ → ℝ) (T r c : ℕ) :
    Ideal.exp ((if c ≤ r then ((S f (T + r + 1) + A f i (T + c) : ℝ) : EReal) else ⊥) - ((M f i (T + r + 1) : ℝ) : EReal))
        * ((qk (T + r) (T + c) : ℝ) : EReal)
      = ((if c ≤ r then W f i qk (T + r) (T + c) else 0 : ℝ) : EReal) := by
  by_cases h : c ≤ r
  · rw [if_pos h, if_pos h, ← EReal.coe_sub, exp_coe, ← EReal.coe_mul]
    unfold W M
    congr 3
    ring
  · rw [if_neg h, if_neg h, EReal.bot_sub, show Ideal.exp (⊥ : EReal) = ((0 : ℝ) : EReal) from rfl, ← EReal.coe_mul, zero_mul]

/-- A signed comparison of small natural numbers. -/
theorem sle_nat (a b : ℕ) (ha : a < 2147483648) (hb : b < 2147483648) :
    IntOp.cmpi .sle (BitVec.ofNat 32 a) (BitVec.ofNat 32 b) = if a ≤ b then 1#1 else 0#1 := by
  simp only [IntOp.cmpi, BitVec.sle, toInt_nat _ ha, toInt_nat _ hb, Nat.cast_le]
  by_cases h : a ≤ b
  · rw [if_pos h, decide_eq_true h]; rfl
  · rw [if_neg h, decide_eq_false h]; rfl

/-- A selection on a comparison. -/
theorem select_ite (c : Prop) [Decidable c] (x y : EReal) :
    Scalar.select (if c then 1#1 else 0#1) x y = if c then x else y := by
  split <;> rfl

/-- The word of the negative infinity. -/
theorem neg_inf : Ideal.ofBits .f32 0xFF800000#32 = (⊥ : EReal) := by simp [Ideal.ofBits, Ideal.ieee]

end Cert.MlMath

end
-- ==== Proof.MlSpec.lean ====
/- The gated memory as functions of its argument arrays. -/
module

public import proofs.«01_k».proof.Proof.MlMath
public import Idealize.ShloMosaic.Lib.Pointwise

@[expose] public section

noncomputable section

namespace Cert.MlSpec

open Idealize.ShloMosaic Cert.AttnMath Cert.MlMath
open scoped BigOperators

/-- The arrays: queries and values by head, sequence row and dimension; keys by head, block of 256 rows, dimension and row;
    the output's gates by row and column; the memory's gates by row and column, with their biases; the gains. -/
abbrev SQ : Shape := ⟨3, ![8, 16384, 64]⟩
abbrev SK : Shape := ⟨4, ![8, 64, 64, 256]⟩
abbrev SV : Shape := ⟨3, ![8, 16384, 128]⟩
abbrev SO : Shape := ⟨2, ![16384, 1024]⟩
abbrev SG : Shape := ⟨2, ![16384, 128]⟩
abbrev SB : Shape := ⟨1, ![16]⟩
abbrev SH : Shape := ⟨2, ![8, 128]⟩

/-- The row of position `t` of sequence `b`. -/
abbrev row (b : Fin 8) (t : ℕ) : Fin 16384 := ⟨(b.val * 2048 + t) % 16384, by omega⟩

section
variable (qb : SQ.Idx → EReal) (ktb : SK.Idx → EReal) (vb : SV.Idx → EReal) (og : SO.Idx → EReal) (gates : SG.Idx → EReal)
  (bg : SB.Idx → EReal) (hg : SH.Idx → EReal) (b h : Fin 8)

/-- Gate `j` at position `t`, with its bias. -/
def gR (j : Fin 16) (t : ℕ) : ℝ := (gates (ix2 (row b t) ⟨j.val, by omega⟩) + bg (ix1 j)).toReal

/-- The logarithm of the forget gate and the input gate. -/
def fR (t : ℕ) : ℝ := -sp (-gR gates bg b ⟨h.val + 8, by omega⟩ t)
def iR (t : ℕ) : ℝ := gR gates bg b ⟨h.val, by omega⟩ t

/-- Queries, keys and values by position; after the values a column of ones, then noughts. -/
def qR (t : ℕ) (d : Fin 64) : ℝ := (qb (ix3 h (row b t) d)).toReal
def kR (d : Fin 64) (t : ℕ) : ℝ := (ktb (ix4 h ⟨(b.val * 8 + t / 256) % 64, by omega⟩ d ⟨t % 256, by omega⟩)).toReal
def xR (e : Fin 256) (t : ℕ) : ℝ :=
  if he : e.val < 128 then (vb (ix3 h (row b t) ⟨e.val, he⟩)).toReal else if e.val = 128 then 1 else 0

/-- The product of the query at `t` and the key at `s`. -/
abbrev qkR (t s : ℕ) : ℝ := ∑ d, qR qb b h t d * kR ktb b h d s

/-- What the memory gives at position `t`, in dimension `e`. -/
def hE (t : ℕ) (e : Fin 128) : EReal :=
  Ideal.div ((N (fR gates bg b h) (iR gates bg b h) (qkR qb ktb b h) (xR vb b h ⟨e.val, by omega⟩) t : ℝ) : EReal)
    ((max |N (fR gates bg b h) (iR gates bg b h) (qkR qb ktb b h) (xR vb b h 128) t|
      (Real.exp (-M (fR gates bg b h) (iR gates bg b h) (t + 1))) : ℝ) : EReal)
end

/-- A row's values scaled by their root mean square and a gain, times the gate. -/
def nrm (x : Fin 128 → EReal) (g o : EReal) (e : Fin 128) : EReal :=
  Ideal.div 1 (1 + Ideal.exp (-o)) * (x e * Ideal.rsqrt (Ideal.div (∑ j, x j * x j) (Ideal.ofBits .f32 0x43000000#32) + Ideal.ofBits .f32 0x358637BD#32) * g)

section
variable (qb : SQ.Idx → EReal) (ktb : SK.Idx → EReal) (vb : SV.Idx → EReal) (og : SO.Idx → EReal) (gates : SG.Idx → EReal)
  (bg : SB.Idx → EReal) (hg : SH.Idx → EReal)

/-- The output at position `t` of sequence `b`, head `h`, dimension `e`. -/
def outE (b : Fin 8) (t : ℕ) (h : Fin 8) (e : Fin 128) : EReal :=
  nrm (hE qb ktb vb gates bg b h t) (hg (ix2 h e)) (og (ix2 (row b t) ⟨128 * h.val + e.val, by omega⟩)) e

/-- The memory after sequence `b`, and its stabiliser. -/
def memE (b h : Fin 8) (d : Fin 64) (e : Fin 256) : EReal :=
  ((C (fR gates bg b h) (iR gates bg b h) (kR ktb b h d) (xR vb b h e) 2048 : ℝ) : EReal)
def stabE (b h : Fin 8) : EReal := ((M (fR gates bg b h) (iR gates bg b h) 2048 : ℝ) : EReal)

/-- Every query, key and value, and every gate with its bias, is a real number. -/
structure Reals : Prop where
  hq : ∀ h r d, qb (ix3 h r d) = ((qb (ix3 h r d)).toReal : EReal)
  hk : ∀ h j d s, ktb (ix4 h j d s) = ((ktb (ix4 h j d s)).toReal : EReal)
  hv : ∀ h r e, vb (ix3 h r e) = ((vb (ix3 h r e)).toReal : EReal)
  hg : ∀ r (j : Fin 16), gates (ix2 r ⟨j.val, by omega⟩) + bg (ix1 j) = ((gates (ix2 r ⟨j.val, by omega⟩) + bg (ix1 j)).toReal : EReal)
end

end Cert.MlSpec

end
-- ==== Proof.MlHead.lean ====
/- One head's block of 256 rows of the memory kernel, as functions of the head's slices: the stabiliser, the masked
   weights, the output rows and the memory it leaves. -/
module

public import proofs.«01_k».proof.Proof.Gen.Kernel10Ideal.Skeleton
public import proofs.«01_k».proof.Proof.MlSpec
public import Idealize.ShloMosaic.Lib.IdealHost

@[expose] public section

set_option maxRecDepth 16384

noncomputable section

namespace Cert.Kernel10Ideal.Head

open Cert.Kernel10Ideal Cert.Kernel10Ideal.Gen Idealize.ShloMosaic Idealize.ShloMosaic.TcCoe Cert.AttnMath Cert.MlMath Cert.MlSpec
open scoped BigOperators

section
variable (mask : IVec S256x256 1) (one : FVec Ideal S256x128 .f32) (bcol igcol : FVec Ideal S256x1 .f32) (u : FVec Ideal S1x256 .f32)
  (mp : Vec Ideal S1x1x1 .f32) (cx : Vec Ideal S1x64x256 .f32) (q : Vec Ideal S1x256x64 .bf16) (k : Vec Ideal S1x1x64x256 .bf16)
  (v : Vec Ideal S1x256x128 .bf16) (hg : Vec Ideal S1x1x128 .f32) (og : Vec Ideal S256x128 .f32)

/-- The masked differences: a row's forget gates from a position on, and that position's input gate. -/
def hD : FVec Ideal S256x256 .f32 :=
  select mask (addf (broadcastTo S256x256 bcol broadcasts_S256x1_S256x256) (broadcastTo S256x256 u broadcasts_S1x256_S256x256))
    (broadcast S256x256 (Scalar.ofBits .f32 0xFF800000#32))

/-- The stabiliser before the block carried to each row. -/
def hI : FVec Ideal S256x1 .f32 := addf bcol (broadcastTo S256x1 (shapeCast S1x1 mp shapeCasts_S1x1x1_S1x1) broadcasts_S1x1_S256x1)

/-- The rows' stabilisers. -/
def hM : FVec Ideal S256x1 .f32 :=
  maximumf (hI bcol mp) (shapeCast S256x1 (multiReduction .maximumf [1] S256 (hD mask bcol u) 0xFF800000#32 reduces_S256x256_S256 (.inl rfl) rfl) shapeCasts_S256_S256x1)

/-- The weights within the block. -/
def hW : FVec Ideal S256x256 .f32 :=
  mulf (exp (subf (hD mask bcol u) (broadcastTo S256x256 (hM mask bcol u mp) broadcasts_S256x1_S256x256)))
    (matmul dot_S256x64_S64x256_S256x256_1_0_0_1_n_n none (shapeCast S256x64 q shapeCasts_S1x256x64_S256x64 : FVec Ideal S256x64 .bf16)
      (shapeCast S64x256 k shapeCasts_S1x1x64x256_S64x256 : FVec Ideal S64x256 .bf16) (constant S256x256 .f32 0x00000000#32))

/-- The decay of the memory before the block at each row. -/
def hG : FVec Ideal S256x1 .f32 := exp (subf (hI bcol mp) (hM mask bcol u mp))

/-- The memory before the block read by the queries. -/
def hR : FVec Ideal S256x256 .f32 :=
  matmul dot_S256x64_S64x256_S256x256_1_0_0_1_n_n none (shapeCast S256x64 q shapeCasts_S1x256x64_S256x64 : FVec Ideal S256x64 .bf16)
    (truncf .bf16 (shapeCast S64x256 cx shapeCasts_S1x64x256_S64x256 : FVec Ideal S64x256 .f32) bitsLt_bf16_f32) (constant S256x256 .f32 0x00000000#32)

/-- The numerators. -/
def hN : FVec Ideal S256x128 .f32 :=
  addf (matmul dot_S256x256_S256x128_S256x128_1_0_0_1_n_n none (truncf .bf16 (hW mask bcol u mp q k) bitsLt_bf16_f32)
      (shapeCast S256x128 v shapeCasts_S1x256x128_S256x128 : FVec Ideal S256x128 .bf16) (constant S256x128 .f32 0x00000000#32))
    (mulf (broadcastTo S256x128 (hG mask bcol u mp) broadcasts_S256x1_S256x128)
      (extractStridedSlice S256x128 ![0, 0] (hR cx q) slices_S256x256_o0_0_S256x128))

/-- The denominators. -/
def hDen : FVec Ideal S256x1 .f32 :=
  addf (shapeCast S256x1 (multiReduction .add [1] S256 (hW mask bcol u mp q k) 0x00000000#32 reduces_S256x256_S256 (.inl rfl) rfl) shapeCasts_S256_S256x1)
    (mulf (hG mask bcol u mp) (extractStridedSlice S256x1 ![0, 128] (hR cx q) slices_S256x256_o0_128_S256x1))

/-- The rows read from the memory. -/
def hV : FVec Ideal S256x128 .f32 :=
  mulf (hN mask bcol u mp cx q k v) (broadcastTo S256x128 (divf (broadcast S256x1 (Scalar.ofBits .f32 0x3F800000#32))
    (maximumf (absf (hDen mask bcol u mp cx q k))
      (exp (subf (broadcast S256x1 (Scalar.ofBits .f32 0x00000000#32)) (hM mask bcol u mp))))) broadcasts_S256x1_S256x128)

/-- Rows scaled by their root mean square and by a gain, times the gate. -/
def norm (x : FVec Ideal S256x128 .f32) : FVec Ideal S256x128 .bf16 :=
  truncf .bf16 (mulf (divf (broadcast S256x128 (Scalar.ofBits .f32 0x3F800000#32))
      (addf (broadcast S256x128 (Scalar.ofBits .f32 0x3F800000#32)) (exp (subf (broadcast S256x128 (Scalar.ofBits .f32 0x00000000#32)) og))))
    (mulf (mulf x (broadcastTo S256x128 (rsqrt (addf (divf (shapeCast S256x1 (multiReduction .add [1] S256
          (mulf x x) 0x00000000#32 reduces_S256x128_S256 (.inl rfl) rfl) shapeCasts_S256_S256x1)
        (broadcast S256x1 (Scalar.ofBits .f32 0x43000000#32))) (broadcast S256x1 (Scalar.ofBits .f32 0x358637BD#32)))) broadcasts_S256x1_S256x128))
      (broadcastTo S256x128 (shapeCast S1x128 hg shapeCasts_S1x1x128_S1x128) broadcasts_S1x128_S256x128))) bitsLt_bf16_f32

/-- The output rows. -/
def hO : FVec Ideal S256x128 .bf16 := norm hg og (hV mask bcol u mp cx q k v)

/-- The stabiliser after the block. -/
def hL : FVec Ideal S1x1 .f32 := extractStridedSlice S1x1 ![255, 0] (hM mask bcol u mp) slices_S256x1_o255_0_S1x1

/-- The memory after the block. -/
def hC : FVec Ideal S1x64x256 .f32 :=
  shapeCast S1x64x256 (addf (mulf (broadcastTo S64x256 (exp (subf (addf (extractStridedSlice S1x1 ![255, 0] bcol slices_S256x1_o255_0_S1x1)
        (shapeCast S1x1 mp shapeCasts_S1x1x1_S1x1)) (hL mask bcol u mp))) broadcasts_S1x1_S64x256)
      (shapeCast S64x256 cx shapeCasts_S1x64x256_S64x256 : FVec Ideal S64x256 .f32))
    (matmul dot_S64x256_S256x256_S64x256_1_0_0_1_n_n none (shapeCast S64x256 k shapeCasts_S1x1x64x256_S64x256 : FVec Ideal S64x256 .bf16)
      (truncf .bf16 (mulf ((concatenate S256x256 1 [⟨S256x128, (extf .f32 (shapeCast S256x128 v shapeCasts_S1x256x128_S256x128 : FVec Ideal S256x128 .bf16) bitsLt_bf16_f32 : FVec Ideal S256x128 .f32)⟩,
          ⟨S256x128, one⟩] concatenates_S256x128_S256x128_S256x256_d1 : FVec Ideal S256x256 .f32))
        (broadcastTo S256x256 (exp (subf (addf (subf (broadcastTo S256x1 (extractStridedSlice S1x1 ![255, 0] bcol slices_S256x1_o255_0_S1x1)
          broadcasts_S1x1_S256x1) bcol) igcol) (broadcastTo S256x1 (hL mask bcol u mp) broadcasts_S1x1_S256x1))) broadcasts_S256x1_S256x256))
        bitsLt_bf16_f32) (constant S64x256 .f32 0x00000000#32))) shapeCasts_S64x256_S1x64x256

/-- The stabiliser after the block, in every entry of a tile. -/
def hT : FVec Ideal S1x8x128 .f32 :=
  shapeCast S1x8x128 (broadcastTo S8x128 (shapeCast S1x1 (hL mask bcol u mp) shapeCasts_S1x1_S1x1) broadcasts_S1x1_S8x128) shapeCasts_S8x128_S1x8x128
end

section
variable {one : FVec Ideal S256x128 .f32} {bcol igcol : FVec Ideal S256x1 .f32} {u : FVec Ideal S1x256 .f32}
  {mp : Vec Ideal S1x1x1 .f32} {cx : Vec Ideal S1x64x256 .f32} {q : Vec Ideal S1x256x64 .bf16} {k : Vec Ideal S1x1x64x256 .bf16}
  {v : Vec Ideal S1x256x128 .bf16} {hg : Vec Ideal S1x1x128 .f32} {og : Vec Ideal S256x128 .f32}

/-- The mask: a row sees the positions up to it. -/
theorem pay9_apply (r s : Fin 256) : k0_pay9 (ix2 r s) = if s.val ≤ r.val then 1#1 else 0#1 := by
  pointwise [k0_pay9]
  exact sle_nat _ _ (by have := s.isLt; omega) (by have := r.isLt; omega)

theorem hD_apply (r s : Fin 256) : hD k0_pay9 bcol u (ix2 r s) = if s.val ≤ r.val then bcol (ix2 r 0) + u (ix2 0 s) else ⊥ := by
  pointwise [hD, pay9_apply]
  rw [select_ite, neg_inf]

theorem hI_apply (r : Fin 256) : hI bcol mp (ix2 r 0) = bcol (ix2 r 0) + mp (ix3 0 0 0) := by
  pointwise [hI]

theorem hM_apply (r : Fin 256) : hM k0_pay9 bcol u mp (ix2 r 0)
    = max (bcol (ix2 r 0) + mp (ix3 0 0 0)) (Finset.univ.sup fun s : Fin 256 => hD k0_pay9 bcol u (ix2 r s)) := by
  pointwise [hM, hI_apply]
  rw [neg_inf]
  rfl

theorem hW_apply (r s : Fin 256) : hW k0_pay9 bcol u mp q k (ix2 r s)
    = Ideal.exp (hD k0_pay9 bcol u (ix2 r s) - hM k0_pay9 bcol u mp (ix2 r 0)) * ∑ d : Fin 64, q (ix3 0 r d) * k (ix4 0 0 d s) := by
  pointwise [hW]

theorem hG_apply (r : Fin 256) : hG k0_pay9 bcol u mp (ix2 r 0)
    = Ideal.exp (bcol (ix2 r 0) + mp (ix3 0 0 0) - hM k0_pay9 bcol u mp (ix2 r 0)) := by
  pointwise [hG, hI_apply]

theorem hR_apply (r e : Fin 256) : hR cx q (ix2 r e) = ∑ d : Fin 64, q (ix3 0 r d) * cx (ix3 0 d e) := by
  pointwise [hR]

theorem hN_apply (r : Fin 256) (e : Fin 128) : hN k0_pay9 bcol u mp cx q k v (ix2 r e)
    = (∑ s : Fin 256, hW k0_pay9 bcol u mp q k (ix2 r s) * v (ix3 0 s e))
      + hG k0_pay9 bcol u mp (ix2 r 0) * ∑ d : Fin 64, q (ix3 0 r d) * cx (ix3 0 d ⟨e.val, by omega⟩) := by
  pointwise [hN, hR_apply]

theorem hDen_apply (r : Fin 256) : hDen k0_pay9 bcol u mp cx q k (ix2 r 0)
    = (∑ s : Fin 256, hW k0_pay9 bcol u mp q k (ix2 r s))
      + hG k0_pay9 bcol u mp (ix2 r 0) * ∑ d : Fin 64, q (ix3 0 r d) * cx (ix3 0 d 128) := by
  pointwise [hDen, hR_apply]

theorem hV_apply (r : Fin 256) (e : Fin 128) : hV k0_pay9 bcol u mp cx q k v (ix2 r e)
    = hN k0_pay9 bcol u mp cx q k v (ix2 r e) * Ideal.div 1 (max (max (hDen k0_pay9 bcol u mp cx q k (ix2 r 0)) (-hDen k0_pay9 bcol u mp cx q k (ix2 r 0)))
        (Ideal.exp (-hM k0_pay9 bcol u mp (ix2 r 0)))) := by
  pointwise [hV, zero_sub]
  rfl

theorem hL_apply : hL k0_pay9 bcol u mp (ix2 0 0) = hM k0_pay9 bcol u mp (ix2 255 0) := by
  pointwise [hL]

theorem hT_apply (i : Fin 8) (j : Fin 128) : hT k0_pay9 bcol u mp (ix3 0 i j) = hM k0_pay9 bcol u mp (ix2 255 0) := by
  pointwise [hT, hL_apply]

/-- The values and, in the column after them, the ones. -/
theorem hC_apply (d : Fin 64) (e : Fin 256) : hC k0_pay9 one bcol igcol u mp cx k v (ix3 0 d e)
    = Ideal.exp (bcol (ix2 255 0) + mp (ix3 0 0 0) - hM k0_pay9 bcol u mp (ix2 255 0)) * cx (ix3 0 d e)
      + ∑ s : Fin 256, k (ix4 0 0 d s) * ((if h : e.val < 128 then v (ix3 0 s ⟨e.val, h⟩) else one (ix2 s ⟨e.val - 128, by omega⟩))
          * Ideal.exp (bcol (ix2 255 0) - bcol (ix2 s 0) + igcol (ix2 s 0) - hM k0_pay9 bcol u mp (ix2 255 0))) := by
  pointwise [hC, hL_apply]

theorem norm_apply (x : FVec Ideal S256x128 .f32) (r : Fin 256) (e : Fin 128) :
    norm hg og x (ix2 r e) = nrm (fun j => x (ix2 r j)) (hg (ix3 0 0 e)) (og (ix2 r e)) e := by
  pointwise [norm, nrm, zero_sub]
end

end Cert.Kernel10Ideal.Head

end
-- ==== Proof.MlBlock.lean ====
/- The memory kernel's block at a grid point: head by head, the pieces the body stores, as functions of the blocks it reads. -/
module

public import proofs.«01_k».proof.Proof.Gen.Kernel10Ideal.Frame
public import proofs.«01_k».proof.Proof.MlHead
public import Idealize.ShloMosaic.Lib.Pipeline.ReadBack
public import Idealize.ShloMosaic.Lib.Pipeline.CanonAppend

@[expose] public section

set_option maxRecDepth 16384

noncomputable section

namespace Cert.Kernel10Ideal.Block

open Cert.Kernel10Ideal Cert.Kernel10Ideal.Gen Cert.Kernel10Ideal.Head Idealize.ShloMosaic Idealize.ShloMosaic.TcCoe Idealize.ShloMosaic.Tactic

/-- The eight heads' pieces, the last first. -/
def heads {α : Type} (f : (h : ℕ) → h < 8 → α) : List α :=
  [f 7 (by omega), f 6 (by omega), f 5 (by omega), f 4 (by omega), f 3 (by omega), f 2 (by omega), f 1 (by omega), f 0 (by omega)]

theorem mem_heads {α : Type} (f : (h : ℕ) → h < 8 → α) (a : α) : a ∈ heads f ↔ ∃ h hh, a = f h hh := by
  unfold heads
  constructor
  · intro ha
    simp only [List.mem_cons, List.not_mem_nil, or_false] at ha
    rcases ha with rfl | rfl | rfl | rfl | rfl | rfl | rfl | rfl
    · exact ⟨7, by omega, rfl⟩
    · exact ⟨6, by omega, rfl⟩
    · exact ⟨5, by omega, rfl⟩
    · exact ⟨4, by omega, rfl⟩
    · exact ⟨3, by omega, rfl⟩
    · exact ⟨2, by omega, rfl⟩
    · exact ⟨1, by omega, rfl⟩
    · exact ⟨0, by omega, rfl⟩
  · rintro ⟨h, hh, rfl⟩
    interval_cases h <;> simp

section
variable (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) (Z0 : Vec Ideal S8x64x256 .f32) (Z1 : Vec Ideal S8x8x128 .f32)

/-- The gates with their biases. -/
def gt : FVec Ideal S256x128 .f32 := k0_pay6 (View.ld x4 (Rect.unit ![0, 0] ![256, 128] inb_S256x128_S256x128_0_0)) (View.ld x5 (Rect.unit ![0, 0] ![1, 128] inb_S1x128_S1x128_0_0))
/-- The sums of the forget gates over the block. -/
def bc : FVec Ideal S256x128 .f32 := k0_pay7 (View.ld x4 (Rect.unit ![0, 0] ![256, 128] inb_S256x128_S256x128_0_0)) (View.ld x5 (Rect.unit ![0, 0] ![1, 128] inb_S1x128_S1x128_0_0)) (View.ld x7 (Rect.unit ![0, 0] ![256, 256] inb_S256x256_S256x256_0_0))
/-- The input gates less those sums, by column. -/
def ut : FVec Ideal S128x256 .f32 := k0_pay8 (View.ld x4 (Rect.unit ![0, 0] ![256, 128] inb_S256x128_S256x128_0_0)) (View.ld x5 (Rect.unit ![0, 0] ![1, 128] inb_S1x128_S1x128_0_0)) (View.ld x7 (Rect.unit ![0, 0] ![256, 256] inb_S256x256_S256x256_0_0))
/-- The column of ones beside the values. -/
def one : FVec Ideal S256x128 .f32 := k0_pay10 (iota .tc S256x128 32 [1] iota_S256x128_d1_w32)

variable (h : ℕ) (hh : h < 8)

/-- Head `h`'s slices of the blocks. -/
def bcol : FVec Ideal S256x1 .f32 := extractStridedSlice S256x1 ![0, h] (bc x4 x5 x7) ⟨rfl, fun a => by fin_cases a <;> simp <;> omega⟩
def igcol : FVec Ideal S256x1 .f32 := extractStridedSlice S256x1 ![0, h] (gt x4 x5) ⟨rfl, fun a => by fin_cases a <;> simp <;> omega⟩
def urow : FVec Ideal S1x256 .f32 := extractStridedSlice S1x256 ![h, 0] (ut x4 x5 x7) ⟨rfl, fun a => by fin_cases a <;> simp <;> omega⟩
def mpv : Vec Ideal S1x1x1 .f32 := View.ld Z1 (Rect.unit ![h, 0, 0] ![1, 1, 1] (fun a => by fin_cases a <;> simp <;> omega))
def cxv : Vec Ideal S1x64x256 .f32 := View.ld Z0 (Rect.unit ![h, 0, 0] ![1, 64, 256] (fun a => by fin_cases a <;> simp <;> omega))
def qv : Vec Ideal S1x256x64 .bf16 := View.ld x0 (Rect.unit ![h, 0, 0] ![1, 256, 64] (fun a => by fin_cases a <;> simp <;> omega))
def kv : Vec Ideal S1x1x64x256 .bf16 := View.ld x1 (Rect.unit ![h, 0, 0, 0] ![1, 1, 64, 256] (fun a => by fin_cases a <;> simp <;> omega))
def vv : Vec Ideal S1x256x128 .bf16 := View.ld x2 (Rect.unit ![h, 0, 0] ![1, 256, 128] (fun a => by fin_cases a <;> simp <;> omega))
def hgv : Vec Ideal S1x1x128 .f32 := View.ld x6 (Rect.unit ![h, 0, 0] ![1, 1, 128] (fun a => by fin_cases a <;> simp <;> omega))
def ogv : Vec Ideal S256x128 .f32 := View.ld x3 (Rect.unit ![0, 128 * h] ![256, 128] (fun a => by fin_cases a <;> simp <;> omega))

/-- Head `h`'s output rows, memory and stabiliser. -/
def bO : FVec Ideal S256x128 .bf16 :=
  hO k0_pay9 (bcol x4 x5 x7 h hh) (urow x4 x5 x7 h hh) (mpv Z1 h hh) (cxv Z0 h hh) (qv x0 h hh) (kv x1 h hh) (vv x2 h hh) (hgv x6 h hh) (ogv x3 h hh)
def bC : FVec Ideal S1x64x256 .f32 :=
  hC k0_pay9 one (bcol x4 x5 x7 h hh) (igcol x4 x5 h hh) (urow x4 x5 x7 h hh) (mpv Z1 h hh) (cxv Z0 h hh) (kv x1 h hh) (vv x2 h hh)
def bT : FVec Ideal S1x8x128 .f32 := hT k0_pay9 (bcol x4 x5 x7 h hh) (urow x4 x5 x7 h hh) (mpv Z1 h hh)

/-- The piece head `h` stores into each buffer. -/
def pO : View.Piece (Elt Ideal) S256x1024 .bf16 :=
  ⟨Rect.unit ![0, 128 * h] ![256, 128] (fun a => by fin_cases a <;> simp <;> omega), bO x0 x1 x2 x3 x4 x5 x6 x7 Z0 Z1 h hh⟩
def pC : View.Piece (Elt Ideal) S8x64x256 .f32 :=
  ⟨Rect.unit ![h, 0, 0] ![1, 64, 256] (fun a => by fin_cases a <;> simp <;> omega), bC x1 x2 x4 x5 x7 Z0 Z1 h hh⟩
def pT : View.Piece (Elt Ideal) S8x8x128 .f32 :=
  ⟨Rect.unit ![h, 0, 0] ![1, 8, 128] (fun a => by fin_cases a <;> simp <;> omega), bT x4 x5 x7 Z1 h hh⟩

end

section
variable (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) (Z0 : Vec Ideal S8x64x256 .f32) (Z1 : Vec Ideal S8x8x128 .f32)

/-- The buffers those pieces make up. -/
def OG : Vec Ideal S256x1024 .bf16 := fun y => bO x0 x1 x2 x3 x4 x5 x6 x7 Z0 Z1 ((y 1).val / 128) (by have h := (y 1).isLt; have e : S256x1024.size 1 = 1024 := rfl; omega)
  (ix2 (y 0) (⟨(y 1).val % 128, by omega⟩ : Fin 128))
def CG : Vec Ideal S8x64x256 .f32 := fun y => bC x1 x2 x4 x5 x7 Z0 Z1 (y 0).val (y 0).isLt (ix3 (0 : Fin 1) (y 1) (y 2))
def TG : Vec Ideal S8x8x128 .f32 := fun y => bT x4 x5 x7 Z1 (y 0).val (y 0).isLt (ix3 (0 : Fin 1) (y 1) (y 2))

section
variable (h : ℕ) (hh : h < 8)

theorem bO_congr (h' : ℕ) (hh' : h' < 8) (e : h = h') (y y' : S256x128.Idx) (e' : y = y') :
    bO x0 x1 x2 x3 x4 x5 x6 x7 Z0 Z1 h hh y = bO x0 x1 x2 x3 x4 x5 x6 x7 Z0 Z1 h' hh' y' := by subst e e'; rfl
theorem bC_congr (h' : ℕ) (hh' : h' < 8) (e : h = h') (y y' : S1x64x256.Idx) (e' : y = y') :
    bC x1 x2 x4 x5 x7 Z0 Z1 h hh y = bC x1 x2 x4 x5 x7 Z0 Z1 h' hh' y' := by subst e e'; rfl
theorem bT_congr (h' : ℕ) (hh' : h' < 8) (e : h = h') (y y' : S1x8x128.Idx) (e' : y = y') :
    bT x4 x5 x7 Z1 h hh y = bT x4 x5 x7 Z1 h' hh' y' := by subst e e'; rfl

theorem pO_ok (x : (pO x0 x1 x2 x3 x4 x5 x6 x7 Z0 Z1 h hh).1.shape.Idx) :
    (pO x0 x1 x2 x3 x4 x5 x6 x7 Z0 Z1 h hh).2 x = OG x0 x1 x2 x3 x4 x5 x6 x7 Z0 Z1 ((pO x0 x1 x2 x3 x4 x5 x6 x7 Z0 Z1 h hh).1.emb x) := by
  have h1 : (x 1).val < 128 := (x 1).isLt
  refine bO_congr x0 x1 x2 x3 x4 x5 x6 x7 Z0 Z1 h hh _ _ ?_ _ _ (funext fun a => Fin.ext ?_)
  · show h = (128 * h + 1 * (x 1).val) / 128
    omega
  · fin_cases a
    · show (x 0).val = 0 + 1 * (x 0).val
      omega
    · show (x 1).val = (128 * h + 1 * (x 1).val) % 128
      omega
theorem pC_ok (x : (pC x1 x2 x4 x5 x7 Z0 Z1 h hh).1.shape.Idx) :
    (pC x1 x2 x4 x5 x7 Z0 Z1 h hh).2 x = CG x1 x2 x4 x5 x7 Z0 Z1 ((pC x1 x2 x4 x5 x7 Z0 Z1 h hh).1.emb x) := by
  have h0 : (x 0).val < 1 := (x 0).isLt
  refine bC_congr x1 x2 x4 x5 x7 Z0 Z1 h hh _ _ ?_ _ _ (funext fun a => Fin.ext ?_)
  · show h = h + 1 * (x 0).val
    omega
  · fin_cases a
    · show (x 0).val = 0
      omega
    · show (x 1).val = 0 + 1 * (x 1).val
      omega
    · show (x 2).val = 0 + 1 * (x 2).val
      omega
theorem pT_ok (x : (pT x4 x5 x7 Z1 h hh).1.shape.Idx) :
    (pT x4 x5 x7 Z1 h hh).2 x = TG x4 x5 x7 Z1 ((pT x4 x5 x7 Z1 h hh).1.emb x) := by
  have h0 : (x 0).val < 1 := (x 0).isLt
  refine bT_congr x4 x5 x7 Z1 h hh _ _ ?_ _ _ (funext fun a => Fin.ext ?_)
  · show h = h + 1 * (x 0).val
    omega
  · fin_cases a
    · show (x 0).val = 0
      omega
    · show (x 1).val = 0 + 1 * (x 1).val
      omega
    · show (x 2).val = 0 + 1 * (x 2).val
      omega

end

theorem cover8 (y : S256x1024.Idx) : ∃ p ∈ heads (pO x0 x1 x2 x3 x4 x5 x6 x7 Z0 Z1), y ∈ p.1.set := by
  have hy : (y 1).val < 1024 := (y _).isLt
  have m := (pO x0 x1 x2 x3 x4 x5 x6 x7 Z0 Z1 ((y 1).val / 128) (by omega)).1.idx_mem (ix2 (y 0) (⟨(y 1).val % 128, by omega⟩ : Fin 128))
  have e : (pO x0 x1 x2 x3 x4 x5 x6 x7 Z0 Z1 ((y 1).val / 128) (by omega)).1.idx (ix2 (y 0) (⟨(y 1).val % 128, by omega⟩ : Fin 128)) = y := by
    funext a
    apply Fin.ext
    fin_cases a
    · show 0 + 1 * (y 0).val = (y 0).val
      omega
    · show 128 * ((y 1).val / 128) + 1 * ((y 1).val % 128) = (y 1).val
      omega
  exact ⟨_, (mem_heads _ _).mpr ⟨(y 1).val / 128, by omega, rfl⟩, e ▸ m⟩
theorem coverC (y : S8x64x256.Idx) : ∃ p ∈ heads (pC x1 x2 x4 x5 x7 Z0 Z1), y ∈ p.1.set := by
  have hy : (y 0).val < 8 := (y _).isLt
  have m := (pC x1 x2 x4 x5 x7 Z0 Z1 ((y 0).val) (by omega)).1.idx_mem (ix3 (0 : Fin 1) (y 1) (y 2))
  have e : (pC x1 x2 x4 x5 x7 Z0 Z1 ((y 0).val) (by omega)).1.idx (ix3 (0 : Fin 1) (y 1) (y 2)) = y := by
    funext a
    apply Fin.ext
    fin_cases a
    · show (y 0).val + 1 * 0 = (y 0).val
      omega
    · show 0 + 1 * (y 1).val = (y 1).val
      omega
    · show 0 + 1 * (y 2).val = (y 2).val
      omega
  exact ⟨_, (mem_heads _ _).mpr ⟨(y 0).val, by omega, rfl⟩, e ▸ m⟩
theorem coverT (y : S8x8x128.Idx) : ∃ p ∈ heads (pT x4 x5 x7 Z1), y ∈ p.1.set := by
  have hy : (y 0).val < 8 := (y _).isLt
  have m := (pT x4 x5 x7 Z1 ((y 0).val) (by omega)).1.idx_mem (ix3 (0 : Fin 1) (y 1) (y 2))
  have e : (pT x4 x5 x7 Z1 ((y 0).val) (by omega)).1.idx (ix3 (0 : Fin 1) (y 1) (y 2)) = y := by
    funext a
    apply Fin.ext
    fin_cases a
    · show (y 0).val + 1 * 0 = (y 0).val
      omega
    · show 0 + 1 * (y 1).val = (y 1).val
      omega
    · show 0 + 1 * (y 2).val = (y 2).val
      omega
  exact ⟨_, (mem_heads _ _).mpr ⟨(y 0).val, by omega, rfl⟩, e ▸ m⟩

/-- What the buffers hold after those stores, whatever was stored before. -/
theorem canonO : View.canon (heads (pO x0 x1 x2 x3 x4 x5 x6 x7 Z0 Z1)) = OG x0 x1 x2 x3 x4 x5 x6 x7 Z0 Z1 := by
  funext y
  refine View.canon_apply_of_pieces (Val := Elt Ideal) (e := .bf16) _ _ ?_ y (cover8 x0 x1 x2 x3 x4 x5 x6 x7 Z0 Z1 y)
  intro p hp
  obtain ⟨h, hh, rfl⟩ := (mem_heads _ _).mp hp
  exact pO_ok x0 x1 x2 x3 x4 x5 x6 x7 Z0 Z1 h hh
theorem canonC (L : List (View.Piece (Elt Ideal) S8x64x256 .f32)) : View.canon (heads (pC x1 x2 x4 x5 x7 Z0 Z1) ++ L) = CG x1 x2 x4 x5 x7 Z0 Z1 := by
  funext y
  refine View.canon_append_of_pieces (Val := Elt Ideal) (e := .f32) _ _ _ ?_ y (coverC x1 x2 x4 x5 x7 Z0 Z1 y)
  intro p hp
  obtain ⟨h, hh, rfl⟩ := (mem_heads _ _).mp hp
  exact pC_ok x1 x2 x4 x5 x7 Z0 Z1 h hh
theorem canonT (L : List (View.Piece (Elt Ideal) S8x8x128 .f32)) : View.canon (heads (pT x4 x5 x7 Z1) ++ L) = TG x4 x5 x7 Z1 := by
  funext y
  refine View.canon_append_of_pieces (Val := Elt Ideal) (e := .f32) _ _ _ ?_ y (coverT x4 x5 x7 Z1 y)
  intro p hp
  obtain ⟨h, hh, rfl⟩ := (mem_heads _ _).mp hp
  exact pT_ok x4 x5 x7 Z1 h hh
end

section
variable (c : Dev nD) (i : grid0.Coords) (arg2 : Memref sig .tc .vmem S8x256x64 .bf16) (harg2 : arg2.IsWhole) (arg3 : Memref sig .tc .vmem S8x1x64x256 .bf16) (harg3 : arg3.IsWhole) (arg4 : Memref sig .tc .vmem S8x256x128 .bf16) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S8x1x128 .f32) (harg8 : arg8.IsWhole) (arg9 : Memref sig .tc .vmem S256x256 .bf16) (harg9 : arg9.IsWhole) (arg10 : Memref sig .tc .vmem S256x1024 .bf16) (harg10 : arg10.IsWhole) (arg11 : Memref sig .tc .vmem S1x8x64x256 .f32) (harg11 : arg11.IsWhole) (arg12 : Memref sig .tc .vmem S1x8x8x128 .f32) (harg12 : arg12.IsWhole) (arg13 : Memref sig .tc .vmem S8x64x256 .f32) (harg13 : arg13.IsWhole) (arg14 : Memref sig .tc .vmem S8x8x128 .f32) (harg14 : arg14.IsWhole) (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) (xs0 : Vec Ideal S8x64x256 .f32) (xs1 : Vec Ideal S8x8x128 .f32)

theorem runB_8 (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 = heads (pO x0 x1 x2 x3 x4 x5 x6 x7 xs0 xs1) := by
  unfold kernelRun0_B
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

theorem runB_s0 (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1 = heads (pC x1 x2 x4 x5 x7 xs0 xs1) := by
  unfold kernelRun0_B
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

theorem runB_s1 (hc0 : ¬cond0_0 i) (hc1 : ¬cond0_1 i) : (kernelRun0_B (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1 = heads (pT x4 x5 x7 xs1) := by
  unfold kernelRun0_B
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

theorem runC_8 (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).1 = heads (pO x0 x1 x2 x3 x4 x5 x6 x7 xs0 xs1) := by
  unfold kernelRun0_C
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

theorem runC_s0 (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.1 = heads (pC x1 x2 x4 x5 x7 xs0 xs1) := by
  unfold kernelRun0_C
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

theorem runC_s1 (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.2.2.1 = heads (pT x4 x5 x7 xs1) := by
  unfold kernelRun0_C
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

end

end Cert.Kernel10Ideal.Block

end
-- ==== Proof.MlFirst.lean ====
/- The memory kernel's body at the first point of a row: the pieces it leaves in each buffer. -/
module

public import proofs.«01_k».proof.Proof.MlBlock

@[expose] public section

set_option maxRecDepth 16384

noncomputable section

namespace Cert.Kernel10Ideal.Block

open Cert.Kernel10Ideal Cert.Kernel10Ideal.Gen Cert.Kernel10Ideal.Head Idealize.ShloMosaic Idealize.ShloMosaic.TcCoe Idealize.ShloMosaic.Tactic

/-- The offset of a whole buffer of rank three is nought on each axis. -/
theorem zero3 : ∀ a : Fin 3, (![0, 0, 0] : Fin 3 → ℕ) a = 0 := by
  intro a; fin_cases a <;> rfl

section
variable (c : Dev nD) (i : grid0.Coords) (arg2 : Memref sig .tc .vmem S8x256x64 .bf16) (harg2 : arg2.IsWhole) (arg3 : Memref sig .tc .vmem S8x1x64x256 .bf16) (harg3 : arg3.IsWhole) (arg4 : Memref sig .tc .vmem S8x256x128 .bf16) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S8x1x128 .f32) (harg8 : arg8.IsWhole) (arg9 : Memref sig .tc .vmem S256x256 .bf16) (harg9 : arg9.IsWhole) (arg10 : Memref sig .tc .vmem S256x1024 .bf16) (harg10 : arg10.IsWhole) (arg11 : Memref sig .tc .vmem S1x8x64x256 .f32) (harg11 : arg11.IsWhole) (arg12 : Memref sig .tc .vmem S1x8x8x128 .f32) (harg12 : arg12.IsWhole) (arg13 : Memref sig .tc .vmem S8x64x256 .f32) (harg13 : arg13.IsWhole) (arg14 : Memref sig .tc .vmem S8x8x128 .f32) (harg14 : arg14.IsWhole) (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16)

set_option maxHeartbeats 2000000 in
/-- What the first point leaves in the buffer: the heads' pieces over noughts. -/
theorem runA_8 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).1 = heads (pO x0 x1 x2 x3 x4 x5 x6 x7 (k0_pay4 (F := Ideal)) (k0_pay5 (F := Ideal))) := by
  unfold kernelRun0_A
  dsimp only
  sl_unfold_words
  simp (disch := first | rfl | decide | exact zero3) only [↓View.readCov_skip, ↓View.readCov_fill]
  simp only [View.readAt_eq_ld, harg2.read_unread, harg3.read_unread, harg4.read_unread, harg5.read_unread, harg6.read_unread, harg7.read_unread, harg8.read_unread, harg9.read_unread]
  rfl

set_option maxHeartbeats 2000000 in
/-- What the first point leaves in the buffer: the heads' pieces over noughts. -/
theorem runA_s0 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.1 = heads (pC x1 x2 x4 x5 x7 (k0_pay4 (F := Ideal)) (k0_pay5 (F := Ideal))) ++ [⟨Rect.unit ![0, 0, 0] S8x64x256.size inb_S8x64x256_S8x64x256_0_0_0, (k0_pay4 (F := Ideal))⟩] := by
  unfold kernelRun0_A
  dsimp only
  sl_unfold_words
  simp (disch := first | rfl | decide | exact zero3) only [↓View.readCov_skip, ↓View.readCov_fill]
  simp only [View.readAt_eq_ld, harg2.read_unread, harg3.read_unread, harg4.read_unread, harg5.read_unread, harg6.read_unread, harg7.read_unread, harg8.read_unread, harg9.read_unread]
  rfl

set_option maxHeartbeats 2000000 in
/-- What the first point leaves in the buffer: the heads' pieces over noughts. -/
theorem runA_s1 (hc0 : cond0_0 i) (hc1 : ¬cond0_1 i) : (kernelRun0_A (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7).2.2.2.2.1 = heads (pT x4 x5 x7 (k0_pay5 (F := Ideal))) ++ [⟨Rect.unit ![0, 0, 0] S8x8x128.size inb_S8x8x128_S8x8x128_0_0_0, (k0_pay5 (F := Ideal))⟩] := by
  unfold kernelRun0_A
  dsimp only
  sl_unfold_words
  simp (disch := first | rfl | decide | exact zero3) only [↓View.readCov_skip, ↓View.readCov_fill]
  simp only [View.readAt_eq_ld, harg2.read_unread, harg3.read_unread, harg4.read_unread, harg5.read_unread, harg6.read_unread, harg7.read_unread, harg8.read_unread, harg9.read_unread]
  rfl

end

end Cert.Kernel10Ideal.Block

end
-- ==== Proof.MlLast.lean ====
/- The memory kernel's body at the last point of a row: the pieces it leaves in each buffer. -/
module

public import proofs.«01_k».proof.Proof.MlBlock

@[expose] public section

set_option maxRecDepth 16384

noncomputable section

namespace Cert.Kernel10Ideal.Block

open Cert.Kernel10Ideal Cert.Kernel10Ideal.Gen Cert.Kernel10Ideal.Head Idealize.ShloMosaic Idealize.ShloMosaic.TcCoe Idealize.ShloMosaic.Tactic

/-- The offset of a whole buffer of rank four is nought on each axis. -/
theorem zero4 : ∀ a : Fin 4, (![0, 0, 0, 0] : Fin 4 → ℕ) a = 0 := by
  intro a; fin_cases a <;> rfl

section
variable (c : Dev nD) (i : grid0.Coords) (arg2 : Memref sig .tc .vmem S8x256x64 .bf16) (harg2 : arg2.IsWhole) (arg3 : Memref sig .tc .vmem S8x1x64x256 .bf16) (harg3 : arg3.IsWhole) (arg4 : Memref sig .tc .vmem S8x256x128 .bf16) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S8x1x128 .f32) (harg8 : arg8.IsWhole) (arg9 : Memref sig .tc .vmem S256x256 .bf16) (harg9 : arg9.IsWhole) (arg10 : Memref sig .tc .vmem S256x1024 .bf16) (harg10 : arg10.IsWhole) (arg11 : Memref sig .tc .vmem S1x8x64x256 .f32) (harg11 : arg11.IsWhole) (arg12 : Memref sig .tc .vmem S1x8x8x128 .f32) (harg12 : arg12.IsWhole) (arg13 : Memref sig .tc .vmem S8x64x256 .f32) (harg13 : arg13.IsWhole) (arg14 : Memref sig .tc .vmem S8x8x128 .f32) (harg14 : arg14.IsWhole) (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) (xs0 : Vec Ideal S8x64x256 .f32) (xs1 : Vec Ideal S8x8x128 .f32)

/-- A load of the whole scratch after the heads' stores. -/
theorem copy_9 (v : View sig .tc .vmem S8x64x256 .f32) : v.readCov (Val := Elt Ideal) (heads (pC x1 x2 x4 x5 x7 xs0 xs1)) (Rect.unit (s := S8x64x256) ![0, 0, 0] S8x64x256.size inb_S8x64x256_S8x64x256_0_0_0).toLoadRect = CG x1 x2 x4 x5 x7 xs0 xs1 := by
  have hcn := canonC x1 x2 x4 x5 x7 xs0 xs1 []
  rw [List.append_nil] at hcn
  rw [View.readCov_eq_canon', hcn]
  funext j
  exact congrArg (CG x1 x2 x4 x5 x7 xs0 xs1) (funext fun a => Fin.ext (by fin_cases a <;> (show 0 + 1 * _ = _; omega)))

theorem runC_9_piece (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 = [⟨Rect.unit ![0, 0, 0, 0] S1x8x64x256.size inb_S1x8x64x256_S1x8x64x256_0_0_0_0, k0_pay2 (F := Ideal) (arg13.view.readCov (Val := Elt Ideal) (heads (pC x1 x2 x4 x5 x7 xs0 xs1)) (Rect.unit (s := S8x64x256) ![0, 0, 0] S8x64x256.size inb_S8x64x256_S8x64x256_0_0_0).toLoadRect)⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

/-- The last point's copy out holds what the scratch was left with. -/
theorem runC_9 (hc0 : ¬cond0_0 i) (hc1 : cond0_1 i) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.1 = k0_pay2 (F := Ideal) (CG x1 x2 x4 x5 x7 xs0 xs1) := by
  rw [runC_9_piece]
  exact (View.canon_cons_unit_lit _ _ _ zero4).trans (congrArg _ (copy_9 x1 x2 x4 x5 x7 xs0 xs1 arg13.view))

/-- A load of the whole scratch after the heads' stores. -/
theorem copy_10 (v : View sig .tc .vmem S8x8x128 .f32) : v.readCov (Val := Elt Ideal) (heads (pT x4 x5 x7 xs1)) (Rect.unit (s := S8x8x128) ![0, 0, 0] S8x8x128.size inb_S8x8x128_S8x8x128_0_0_0).toLoadRect = TG x4 x5 x7 xs1 := by
  have hcn := canonT x4 x5 x7 xs1 []
  rw [List.append_nil] at hcn
  rw [View.readCov_eq_canon', hcn]
  funext j
  exact congrArg (TG x4 x5 x7 xs1) (funext fun a => Fin.ext (by fin_cases a <;> (show 0 + 1 * _ = _; omega)))

theorem runC_10_piece (hc0 : ¬cond0_0 i) (hc1 : cond0_1 i) : (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 = [⟨Rect.unit ![0, 0, 0, 0] S1x8x8x128.size inb_S1x8x8x128_S1x8x8x128_0_0_0_0, k0_pay3 (F := Ideal) (arg14.view.readCov (Val := Elt Ideal) (heads (pT x4 x5 x7 xs1)) (Rect.unit (s := S8x8x128) ![0, 0, 0] S8x8x128.size inb_S8x8x128_S8x8x128_0_0_0).toLoadRect)⟩] := by
  unfold kernelRun0_C
  dsimp only
  sl_unfold_words
  simp only [View.readAt_eq_ld, harg2.read_unread, harg3.read_unread, harg4.read_unread, harg5.read_unread, harg6.read_unread, harg7.read_unread, harg8.read_unread, harg9.read_unread, harg13.read_unread, harg14.read_unread]
  rfl

/-- The last point's copy out holds what the scratch was left with. -/
theorem runC_10 (hc0 : ¬cond0_0 i) (hc1 : cond0_1 i) : View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1).2.2.1 = k0_pay3 (F := Ideal) (TG x4 x5 x7 xs1) := by
  rw [runC_10_piece]
  exact (View.canon_cons_unit_lit _ _ _ zero4).trans (congrArg _ (copy_10 x4 x5 x7 xs1 arg14.view))

end

end Cert.Kernel10Ideal.Block

end
-- ==== Proof.MlGate.lean ====
/- The gates of the memory kernel's block: their biases added, the sums of the forget gates over the block, and the input
   gates less those sums. -/
module

public import proofs.«01_k».proof.Proof.MlHead

@[expose] public section

set_option maxRecDepth 16384

noncomputable section

namespace Cert.Kernel10Ideal.Head

open Cert.Kernel10Ideal Cert.Kernel10Ideal.Gen Idealize.ShloMosaic Idealize.ShloMosaic.TcCoe Cert.AttnMath Cert.MlMath
open scoped BigOperators

section
variable (x4 : Vec Ideal S256x128 .f32) (x5 : Vec Ideal S1x128 .f32) (x7 : Vec Ideal S256x256 .bf16)

theorem pay6_apply (r : Fin 256) (j : Fin 128) : k0_pay6 x4 x5 (ix2 r j) = x4 (ix2 r j) + x5 (ix2 0 j) := by
  pointwise [k0_pay6]

/-- The logarithm of a forget gate that is a real number: the softplus of its negation, negated. -/
theorem lf_coe (z : ℝ) : -(max (-(z : EReal)) 0 + Ideal.log1p (Ideal.exp (-FloatOps.absf (F := Ideal) (φ := .f32) (-(z : EReal)))))
    = ((-sp (-z) : ℝ) : EReal) := by
  have h := softE_coe (-z)
  rw [EReal.coe_neg] at h
  rw [EReal.coe_neg, ← h]
  rfl

/-- The sums of the forget gates over the block's rows up to each. -/
theorem pay7_real (f : ℕ → ℝ) (T : ℕ) (g : ℕ → ℝ) (h : Fin 128) (hh : h.val < 8)
    (hx7 : ∀ r u : Fin 256, x7 (ix2 r u) = if u.val ≤ r.val then (1 : EReal) else 0)
    (hg : ∀ u : Fin 256, x4 (ix2 u ⟨h.val + 8, by omega⟩) + x5 (ix2 0 ⟨h.val + 8, by omega⟩) = ((g u.val : ℝ) : EReal))
    (hf : ∀ u : Fin 256, f (T + u.val) = -sp (-g u.val)) (r : Fin 256) :
    k0_pay7 x4 x5 x7 (ix2 r h) = ((S f (T + r.val + 1) - S f T : ℝ) : EReal) := by
  pointwise [k0_pay7, pay6_apply]
  have e : (⟨(h.val + 128 - 120) % 128, by omega⟩ : Fin 128) = ⟨h.val + 8, by omega⟩ := Fin.ext (by show (h.val + 128 - 120) % 128 = h.val + 8; omega)
  simp only [e, hg, zero_sub, lf_coe, ← EReal.coe_sub, sub_self, EReal.coe_zero, neg_zero, mul_zero, Finset.sum_const_zero, add_zero]
  rw [← sum_upto 256 f T r, AttnMath.coe_sum]
  refine Finset.sum_congr rfl fun u _ => ?_
  rw [hx7, hf]
  split
  · rw [one_mul]
  · rw [zero_mul, EReal.coe_zero]

theorem pay8_apply (j : Fin 128) (r : Fin 256) : k0_pay8 x4 x5 x7 (ix2 j r) = x4 (ix2 r j) + x5 (ix2 0 j) - k0_pay7 x4 x5 x7 (ix2 r j) := by
  pointwise [k0_pay8, pay6_apply]

theorem pay10_apply (r : Fin 256) (j : Fin 128) : k0_pay10 (F := Ideal) (iota .tc S256x128 32 [1] iota_S256x128_d1_w32) (ix2 r j)
    = if j.val = 0 then 1 else 0 := by
  pointwise [k0_pay10]
  by_cases h : j.val = 0
  · rw [if_pos h, h]
    show (((BitVec.setWidth 32 (IntOp.cmpi .eq (BitVec.ofNat 32 0) 0#32)).toInt : ℝ) : EReal) = 1
    have : (BitVec.setWidth 32 (IntOp.cmpi .eq (BitVec.ofNat 32 0) 0#32)).toInt = 1 := by decide
    rw [this]; norm_num
  · have hj : BitVec.ofNat 32 j.val ≠ 0#32 := fun he => h (by
      have := congrArg BitVec.toNat he
      rw [BitVec.toNat_ofNat] at this
      simp at this
      omega)
    rw [if_neg h]
    show (((BitVec.setWidth 32 (IntOp.cmpi .eq (BitVec.ofNat 32 j.val) 0#32)).toInt : ℝ) : EReal) = 0
    have : IntOp.cmpi .eq (BitVec.ofNat 32 j.val) 0#32 = 0#1 := by
      simp only [IntOp.cmpi, beq_eq_false_iff_ne.mpr hj]; rfl
    rw [this]
    have : (BitVec.setWidth 32 (0#1)).toInt = 0 := by decide
    rw [this]; norm_num
end

end Cert.Kernel10Ideal.Head

end
-- ==== Proof.MlReal.lean ====
/- One head's block of 256 rows of the memory kernel from slices that hold real numbers. -/
module

public import proofs.«01_k».proof.Proof.MlHead

@[expose] public section

set_option maxRecDepth 16384

noncomputable section

namespace Cert.Kernel10Ideal.Head

open Cert.Kernel10Ideal Cert.Kernel10Ideal.Gen Idealize.ShloMosaic Idealize.ShloMosaic.TcCoe Cert.AttnMath Cert.MlMath
open scoped BigOperators

/-- The slices of one head over the block from position `T` on hold the real sequences `f`, `i`, `qr`, `kr`, `xr`, and the
    memory before the block is that of the first `T` positions. -/
structure Holds (f i : ℕ → ℝ) (qr : ℕ → Fin 64 → ℝ) (kr : Fin 64 → ℕ → ℝ) (xr : Fin 256 → ℕ → ℝ) (T : ℕ)
    (one : FVec Ideal S256x128 .f32) (bcol igcol : FVec Ideal S256x1 .f32) (u : FVec Ideal S1x256 .f32)
    (mp : Vec Ideal S1x1x1 .f32) (cx : Vec Ideal S1x64x256 .f32) (q : Vec Ideal S1x256x64 .bf16) (k : Vec Ideal S1x1x64x256 .bf16)
    (v : Vec Ideal S1x256x128 .bf16) : Prop where
  hb : ∀ r : Fin 256, bcol (ix2 r 0) = ((S f (T + r.val + 1) - S f T : ℝ) : EReal)
  hu : ∀ s : Fin 256, u (ix2 0 s) = ((i (T + s.val) - (S f (T + s.val + 1) - S f T) : ℝ) : EReal)
  hi : ∀ s : Fin 256, igcol (ix2 s 0) = ((i (T + s.val) : ℝ) : EReal)
  hmp : mp (ix3 0 0 0) = ((M f i T : ℝ) : EReal)
  hcx : ∀ (d : Fin 64) (e : Fin 256), cx (ix3 0 d e) = ((C f i (kr d) (xr e) T : ℝ) : EReal)
  hq : ∀ (r : Fin 256) (d : Fin 64), q (ix3 0 r d) = ((qr (T + r.val) d : ℝ) : EReal)
  hk : ∀ (d : Fin 64) (s : Fin 256), k (ix4 0 0 d s) = ((kr d (T + s.val) : ℝ) : EReal)
  hv : ∀ (s : Fin 256) (e : Fin 128), v (ix3 0 s e) = ((xr ⟨e.val, by omega⟩ (T + s.val) : ℝ) : EReal)
  hone : ∀ (s : Fin 256) (e : Fin 128), one (ix2 s e) = ((xr ⟨e.val + 128, by omega⟩ (T + s.val) : ℝ) : EReal)
  hx : ∀ t, xr 128 t = 1

section
variable {f i : ℕ → ℝ} {qr : ℕ → Fin 64 → ℝ} {kr : Fin 64 → ℕ → ℝ} {xr : Fin 256 → ℕ → ℝ} {T : ℕ}
    {one : FVec Ideal S256x128 .f32} {bcol igcol : FVec Ideal S256x1 .f32} {u : FVec Ideal S1x256 .f32}
    {mp : Vec Ideal S1x1x1 .f32} {cx : Vec Ideal S1x64x256 .f32} {q : Vec Ideal S1x256x64 .bf16} {k : Vec Ideal S1x1x64x256 .bf16}
    {v : Vec Ideal S1x256x128 .bf16} (H : Holds f i qr kr xr T one bcol igcol u mp cx q k v)
include H

/-- The product of the query at `t` and the key at `s`. -/
abbrev qkr (qr : ℕ → Fin 64 → ℝ) (kr : Fin 64 → ℕ → ℝ) (t s : ℕ) : ℝ := ∑ d, qr t d * kr d s

theorem hD_real (r s : Fin 256) : hD k0_pay9 bcol u (ix2 r s)
    = if s.val ≤ r.val then ((S f (T + r.val + 1) + A f i (T + s.val) : ℝ) : EReal) else ⊥ := by
  rw [hD_apply, H.hb, H.hu, ← EReal.coe_add]
  unfold A
  split
  · congr 1; ring
  · rfl

theorem hI_real (r : Fin 256) : bcol (ix2 r 0) + mp (ix3 0 0 0) = ((S f (T + r.val + 1) + P f i T : ℝ) : EReal) := by
  rw [H.hb, H.hmp, ← EReal.coe_add]
  unfold MlMath.M
  congr 1; ring

theorem hM_real (r : Fin 256) : hM k0_pay9 bcol u mp (ix2 r 0) = ((M f i (T + r.val + 1) : ℝ) : EReal) := by
  rw [hM_apply, hI_real H]
  exact sup_eq f i 256 T r _ fun s => hD_real H r s

theorem hW_real (r s : Fin 256) : hW k0_pay9 bcol u mp q k (ix2 r s)
    = ((if s.val ≤ r.val then W f i (qkr qr kr) (T + r.val) (T + s.val) else 0 : ℝ) : EReal) := by
  rw [hW_apply, hD_real H, hM_real H]
  simp only [H.hq, H.hk, ← EReal.coe_mul, ← coe_sum]
  exact W_coe f i (qkr qr kr) T r.val s.val

theorem hG_real (r : Fin 256) : hG k0_pay9 bcol u mp (ix2 r 0) = ((Real.exp (P f i T - P f i (T + r.val + 1)) : ℝ) : EReal) := by
  rw [hG_apply, hI_real H, hM_real H, ← EReal.coe_sub, exp_coe]
  unfold MlMath.M
  congr 2; ring

theorem hN_real (r : Fin 256) (e : Fin 128) : hN k0_pay9 bcol u mp cx q k v (ix2 r e)
    = ((N f i (qkr qr kr) (xr ⟨e.val, by omega⟩) (T + r.val) : ℝ) : EReal) := by
  rw [hN_apply, hG_real H]
  simp only [hW_real H, H.hv, H.hq, H.hcx, ← EReal.coe_mul, ← coe_sum, ← EReal.coe_add]
  rw [N_block f i 256 64 T r (qr (T + r.val)) kr (qkr qr kr) _ fun s => rfl]

theorem hDen_real (r : Fin 256) : hDen k0_pay9 bcol u mp cx q k (ix2 r 0)
    = ((N f i (qkr qr kr) (xr 128) (T + r.val) : ℝ) : EReal) := by
  rw [hDen_apply, hG_real H]
  simp only [hW_real H, H.hq, H.hcx, ← EReal.coe_mul, ← coe_sum, ← EReal.coe_add]
  rw [← N_block f i 256 64 T r (qr (T + r.val)) kr (qkr qr kr) (xr 128) fun s => rfl]
  simp only [H.hx, mul_one]

/-- The rows read from the memory: the weighted sum over the positions so far by the larger of its weight and a bound. -/
theorem hV_real (r : Fin 256) (e : Fin 128) : hV k0_pay9 bcol u mp cx q k v (ix2 r e)
    = Ideal.div ((N f i (qkr qr kr) (xr ⟨e.val, by omega⟩) (T + r.val) : ℝ) : EReal)
        ((max |N f i (qkr qr kr) (xr 128) (T + r.val)| (Real.exp (-M f i (T + r.val + 1))) : ℝ) : EReal) := by
  rw [hV_apply, hN_real H, hDen_real H, hM_real H, ← EReal.coe_neg, ← EReal.coe_neg, exp_coe, ← coe_max, ← coe_max]
  refine Ideal.mul_one_div ?_
  have : 0 < max |N f i (qkr qr kr) (xr 128) (T + r.val)| (Real.exp (-M f i (T + r.val + 1))) := lt_max_of_lt_right (Real.exp_pos _)
  exact fun h => this.ne' (EReal.coe_eq_zero.mp h)

theorem hT_real (a : Fin 8) (b : Fin 128) : hT k0_pay9 bcol u mp (ix3 0 a b) = ((M f i (T + 256) : ℝ) : EReal) := by
  rw [hT_apply, hM_real H]
  rfl

theorem hC_real (d : Fin 64) (e : Fin 256) : hC k0_pay9 one bcol igcol u mp cx k v (ix3 0 d e)
    = ((C f i (kr d) (xr e) (T + 256) : ℝ) : EReal) := by
  have hxe : ∀ s : Fin 256, (if h : e.val < 128 then v (ix3 0 s ⟨e.val, h⟩) else one (ix2 s ⟨e.val - 128, by omega⟩))
      = ((xr e (T + s.val) : ℝ) : EReal) := by
    intro s
    by_cases h : e.val < 128
    · rw [dif_pos h, H.hv]
    · rw [dif_neg h, H.hone]
      have : (⟨e.val - 128 + 128, by omega⟩ : Fin 256) = e := Fin.ext (by show e.val - 128 + 128 = e.val; omega)
      rw [this]
  have hr : (255 : Fin 256).val = 255 := rfl
  have hexp : ∀ s : Fin 256, Ideal.exp (bcol (ix2 255 0) - bcol (ix2 s 0) + igcol (ix2 s 0) - hM k0_pay9 bcol u mp (ix2 255 0))
      = ((Real.exp (A f i (T + s.val) - P f i (T + 256)) : ℝ) : EReal) := by
    intro s
    rw [hM_real H, H.hb, H.hb, H.hi, hr, ← EReal.coe_sub, ← EReal.coe_add, ← EReal.coe_sub, exp_coe]
    unfold MlMath.M A
    congr 2
    rw [show T + 255 + 1 = T + 256 from rfl]
    ring
  rw [hC_apply, hI_real H]
  simp only [hxe, hexp, H.hk, H.hcx]
  rw [hM_real H, hr, ← EReal.coe_sub, exp_coe]
  simp only [← EReal.coe_mul, ← coe_sum, ← EReal.coe_add]
  rw [← C_block f i (kr d) (xr e) 256 T]
  unfold MlMath.M
  rw [show T + 255 + 1 = T + 256 from rfl, add_sub_add_left_eq_sub]

end

end Cert.Kernel10Ideal.Head

end
-- ==== Proof.MlStep.lean ====
/- The memory kernel's block of 256 rows over blocks of its argument arrays: the output rows, and the memory it hands on. -/
module

public import proofs.«01_k».proof.Proof.MlBlock
public import proofs.«01_k».proof.Proof.MlGate
public import proofs.«01_k».proof.Proof.MlReal

@[expose] public section

set_option maxRecDepth 16384

noncomputable section

namespace Cert.Kernel10Ideal.Step

open Cert.Kernel10Ideal Cert.Kernel10Ideal.Gen Cert.Kernel10Ideal.Head Cert.Kernel10Ideal.Block Idealize.ShloMosaic Idealize.ShloMosaic.TcCoe
  Cert.AttnMath Cert.MlMath Cert.MlSpec
open scoped BigOperators

section
variable (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) (Z0 : Vec Ideal S8x64x256 .f32) (Z1 : Vec Ideal S8x8x128 .f32)
  (h : Fin 8)

/-! ### The loads at an index -/

theorem ld4 : View.ld x4 (Rect.unit ![0, 0] ![256, 128] inb_S256x128_S256x128_0_0) = x4 := by
  funext y
  exact congrArg x4 (funext fun a => Fin.ext (by fin_cases a <;> (show 0 + 1 * _ = _; omega)))
theorem ld5 : View.ld x5 (Rect.unit ![0, 0] ![1, 128] inb_S1x128_S1x128_0_0) = x5 := by
  funext y
  exact congrArg x5 (funext fun a => Fin.ext (by fin_cases a <;> (show 0 + 1 * _ = _; omega)))
theorem ld7 : View.ld x7 (Rect.unit ![0, 0] ![256, 256] inb_S256x256_S256x256_0_0) = x7 := by
  funext y
  exact congrArg x7 (funext fun a => Fin.ext (by fin_cases a <;> (show 0 + 1 * _ = _; omega)))

theorem bcol_apply (r : Fin 256) : bcol x4 x5 x7 h.val h.isLt (ix2 r 0) = k0_pay7 x4 x5 x7 (ix2 r ⟨h.val, by omega⟩) := by
  unfold bcol bc
  rw [ld4, ld5, ld7]
  exact extractStridedSlice_apply _ _ _ _ (ix2 r ⟨h.val, by omega⟩) (fun a => by
    fin_cases a
    · show r.val = 0 + r.val; omega
    · show h.val = h.val + 0; omega)
theorem igcol_apply (r : Fin 256) : igcol x4 x5 h.val h.isLt (ix2 r 0) = k0_pay6 x4 x5 (ix2 r ⟨h.val, by omega⟩) := by
  unfold igcol gt
  rw [ld4, ld5]
  exact extractStridedSlice_apply _ _ _ _ (ix2 r ⟨h.val, by omega⟩) (fun a => by
    fin_cases a
    · show r.val = 0 + r.val; omega
    · show h.val = h.val + 0; omega)
theorem urow_apply (s : Fin 256) : urow x4 x5 x7 h.val h.isLt (ix2 0 s) = k0_pay8 x4 x5 x7 (ix2 ⟨h.val, by omega⟩ s) := by
  unfold urow ut
  rw [ld4, ld5, ld7]
  exact extractStridedSlice_apply _ _ _ _ (ix2 ⟨h.val, by omega⟩ s) (fun a => by
    fin_cases a
    · show h.val = h.val + 0; omega
    · show s.val = 0 + s.val; omega)
theorem mpv_apply : mpv Z1 h.val h.isLt (ix3 0 0 0) = Z1 (ix3 h 0 0) :=
  congrArg Z1 (funext fun a => Fin.ext (by
    fin_cases a
    · show h.val + 1 * 0 = h.val; omega
    · show 0 + 1 * 0 = 0; omega
    · show 0 + 1 * 0 = 0; omega))
theorem cxv_apply (d : Fin 64) (e : Fin 256) : cxv Z0 h.val h.isLt (ix3 0 d e) = Z0 (ix3 h d e) :=
  congrArg Z0 (funext fun a => Fin.ext (by
    fin_cases a
    · show h.val + 1 * 0 = h.val; omega
    · show 0 + 1 * d.val = d.val; omega
    · show 0 + 1 * e.val = e.val; omega))
theorem qv_apply (r : Fin 256) (d : Fin 64) : qv x0 h.val h.isLt (ix3 0 r d) = x0 (ix3 h r d) :=
  congrArg x0 (funext fun a => Fin.ext (by
    fin_cases a
    · show h.val + 1 * 0 = h.val; omega
    · show 0 + 1 * r.val = r.val; omega
    · show 0 + 1 * d.val = d.val; omega))
theorem kv_apply (d : Fin 64) (s : Fin 256) : kv x1 h.val h.isLt (ix4 0 0 d s) = x1 (ix4 h 0 d s) :=
  congrArg x1 (funext fun a => Fin.ext (by
    fin_cases a
    · show h.val + 1 * 0 = h.val; omega
    · show 0 + 1 * 0 = 0; omega
    · show 0 + 1 * d.val = d.val; omega
    · show 0 + 1 * s.val = s.val; omega))
theorem vv_apply (s : Fin 256) (e : Fin 128) : vv x2 h.val h.isLt (ix3 0 s e) = x2 (ix3 h s e) :=
  congrArg x2 (funext fun a => Fin.ext (by
    fin_cases a
    · show h.val + 1 * 0 = h.val; omega
    · show 0 + 1 * s.val = s.val; omega
    · show 0 + 1 * e.val = e.val; omega))
theorem hgv_apply (e : Fin 128) : hgv x6 h.val h.isLt (ix3 0 0 e) = x6 (ix3 h 0 e) :=
  congrArg x6 (funext fun a => Fin.ext (by
    fin_cases a
    · show h.val + 1 * 0 = h.val; omega
    · show 0 + 1 * 0 = 0; omega
    · show 0 + 1 * e.val = e.val; omega))
theorem ogv_apply (r : Fin 256) (e : Fin 128) : ogv x3 h.val h.isLt (ix2 r e) = x3 (ix2 r ⟨128 * h.val + e.val, by omega⟩) :=
  congrArg x3 (funext fun a => Fin.ext (by
    fin_cases a
    · show 0 + 1 * r.val = r.val; omega
    · show 128 * h.val + 1 * e.val = 128 * h.val + e.val; omega))
end

section
variable (qb : SQ.Idx → EReal) (ktb : SK.Idx → EReal) (vb : SV.Idx → EReal) (og : SO.Idx → EReal) (gates : SG.Idx → EReal)
  (bg : SB.Idx → EReal) (hg : SH.Idx → EReal)

/-- The blocks of a grid point: rows `256 c` to `256 c + 255` of sequence `b` of the arrays. -/
structure Blk (b c : Fin 8) (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) : Prop where
  h0 : ∀ h r d, x0 (ix3 h r d) = qb (ix3 h (row b (256 * c.val + r.val)) d)
  h1 : ∀ h d s, x1 (ix4 h 0 d s) = ktb (ix4 h ⟨b.val * 8 + c.val, by omega⟩ d s)
  h2 : ∀ h s e, x2 (ix3 h s e) = vb (ix3 h (row b (256 * c.val + s.val)) e)
  h3 : ∀ r j, x3 (ix2 r j) = og (ix2 (row b (256 * c.val + r.val)) j)
  h4 : ∀ r j, x4 (ix2 r j) = gates (ix2 (row b (256 * c.val + r.val)) j)
  h5 : ∀ j : Fin 16, x5 (ix2 0 ⟨j.val, by omega⟩) = bg (ix1 j)
  h6 : ∀ h e, x6 (ix3 h 0 e) = hg (ix2 h e)
  h7 : ∀ r u : Fin 256, x7 (ix2 r u) = if u.val ≤ r.val then (1 : EReal) else 0

/-- The carried buffers hold the memory of the first `T` positions of sequence `b`. -/
structure St (b : Fin 8) (T : ℕ) (Z0 : Vec Ideal S8x64x256 .f32) (Z1 : Vec Ideal S8x8x128 .f32) : Prop where
  z0 : ∀ h d e, Z0 (ix3 h d e) = ((C (fR gates bg b h) (iR gates bg b h) (kR ktb b h d) (xR vb b h e) T : ℝ) : EReal)
  z1 : ∀ h i j, Z1 (ix3 h i j) = ((M (fR gates bg b h) (iR gates bg b h) T : ℝ) : EReal)

variable {qb ktb vb og gates bg hg}
variable {b c : Fin 8} {x0 : Vec Ideal S8x256x64 .bf16} {x1 : Vec Ideal S8x1x64x256 .bf16} {x2 : Vec Ideal S8x256x128 .bf16} {x3 : Vec Ideal S256x1024 .f32} {x4 : Vec Ideal S256x128 .f32} {x5 : Vec Ideal S1x128 .f32} {x6 : Vec Ideal S8x1x128 .f32} {x7 : Vec Ideal S256x256 .bf16} {Z0 : Vec Ideal S8x64x256 .f32} {Z1 : Vec Ideal S8x8x128 .f32}

/-- Each head's slices hold its sequences. -/
theorem holds (R : Reals qb ktb vb gates bg) (X : Blk qb ktb vb og gates bg hg b c x0 x1 x2 x3 x4 x5 x6 x7)
    (Z : St ktb vb gates bg b (256 * c.val) Z0 Z1) (h : Fin 8) :
    Holds (fR gates bg b h) (iR gates bg b h) (qR qb b h) (kR ktb b h) (xR vb b h) (256 * c.val) one (bcol x4 x5 x7 h.val h.isLt)
      (igcol x4 x5 h.val h.isLt) (urow x4 x5 x7 h.val h.isLt) (mpv Z1 h.val h.isLt) (cxv Z0 h.val h.isLt) (qv x0 h.val h.isLt)
      (kv x1 h.val h.isLt) (vv x2 h.val h.isLt) := by
  have hgate : ∀ (u : Fin 256) (j : Fin 16), x4 (ix2 u ⟨j.val, by omega⟩) + x5 (ix2 0 ⟨j.val, by omega⟩)
      = ((gR gates bg b j (256 * c.val + u.val) : ℝ) : EReal) := fun u j => by
    rw [X.h4, X.h5]; exact R.hg _ j
  have hbc : ∀ r : Fin 256, k0_pay7 x4 x5 x7 (ix2 r ⟨h.val, by omega⟩)
      = ((S (fR gates bg b h) (256 * c.val + r.val + 1) - S (fR gates bg b h) (256 * c.val) : ℝ) : EReal) := fun r =>
    pay7_real x4 x5 x7 (fR gates bg b h) (256 * c.val) (fun u => gR gates bg b ⟨h.val + 8, by omega⟩ (256 * c.val + u)) ⟨h.val, by omega⟩ h.isLt X.h7
      (fun u => hgate u ⟨h.val + 8, by omega⟩) (fun u => rfl) r
  constructor
  · intro r; rw [bcol_apply, hbc]
  · intro s
    rw [urow_apply, pay8_apply, hbc, hgate s ⟨h.val, by omega⟩, ← EReal.coe_sub]
    rfl
  · intro s
    rw [igcol_apply, pay6_apply, hgate s ⟨h.val, by omega⟩]
    rfl
  · rw [mpv_apply, Z.z1]
  · intro d e; rw [cxv_apply, Z.z0]
  · intro r d; rw [qv_apply, X.h0]; exact R.hq _ _ _
  · intro d s
    rw [kv_apply, X.h1, R.hk]
    unfold kR
    have e1 : (⟨b.val * 8 + c.val, by omega⟩ : Fin 64) = ⟨(b.val * 8 + (256 * c.val + s.val) / 256) % 64, by omega⟩ :=
      Fin.ext (by show b.val * 8 + c.val = (b.val * 8 + (256 * c.val + s.val) / 256) % 64; omega)
    have e2 : s = ⟨(256 * c.val + s.val) % 256, by omega⟩ := Fin.ext (by show s.val = (256 * c.val + s.val) % 256; omega)
    rw [← e1, ← e2]
  · intro s e
    rw [vv_apply, X.h2, R.hv]
    unfold xR
    rw [dif_pos (show (⟨e.val, by omega⟩ : Fin 256).val < 128 from e.isLt)]
  · intro s e
    unfold one xR
    rw [pay10_apply, dif_neg (show ¬ (⟨e.val + 128, by omega⟩ : Fin 256).val < 128 by show ¬ e.val + 128 < 128; omega)]
    by_cases he : e.val = 0
    · rw [if_pos he, if_pos (show e.val + 128 = 128 by omega), EReal.coe_one]
    · rw [if_neg he, if_neg (show ¬ e.val + 128 = 128 by omega), EReal.coe_zero]
  · intro t
    unfold xR
    rw [dif_neg (by decide)]
    exact if_pos rfl

/-- The block hands on the memory of the positions up to its end. -/
theorem step (R : Reals qb ktb vb gates bg) (X : Blk qb ktb vb og gates bg hg b c x0 x1 x2 x3 x4 x5 x6 x7)
    (Z : St ktb vb gates bg b (256 * c.val) Z0 Z1) :
    St ktb vb gates bg b (256 * (c.val + 1)) (CG x1 x2 x4 x5 x7 Z0 Z1) (TG x4 x5 x7 Z1) := by
  constructor
  · intro h d e
    exact hC_real (holds R X Z h) d e
  · intro h i j
    exact hT_real (holds R X Z h) i j

/-- The block's output rows. -/
theorem out (R : Reals qb ktb vb gates bg) (X : Blk qb ktb vb og gates bg hg b c x0 x1 x2 x3 x4 x5 x6 x7)
    (Z : St ktb vb gates bg b (256 * c.val) Z0 Z1) (r : Fin 256) (j : Fin 1024) :
    OG x0 x1 x2 x3 x4 x5 x6 x7 Z0 Z1 (ix2 r j)
      = outE qb ktb vb og gates bg hg b (256 * c.val + r.val) ⟨j.val / 128, by omega⟩ ⟨j.val % 128, by omega⟩ := by
  have H := holds R X Z ⟨j.val / 128, by omega⟩
  refine (norm_apply _ r ⟨j.val % 128, by omega⟩).trans ?_
  unfold outE
  have a : ∀ e : Fin 128, hV k0_pay9 _ _ _ _ _ _ _ (ix2 r e) = hE qb ktb vb gates bg b ⟨j.val / 128, by omega⟩ (256 * c.val + r.val) e :=
    fun e => hV_real H r e
  have congr : ∀ (v v' : Fin 128 → EReal) (g g' o o' : EReal) (e : Fin 128), v = v' → g = g' → o = o' → nrm v g o e = nrm v' g' o' e := by
    rintro _ _ _ _ _ _ _ rfl rfl rfl; rfl
  exact congr _ _ _ _ _ _ _ (funext a) ((hgv_apply x6 ⟨j.val / 128, by omega⟩ _).trans (X.h6 _ _))
    ((ogv_apply x3 ⟨j.val / 128, by omega⟩ r _).trans (X.h3 _ _))
end

end Cert.Kernel10Ideal.Step

end
-- ==== Proof.MlPoint.lean ====
/- What the memory kernel leaves at each grid point: the block's values over the blocks of the argument arrays. -/
module

public import proofs.«01_k».proof.Proof.MlFirst
public import proofs.«01_k».proof.Proof.MlLast
public import proofs.«01_k».proof.Proof.MlStep
public import proofs.«01_k».proof.Proof.Gen.Kernel10Ideal.Frame
public import Idealize.ShloMosaic.Lib.Pipeline.ValueKit
public import Idealize.ShloMosaic.Lib.KernelVsHost

@[expose] public section

set_option maxRecDepth 16384

noncomputable section

namespace Cert.Kernel10Ideal.Point

open Cert.Kernel10Ideal Cert.Kernel10Ideal.Gen Cert.Kernel10Ideal.Block Cert.Kernel10Ideal.Step Idealize.ShloMosaic Idealize.ShloMosaic.TcCoe Cert.AttnMath Cert.MlMath Cert.MlSpec
open Idealize.ShloMosaic.Pipeline (Dat)

/-! ### The buffers after a point, by its place in the row -/

section
variable (c : Dev nD) (i : grid0.Coords) (arg2 : Memref sig .tc .vmem S8x256x64 .bf16) (harg2 : arg2.IsWhole) (arg3 : Memref sig .tc .vmem S8x1x64x256 .bf16) (harg3 : arg3.IsWhole) (arg4 : Memref sig .tc .vmem S8x256x128 .bf16) (harg4 : arg4.IsWhole) (arg5 : Memref sig .tc .vmem S256x1024 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S8x1x128 .f32) (harg8 : arg8.IsWhole) (arg9 : Memref sig .tc .vmem S256x256 .bf16) (harg9 : arg9.IsWhole) (arg10 : Memref sig .tc .vmem S256x1024 .bf16) (harg10 : arg10.IsWhole) (arg11 : Memref sig .tc .vmem S1x8x64x256 .f32) (harg11 : arg11.IsWhole) (arg12 : Memref sig .tc .vmem S1x8x8x128 .f32) (harg12 : arg12.IsWhole) (arg13 : Memref sig .tc .vmem S8x64x256 .f32) (harg13 : arg13.IsWhole) (arg14 : Memref sig .tc .vmem S8x8x128 .f32) (harg14 : arg14.IsWhole) (x0 : Vec Ideal S8x256x64 .bf16) (x1 : Vec Ideal S8x1x64x256 .bf16) (x2 : Vec Ideal S8x256x128 .bf16) (x3 : Vec Ideal S256x1024 .f32) (x4 : Vec Ideal S256x128 .f32) (x5 : Vec Ideal S1x128 .f32) (x6 : Vec Ideal S8x1x128 .f32) (x7 : Vec Ideal S256x256 .bf16) (xs0 : Vec Ideal S8x64x256 .f32) (xs1 : Vec Ideal S8x8x128 .f32)

theorem oA_8 (hc0 : cond0_0 i) (hc1 : ¬cond0_1 i) : out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = OG x0 x1 x2 x3 x4 x5 x6 x7 (k0_pay4 (F := Ideal)) (k0_pay5 (F := Ideal)) := by
  unfold out0_A_8
  rw [View.read_writes_junk_eq_canon, runA_8]
  exact canonO x0 x1 x2 x3 x4 x5 x6 x7 (k0_pay4 (F := Ideal)) (k0_pay5 (F := Ideal))

theorem oA_s0 (hc0 : cond0_0 i) (hc1 : ¬cond0_1 i) : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = CG x1 x2 x4 x5 x7 (k0_pay4 (F := Ideal)) (k0_pay5 (F := Ideal)) := by
  unfold sout0_A_0
  rw [View.read_writes_junk_eq_canon, runA_s0]
  exact canonC x1 x2 x4 x5 x7 (k0_pay4 (F := Ideal)) (k0_pay5 (F := Ideal)) _

theorem oA_s1 (hc0 : cond0_0 i) (hc1 : ¬cond0_1 i) : sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = TG x4 x5 x7 (k0_pay5 (F := Ideal)) := by
  unfold sout0_A_1
  rw [View.read_writes_junk_eq_canon, runA_s1]
  exact canonT x4 x5 x7 (k0_pay5 (F := Ideal)) _

theorem oB_8 (hc0 : ¬cond0_0 i) (hc1 : ¬cond0_1 i) : out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = OG x0 x1 x2 x3 x4 x5 x6 x7 xs0 xs1 := by
  unfold out0_B_8
  rw [View.read_writes_junk_eq_canon, runB_8]
  exact canonO x0 x1 x2 x3 x4 x5 x6 x7 xs0 xs1

theorem oB_s0 (hc0 : ¬cond0_0 i) (hc1 : ¬cond0_1 i) : sout0_B_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = CG x1 x2 x4 x5 x7 xs0 xs1 := by
  unfold sout0_B_0
  rw [View.read_writes_junk_eq_canon, runB_s0]
  have h := canonC x1 x2 x4 x5 x7 xs0 xs1 []
  rw [List.append_nil] at h
  exact h

theorem oB_s1 (hc0 : ¬cond0_0 i) (hc1 : ¬cond0_1 i) : sout0_B_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = TG x4 x5 x7 xs1 := by
  unfold sout0_B_1
  rw [View.read_writes_junk_eq_canon, runB_s1]
  have h := canonT x4 x5 x7 xs1 []
  rw [List.append_nil] at h
  exact h

theorem oC_8 (hc0 : ¬cond0_0 i) (hc1 : cond0_1 i) : out0_C_8 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = OG x0 x1 x2 x3 x4 x5 x6 x7 xs0 xs1 := by
  unfold out0_C_8
  rw [View.read_writes_junk_eq_canon, runC_8]
  exact canonO x0 x1 x2 x3 x4 x5 x6 x7 xs0 xs1

theorem oC_s0 (hc0 : ¬cond0_0 i) (hc1 : cond0_1 i) : sout0_C_0 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = CG x1 x2 x4 x5 x7 xs0 xs1 := by
  unfold sout0_C_0
  rw [View.read_writes_junk_eq_canon, runC_s0]
  have h := canonC x1 x2 x4 x5 x7 xs0 xs1 []
  rw [List.append_nil] at h
  exact h

theorem oC_s1 (hc0 : ¬cond0_0 i) (hc1 : cond0_1 i) : sout0_C_1 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = TG x4 x5 x7 xs1 := by
  unfold sout0_C_1
  rw [View.read_writes_junk_eq_canon, runC_s1]
  have h := canonT x4 x5 x7 xs1 []
  rw [List.append_nil] at h
  exact h

theorem oC_9 (hc0 : ¬cond0_0 i) (hc1 : cond0_1 i) : out0_C_9 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay2 (F := Ideal) (CG x1 x2 x4 x5 x7 xs0 xs1) := by
  unfold out0_C_9
  rw [View.read_writes_junk_eq_canon]
  exact runC_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1

theorem oC_10 (hc0 : ¬cond0_0 i) (hc1 : cond0_1 i) : out0_C_10 (F := Ideal) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 xs0 xs1 = k0_pay3 (F := Ideal) (TG x4 x5 x7 xs1) := by
  unfold out0_C_10
  rw [View.read_writes_junk_eq_canon]
  exact runC_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 xs0 xs1 hc0 hc1

end

variable (m : (ℓ : Loc nD τ sig) → Buf (Elt Ideal) ℓ)

/-- Where each window's block lies at a grid point. -/
theorem idx_facts : ∀ t : Fin grid0.N, win0_0.index t = ![0, t.val, 0]
    ∧ win0_1.index t = ![0, t.val, 0, 0]
    ∧ win0_2.index t = ![0, t.val, 0]
    ∧ win0_3.index t = ![t.val, 0]
    ∧ win0_4.index t = ![t.val, 0]
    ∧ win0_5.index t = ![0, 0]
    ∧ win0_6.index t = ![0, 0, 0]
    ∧ win0_7.index t = ![0, 0]
    ∧ win0_8.index t = ![t.val, 0]
    ∧ win0_9.index t = ![t.val / 8, 0, 0, 0]
    ∧ win0_10.index t = ![t.val / 8, 0, 0, 0] := by
  decide +kernel

theorem t_lt (t : Fin cfg0.N) : t.val < 64 := lt_of_lt_of_eq t.isLt N_0

/-- The sequence and the block of a grid point. -/
abbrev tb (t : Fin cfg0.N) : Fin 8 := ⟨t.val / 8, by have := t_lt t; omega⟩
abbrev tc (t : Fin cfg0.N) : Fin 8 := ⟨t.val % 8, by omega⟩

theorem row_val (t : Fin cfg0.N) (r : Fin 256) : (row (tb t) (256 * (tc t).val + r.val)).val = t.val * 256 + r.val := by
  have := t_lt t
  show (t.val / 8 * 2048 + (256 * (t.val % 8) + r.val)) % 16384 = _
  omega

/-- The biases' buffer when the grid begins: the biases, padded, as one row. -/
theorem bias_row (c : Dev nD) : V m c main_v1 = shapeCast S1x128 (pad S128 ![0] ![112] ![0] (m ((c : Thread nD τ).loc main_arg5)) (sitofp (F := Ideal) .f32 (constantI S_ 32 0#32)) pads_S16_S128_01120 h_S_) shapeCasts_S128_S1x128 := rfl

/-- A grid point's blocks of the argument arrays. -/
theorem blk (c : Dev nD) (t : Fin cfg0.N) :
    Blk (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (tb t) (tc t) (iblk m c 0 t) (iblk m c 1 t) (iblk m c 2 t) (iblk m c 3 t)
      (iblk m c 4 t) (iblk m c 5 t) (iblk m c 6 t) (iblk m c 7 t) := by
  obtain ⟨i0, i1, i2, i3, i4, i5, i6, i7, -⟩ := idx_facts t
  have ht := t_lt t
  constructor
  · intro h r d
    unfold iblk
    entry_read
    pointwise
    blk_ext [i0]
  · intro h d s
    unfold iblk
    entry_read
    pointwise
    blk_ext [i1]
  · intro h s e
    unfold iblk
    entry_read
    pointwise
    blk_ext [i2]
  · intro r j
    unfold iblk
    entry_read
    pointwise
    blk_ext [i3]
  · intro r j
    unfold iblk
    entry_read
    pointwise
    blk_ext [i4]
  · intro j
    unfold iblk
    entry_read
    blk_simp
    have e0 : ((win0_5.blk t).view.emb (ix2 0 (⟨j.val, by omega⟩ : Fin 128)) 0).val = 0 := by blk_simp [i5]; rfl
    have e1 : ((win0_5.blk t).view.emb (ix2 0 (⟨j.val, by omega⟩ : Fin 128)) 1).val = j.val := by blk_simp [i5]
    refine (congrFun (bias_row m c) _).trans ?_
    refine (shapeCast_apply _ shapeCasts_S128_S1x128 _ (ix1 (⟨j.val, by omega⟩ : Fin 128)) ?_).trans ?_
    · rw [Shape.rowMajor_val_one, Shape.rowMajor_val_two, e0, e1]
      show j.val = 0 * 128 + j.val
      omega
    · exact pad_apply_of_inside _ _ _ _ _ _ _ _ (ix1 j) (fun a => by fin_cases a; show j.val = 0 + j.val * (0 + 1); omega)
  · intro h e
    unfold iblk
    entry_read
    blk_simp
    have e0 : ((win0_6.blk t).view.emb (ix3 h 0 e) 0).val = h.val := by blk_simp [i6]
    have e1 : ((win0_6.blk t).view.emb (ix3 h 0 e) 1).val = 0 := by blk_simp [i6]; rfl
    have e2 : ((win0_6.blk t).view.emb (ix3 h 0 e) 2).val = e.val := by blk_simp [i6]
    refine shapeCast_apply _ shapeCasts_S8x128_S8x1x128 _ (ix2 h e) ?_
    rw [Shape.rowMajor_val_two, Shape.rowMajor_val_three, e0, e1, e2]
    show h.val * 128 + e.val = (h.val * 1 + 0) * 128 + e.val
    omega
  · intro r u
    unfold iblk
    entry_read
    pointwise
    blk_simp [i7]
    have e : (win0_7.blk t).view.emb (ix2 r u) = ix2 r u := by blk_ext [i7]
    rw [e]
    show ((IntOp.cmpi .sge (BitVec.ofNat 32 r.val) (BitVec.ofNat 32 u.val)).toNat : EReal) = _
    rw [sge_nat _ _ (by omega) (by omega)]
    split <;> simp

/-- Before a sequence's first position the memory and its stabiliser are nought. -/
theorem st_zero (ktb : SK.Idx → EReal) (vb : SV.Idx → EReal) (gates : SG.Idx → EReal) (bg : SB.Idx → EReal) (b : Fin 8) :
    St ktb vb gates bg b 0 (k0_pay4 (F := Ideal)) (k0_pay5 (F := Ideal)) := by
  constructor
  · intro h d e
    refine Eq.trans (b := (0 : EReal)) ?_ ?_
    · pointwise [k0_pay4]
    · unfold C; simp
  · intro h i j
    refine Eq.trans (b := (0 : EReal)) ?_ ?_
    · pointwise [k0_pay5]
    · unfold MlMath.M S P; simp

section
variable (c : Dev nD)

/-- Every query, key, value and biased gate of device `c`'s arrays is a real number. -/
abbrev RealAt : Prop := Reals (m ((c : Thread nD τ).loc main_arg0)) (m ((c : Thread nD τ).loc main_arg1)) (m ((c : Thread nD τ).loc main_arg2))
  (m ((c : Thread nD τ).loc main_arg4)) (m ((c : Thread nD τ).loc main_arg5))

/-- The memory held after `T` positions of sequence `b`. -/
abbrev StAt (b : Fin 8) (T : ℕ) (Z0 : Vec Ideal S8x64x256 .f32) (Z1 : Vec Ideal S8x8x128 .f32) : Prop :=
  St (m ((c : Thread nD τ).loc main_arg1)) (m ((c : Thread nD τ).loc main_arg2)) (m ((c : Thread nD τ).loc main_arg4)) (m ((c : Thread nD τ).loc main_arg5)) b T Z0 Z1

/-- The output rows of a grid point. -/
abbrev OutAt (t : Fin cfg0.N) (Y : Vec Ideal S256x1024 .bf16) : Prop := ∀ (r : Fin 256) (j : Fin 1024), Y (ix2 r j)
  = outE (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (tb t) (256 * (tc t).val + r.val) ⟨j.val / 128, by omega⟩ ⟨j.val % 128, by omega⟩

/-- What a point leaves: its output rows and the memory with its block taken in. -/
theorem point (H : RealAt m c) : ∀ (n : ℕ) (hn : n < cfg0.N),
    OutAt m c ⟨n, hn⟩ (outsAt0 m c n hn).1
      ∧ StAt m c (tb ⟨n, hn⟩) (256 * (n % 8 + 1)) (outsAt0 m c n hn).2.2.2.1 (outsAt0 m c n hn).2.2.2.2 := by
  intro n
  induction n with
  | zero =>
    intro hn
    have e := outsAt0_A m c ⟨0, hn⟩ rfl (by show ¬(0 % 8 = 7); omega)
    have Z : StAt m c (tb ⟨0, hn⟩) (256 * (tc ⟨0, hn⟩).val) (k0_pay4 (F := Ideal)) (k0_pay5 (F := Ideal)) := st_zero _ _ _ _ _
    dsimp only at e
    rw [e]
    dsimp only
    rw [oA_8, oA_s0, oA_s1]
    exact ⟨out H (blk m c ⟨0, hn⟩) Z, step H (blk m c ⟨0, hn⟩) Z⟩
  | succ n ih =>
    intro hn
    have ih' := (ih (by omega)).2
    by_cases h0 : (n + 1) % 8 = 0
    · have e := outsAt0_A m c ⟨n + 1, hn⟩ h0 (by show ¬(n + 1) % 8 = 7; omega)
      have Z : StAt m c (tb ⟨n + 1, hn⟩) (256 * (tc ⟨n + 1, hn⟩).val) (k0_pay4 (F := Ideal)) (k0_pay5 (F := Ideal)) := by
        have a : 256 * (tc ⟨n + 1, hn⟩).val = 0 := by show 256 * ((n + 1) % 8) = 0; omega
        rw [a]
        exact st_zero _ _ _ _ _
      dsimp only at e
      rw [e]
      dsimp only
      rw [oA_8, oA_s0, oA_s1]
      exact ⟨out H (blk m c ⟨n + 1, hn⟩) Z, step H (blk m c ⟨n + 1, hn⟩) Z⟩
    · have Z : StAt m c (tb ⟨n + 1, hn⟩) (256 * (tc ⟨n + 1, hn⟩).val) (outsAt0 m c n (by omega)).2.2.2.1 (outsAt0 m c n (by omega)).2.2.2.2 := by
        have a : 256 * (tc ⟨n + 1, hn⟩).val = 256 * (n % 8 + 1) := by show 256 * ((n + 1) % 8) = _; omega
        have a' : tb ⟨n + 1, hn⟩ = tb ⟨n, by omega⟩ := Fin.ext (by show (n + 1) / 8 = n / 8; omega)
        rw [a, a']
        exact ih'
      by_cases h1 : (n + 1) % 8 = 7
      · have e := outsAt0_C m c ⟨n + 1, hn⟩ h0 h1
        dsimp only at e
        rw [e]
        dsimp only
        rw [oC_8, oC_s0, oC_s1]
        exact ⟨out H (blk m c ⟨n + 1, hn⟩) Z, step H (blk m c ⟨n + 1, hn⟩) Z⟩
      · have e := outsAt0_B m c ⟨n + 1, hn⟩ h0 h1
        dsimp only at e
        rw [e]
        dsimp only
        rw [oB_8, oB_s0, oB_s1]
        exact ⟨out H (blk m c ⟨n + 1, hn⟩) Z, step H (blk m c ⟨n + 1, hn⟩) Z⟩

/-- At a sequence's last block the memory and its stabiliser are copied out. -/
theorem last (t : Fin cfg0.N) (h1 : t.val % 8 = 7) :
    (outsAt0 m c t.val t.isLt).2.1 = k0_pay2 (F := Ideal) (outsAt0 m c t.val t.isLt).2.2.2.1
      ∧ (outsAt0 m c t.val t.isLt).2.2.1 = k0_pay3 (F := Ideal) (outsAt0 m c t.val t.isLt).2.2.2.2 := by
  have e := outsAt0_C m c t (by omega) h1
  rw [e]
  dsimp only
  rw [oC_9, oC_10, oC_s0, oC_s1]
  exact ⟨rfl, rfl⟩
end

end Cert.Kernel10Ideal.Point

end
-- ==== Proof.MlRun.lean ====
/- The memory kernel's run: its three result arrays are the output, the memory and its stabiliser of the argument arrays. -/
module

public import proofs.«01_k».proof.Proof.MlPoint
public import proofs.«01_k».proof.Proof.Gen.Kernel10Ideal.Value

@[expose] public section

set_option maxRecDepth 16384

noncomputable section

namespace Cert.Kernel10Ideal.RefValue

open Cert.Kernel10Ideal Cert.Kernel10Ideal.Gen Cert.Kernel10Ideal.Point Cert.Kernel10Ideal.Step Idealize.ShloMosaic Idealize.ShloMosaic.TcCoe Idealize.SL.Sem Cert.MlSpec
open Idealize.ShloMosaic.Pipeline (Dat)

variable (m : (ℓ : Loc nD τ sig) → Buf (Elt Ideal) ℓ) (ρ : Dev nD → PrngReg)

/-- The output array: a row holds a position of a sequence, a column a dimension of a head. -/
def G8 (c : Dev nD) : S16384x1024.Idx → EReal := fun i =>
  outE (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(i 0).val / 2048, by have h : (i 0).val < 16384 := (i 0).isLt; omega⟩ ((i 0).val % 2048)
    ⟨(i 1).val / 128, by have h : (i 1).val < 1024 := (i 1).isLt; omega⟩ ⟨(i 1).val % 128, by omega⟩

/-- The memory array: by sequence and head, with the normaliser in column 128 and noughts after it. -/
def G9 (c : Dev nD) : S8x8x64x256.Idx → EReal := fun i =>
  memE (m ((c : Thread nD τ).loc main_arg1)) (m ((c : Thread nD τ).loc main_arg2)) (m ((c : Thread nD τ).loc main_arg4))
    (m ((c : Thread nD τ).loc main_arg5)) (i 0) (i 1) (i 2) (i 3)

/-- The stabiliser array: by sequence and head, the same number throughout a tile. -/
def G10 (c : Dev nD) : S8x8x8x128.Idx → EReal := fun i =>
  stabE (m ((c : Thread nD τ).loc main_arg4)) (m ((c : Thread nD τ).loc main_arg5)) (i 0) (i 1)

/-- After the run the first result array is the output. -/
theorem final8 (c : Dev nD) (H : RealAt m c) : (dats m 0 c).arrAt 8 cfg0.N = G8 m c := by
  refine (dats m 0 c).arrAt_eq_of_covers 8 _ (by decide +kernel) fun t hf y => ?_
  blk_simp
  rw [after0_8]
  have hi := (idx_facts t).2.2.2.2.2.2.2.2.1
  have ht := t_lt t
  idx_vars y
  have e0 : (((cfg0.win 8).blk t).view.emb (ix2 y0 y1) 0).val = t.val * 256 + y0.val := by blk_simp [hi]
  have e1 : (((cfg0.win 8).blk t).view.emb (ix2 y0 y1) 1).val = y1.val := by blk_simp [hi]
  refine ((point m c H t.val t.isLt).1 y0 y1).trans ?_
  unfold G8
  have a : (⟨(((cfg0.win 8).blk t).view.emb (ix2 y0 y1) 0).val / 2048, by rw [e0]; omega⟩ : Fin 8) = tb t := Fin.ext (by
    show (((cfg0.win 8).blk t).view.emb (ix2 y0 y1) 0).val / 2048 = t.val / 8
    rw [e0]; omega)
  have b : (((cfg0.win 8).blk t).view.emb (ix2 y0 y1) 0).val % 2048 = 256 * (tc t).val + y0.val := by
    rw [e0]; show _ = 256 * (t.val % 8) + y0.val; omega
  have d : (⟨(((cfg0.win 8).blk t).view.emb (ix2 y0 y1) 1).val / 128, by rw [e1]; omega⟩ : Fin 8) = ⟨y1.val / 128, by omega⟩ := Fin.ext (by
    show (((cfg0.win 8).blk t).view.emb (ix2 y0 y1) 1).val / 128 = y1.val / 128; rw [e1])
  have e : (⟨(((cfg0.win 8).blk t).view.emb (ix2 y0 y1) 1).val % 128, by omega⟩ : Fin 128) = ⟨y1.val % 128, by omega⟩ := Fin.ext (by
    show (((cfg0.win 8).blk t).view.emb (ix2 y0 y1) 1).val % 128 = y1.val % 128; rw [e1])
  exact (congr (congr (congrArg₂ (outE _ _ _ _ _ _ _) a b) d) e).symm

/-- The memory and the stabiliser are written back after a sequence's last block. -/
theorem flush9 : ∀ t : Fin cfg0.N, (cfg0.win 9).flush t = true → t.val % 8 = 7 := by decide +kernel
theorem flush10 : ∀ t : Fin cfg0.N, (cfg0.win 10).flush t = true → t.val % 8 = 7 := by decide +kernel

/-- A carried buffer as one sequence's block. -/
theorem copy9 (Z : Vec Ideal S8x64x256 .f32) (a : Fin 1) (h : Fin 8) (d : Fin 64) (e : Fin 256) : k0_pay2 (F := Ideal) Z (ix4 a h d e) = Z (ix3 h d e) := by
  refine shapeCast_apply _ shapeCasts_S8x64x256_S1x8x64x256 _ _ ?_
  rw [Shape.rowMajor_val_three, Shape.rowMajor_val_four]
  show (h.val * 64 + d.val) * 256 + e.val = ((a.val * 8 + h.val) * 64 + d.val) * 256 + e.val
  omega
theorem copy10 (Z : Vec Ideal S8x8x128 .f32) (a : Fin 1) (h i : Fin 8) (j : Fin 128) : k0_pay3 (F := Ideal) Z (ix4 a h i j) = Z (ix3 h i j) := by
  refine shapeCast_apply _ shapeCasts_S8x8x128_S1x8x8x128 _ _ ?_
  rw [Shape.rowMajor_val_three, Shape.rowMajor_val_four]
  show (h.val * 8 + i.val) * 128 + j.val = ((a.val * 8 + h.val) * 8 + i.val) * 128 + j.val
  omega

/-- After the run the second result array is the memory. -/
theorem final9 (c : Dev nD) (H : RealAt m c) : (dats m 0 c).arrAt 9 cfg0.N = G9 m c := by
  refine (dats m 0 c).arrAt_eq_of_covers 9 _ (by decide +kernel) fun t hf y => ?_
  have h7 := flush9 t hf
  blk_simp
  rw [after0_9]
  have hi := (idx_facts t).2.2.2.2.2.2.2.2.2.1
  have ht := t_lt t
  have hp := (point m c H t.val t.isLt).2
  have hl := (last m c t h7).1
  rw [hl]
  idx_vars y
  have e0 : (((cfg0.win 9).blk t).view.emb (ix4 y0 y1 y2 y3) 0) = tb t := Fin.ext (by blk_simp [hi])
  have e1 : (((cfg0.win 9).blk t).view.emb (ix4 y0 y1 y2 y3) 1) = y1 := Fin.ext (by blk_simp [hi])
  have e2 : (((cfg0.win 9).blk t).view.emb (ix4 y0 y1 y2 y3) 2) = y2 := Fin.ext (by blk_simp [hi])
  have e3 : (((cfg0.win 9).blk t).view.emb (ix4 y0 y1 y2 y3) 3) = y3 := Fin.ext (by blk_simp [hi])
  unfold G9
  rw [e0, e1, e2, e3]
  rw [h7] at hp
  refine (copy9 _ y0 y1 y2 y3).trans ((hp.z0 y1 y2 y3).trans ?_)
  rfl

/-- After the run the third result array is the stabiliser. -/
theorem final10 (c : Dev nD) (H : RealAt m c) : (dats m 0 c).arrAt 10 cfg0.N = G10 m c := by
  refine (dats m 0 c).arrAt_eq_of_covers 10 _ (by decide +kernel) fun t hf y => ?_
  have h7 := flush10 t hf
  blk_simp
  rw [after0_10]
  have hi := (idx_facts t).2.2.2.2.2.2.2.2.2.2
  have ht := t_lt t
  have hp := (point m c H t.val t.isLt).2
  have hl := (last m c t h7).2
  rw [hl]
  idx_vars y
  have e0 : (((cfg0.win 10).blk t).view.emb (ix4 y0 y1 y2 y3) 0) = tb t := Fin.ext (by blk_simp [hi])
  have e1 : (((cfg0.win 10).blk t).view.emb (ix4 y0 y1 y2 y3) 1) = y1 := Fin.ext (by blk_simp [hi])
  unfold G10
  rw [e0, e1]
  rw [h7] at hp
  refine (copy10 _ y0 y1 y2 y3).trans ((hp.z1 y1 y2 y3).trans ?_)
  rfl

/-- The kernel's run, from real numbers: the result arrays are the output, the memory and its stabiliser, the arguments are as launched. -/
theorem run (H : ∀ c, RealAt m c) : θ_run defs (onTc (τ := τ) (main (F := Ideal))) ⟨m, fun _ => 0, ρ⟩ fun r => ∀ c : Dev nD,
      r.2.mem ((c : Thread nD τ).loc main_v7_0) = G8 m c
      ∧ r.2.mem ((c : Thread nD τ).loc main_v7_1) = G9 m c
      ∧ r.2.mem ((c : Thread nD τ).loc main_v7_2) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final8 m c (H c)), (h c).2.1.trans (final9 m c (H c)),
    (h c).2.2.1.trans (final10 m c (H c)), (h c).2.2.2⟩) (Value.run_blocks m ρ)

end Cert.Kernel10Ideal.RefValue

end
-- ==== Proof.MlRef.lean ====
/- The memory reference's results, read as the gated memory of its argument arrays. -/
module

public import proofs.«01_k».proof.Proof.MlSpec
public import proofs.«01_k».proof.Proof.Gen.Reference10Ideal.Read
public import Idealize.ShloMosaic.Lib.Claim
public import Idealize.ShloMosaic.Lib.KernelVsHost

@[expose] public section

set_option maxRecDepth 16384

noncomputable section

namespace Cert.Reference10Ideal.RefValue

open Cert.Reference10Ideal Cert.Reference10Ideal.Gen Cert.Reference10Ideal.Read Idealize.ShloMosaic Idealize.ShloMosaic.TcCoe Idealize.SL.Sem Cert.AttnMath Cert.MlSpec
open Cert.MlMath (S A P W N C)
open scoped BigOperators

/-! ### The running sum and the largest along an axis -/

/-- A left fold of additions is the starting value and the sum. -/
theorem foldl_sum {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

/-- The window's indices are the positions along its last axis. -/
def lastAxis : (⟨3, ![1, 1, 2048]⟩ : Shape).Idx ≃ Fin 2048 where
  toFun w := w 2
  invFun n := ix3 0 0 n
  left_inv w := by
    idx_vars w
    funext a
    match a with
    | ⟨0, _⟩ => exact Subsingleton.elim (α := Fin 1) _ _
    | ⟨1, _⟩ => exact Subsingleton.elim (α := Fin 1) _ _
    | ⟨2, _⟩ => rfl
  right_inv n := rfl

/-- The running sum up to a position, over a window that ends there. -/
theorem window_apply (x : S8x8x2048.Idx → EReal) (v : EReal) (hv : v = 0)
    (h : S8x8x2048.ReduceWindows ![1, 1, 2048] ![1, 1, 1] ![0, 0, 2047] ![0, 0, 0] S8x8x2048)
    (a b : Fin 8) (t : Fin 2048) :
    Ideal.hostReduceWindowAdd ![1, 1, 2048] ![1, 1, 1] ![0, 0, 2047] ![0, 0, 0] h x v (ix3 a b t)
      = ∑ n : Fin 2048, if hn : 2047 ≤ t.val + n.val then x (ix3 a b ⟨t.val + n.val - 2047, by omega⟩) else 0 := by
  subst hv
  unfold Ideal.hostReduceWindowAdd Host.reduceWindow
  dsimp only
  rw [foldl_sum, zero_add, ← Fin.sum_univ_def,
    ← Equiv.sum_comp ((⟨3, ![1, 1, 2048]⟩ : Shape).rowMajor), ← Equiv.sum_comp lastAxis.symm]
  refine Finset.sum_congr rfl fun n _ => ?_
  simp only [Equiv.symm_apply_apply]
  by_cases hn : 2047 ≤ t.val + n.val
  · rw [dif_pos hn, dif_pos]
    · refine congrArg x (funext fun d => ?_)
      match d with
      | ⟨0, _⟩ => exact Fin.ext (show a.val * 1 + 0 - 0 = a.val by omega)
      | ⟨1, _⟩ => exact Fin.ext (show b.val * 1 + 0 - 0 = b.val by omega)
      | ⟨2, _⟩ => exact Fin.ext (show t.val * 1 + n.val - 2047 = t.val + n.val - 2047 by omega)
    · intro d
      match d with
      | ⟨0, _⟩ => exact ⟨Nat.zero_le _, show a.val * 1 + 0 - 0 < 8 by omega⟩
      | ⟨1, _⟩ => exact ⟨Nat.zero_le _, show b.val * 1 + 0 - 0 < 8 by omega⟩
      | ⟨2, _⟩ => exact ⟨show 2047 ≤ t.val * 1 + n.val by omega, show t.val * 1 + n.val - 2047 < 2048 by omega⟩
  · rw [dif_neg hn, dif_neg]
    intro hd
    have h2 : 2047 ≤ t.val * 1 + n.val := (hd 2).1
    omega

/-- The sum over that window of a sequence of real numbers. -/
theorem window_sum (f : ℕ → ℝ) (t : ℕ) (ht : t < 2048) :
    (∑ n : Fin 2048, if 2047 ≤ t + n.val then f (t + n.val - 2047) else 0) = S f (t + 1) := by
  rw [Fin.sum_univ_eq_sum_range (fun n => if 2047 ≤ t + n then f (t + n - 2047) else 0) 2048,
    show 2048 = (2047 - t) + (t + 1) by omega, Finset.sum_range_add]
  have h0 : (∑ n ∈ Finset.range (2047 - t), if 2047 ≤ t + n then f (t + n - 2047) else 0) = 0 := by
    refine Finset.sum_eq_zero fun n hn => ?_
    rw [if_neg]
    have := Finset.mem_range.1 hn
    omega
  rw [h0, zero_add]
  unfold S
  refine Finset.sum_congr rfl fun u _ => ?_
  rw [if_pos (by omega)]
  exact congrArg f (by omega)

/-- A sum over all positions of masked terms is the sum up to the position. -/
theorem sum_mask (w x : ℕ → ℝ) (t : ℕ) (ht : t < 2048) :
    (∑ s : Fin 2048, (if s.val ≤ t then w s.val else 0) * x s.val) = ∑ s ∈ Finset.range (t + 1), w s * x s := by
  rw [Fin.sum_univ_eq_sum_range (fun s => (if s ≤ t then w s else 0) * x s) 2048,
    show 2048 = (t + 1) + (2047 - t) by omega, Finset.sum_range_add]
  have h0 : (∑ s ∈ Finset.range (2047 - t), (if t + 1 + s ≤ t then w (t + 1 + s) else 0) * x (t + 1 + s)) = 0 := by
    refine Finset.sum_eq_zero fun n _ => ?_
    rw [if_neg (by omega), zero_mul]
  rw [h0, add_zero]
  refine Finset.sum_congr rfl fun s hs => ?_
  rw [if_pos (by have := Finset.mem_range.1 hs; omega)]

/-- The largest along the last axis, from the negative infinity. -/
theorem max_apply (x : FVec Ideal S8x8x2048x2048 .f32) (v : FVec Ideal S_ .f32) (hv : v (Shape.Idx.first h_S_) = (⊥ : EReal)) (a b : Fin 8) (t : Fin 2048) :
    Host.reduce (FloatOps.maximumf (F := Ideal) (φ := .f32)) x v reducesTo_S8x8x2048x2048_S8x8x2048_d3 h_S_ (ix3 a b t)
      = Finset.univ.sup fun s : Fin 2048 => (x (ix4 a b t s) : EReal) := by
  haveI : Std.Commutative (FloatOps.maximumf (F := Ideal) (φ := .f32)) := ⟨fun x y => max_comm (α := EReal) x y⟩
  haveI : Std.Associative (FloatOps.maximumf (F := Ideal) (φ := .f32)) := ⟨fun x y z => max_assoc (α := EReal) x y z⟩
  rw [Host.reduce_eq_fold_single _ _ _ reducesTo_S8x8x2048x2048_S8x8x2048_d3 (by decide), hv]
  have e : ∀ s : Fin 2048, (Shape.Reduces.lift (by decide : S8x8x2048x2048.Reduces [3] S8x8x2048) (ix3 a b t) s) = ix4 a b t s := fun s =>
    funext fun d => Fin.ext (by match d with | ⟨0, _⟩ => rfl | ⟨1, _⟩ => rfl | ⟨2, _⟩ => rfl | ⟨3, _⟩ => rfl)
  refine Finset.sup_congr rfl fun s _ => ?_
  exact congrArg x (e s)

/-! ### Which entries the reference's operations read -/

theorem i13 (h b : Fin 8) (t : Fin 2048) : idx_main_v12 (idx_main_v13 (ix3 h b t)) = ix3 b t ⟨h.val, by omega⟩ := by
  funext a
  match a with
  | ⟨0, _⟩ => rfl
  | ⟨1, _⟩ => rfl
  | ⟨2, _⟩ => rfl

theorem i16 (h b : Fin 8) (t : Fin 2048) : idx_main_v14 (idx_main_v16 (ix3 h b t)) = ix3 b t ⟨h.val + 8, by omega⟩ := by
  funext a
  match a with
  | ⟨0, _⟩ => rfl
  | ⟨1, _⟩ => rfl
  | ⟨2, _⟩ => exact Fin.ext (show 8 + h.val = h.val + 8 by omega)

theorem i24 (h b : Fin 8) (t s : Fin 2048) : idx_main_v24 (idx_main_call2_v1 (ix4 h b t s)) = ix2 t s := by
  funext a
  match a with
  | ⟨0, _⟩ => rfl
  | ⟨1, _⟩ => rfl

theorem i27 (h b : Fin 8) (t s : Fin 2048) : idx_main_v25 (idx_main_v27 (ix4 h b t s)) = ix3 h b t := by
  funext a
  match a with
  | ⟨0, _⟩ => rfl
  | ⟨1, _⟩ => rfl
  | ⟨2, _⟩ => rfl

theorem i28 (h b : Fin 8) (t s : Fin 2048) : idx_main_v26 (idx_main_v28 (ix4 h b t s)) = ix3 h b s := by
  funext a
  match a with
  | ⟨0, _⟩ => rfl
  | ⟨1, _⟩ => rfl
  | ⟨2, _⟩ => rfl

theorem i31 (h b : Fin 8) (t s : Fin 2048) : idx_main_v30 (idx_main_v31 (ix4 h b t s)) = ix3 h b s := by
  funext a
  match a with
  | ⟨0, _⟩ => rfl
  | ⟨1, _⟩ => rfl
  | ⟨2, _⟩ => rfl

theorem i37 (h b : Fin 8) (t s : Fin 2048) : idx_main_v36 (idx_main_v37 (ix4 h b t s)) = ix3 h b t := by
  funext a
  match a with
  | ⟨0, _⟩ => rfl
  | ⟨1, _⟩ => rfl
  | ⟨2, _⟩ => rfl

theorem l40 (h b : Fin 8) (t s : Fin 2048) (d : Fin 64) : lidx_main_v40 (ix4 h b t s) d = ix4 h b t d := by
  funext a
  match a with
  | ⟨0, _⟩ => rfl
  | ⟨1, _⟩ => rfl
  | ⟨2, _⟩ => rfl
  | ⟨3, _⟩ => rfl

theorem r40 (h b : Fin 8) (t s : Fin 2048) (d : Fin 64) : ridx_main_v40 (ix4 h b t s) d = ix4 h b s d := by
  funext a
  match a with
  | ⟨0, _⟩ => rfl
  | ⟨1, _⟩ => rfl
  | ⟨2, _⟩ => rfl
  | ⟨3, _⟩ => rfl

theorem l42 (h b : Fin 8) (t s : Fin 2048) (e : Fin 128) : lidx_main_v42 (ix4 h b t e) s = ix4 h b t s := by
  funext a
  match a with
  | ⟨0, _⟩ => rfl
  | ⟨1, _⟩ => rfl
  | ⟨2, _⟩ => rfl
  | ⟨3, _⟩ => rfl

theorem r42 (h b : Fin 8) (t s : Fin 2048) (e : Fin 128) : ridx_main_v42 (ix4 h b t e) s = ix4 h b s e := by
  funext a
  match a with
  | ⟨0, _⟩ => rfl
  | ⟨1, _⟩ => rfl
  | ⟨2, _⟩ => rfl
  | ⟨3, _⟩ => rfl

theorem i43 (h b : Fin 8) (t s : Fin 2048) : idx_main_v43 (ix3 h b t) s = ix4 h b t s := by
  funext a
  match a with
  | ⟨0, _⟩ => rfl
  | ⟨1, _⟩ => rfl
  | ⟨2, _⟩ => rfl
  | ⟨3, _⟩ => rfl

theorem i49 (h b : Fin 8) (t : Fin 2048) (e : Fin 128) : idx_main_v48 (idx_main_v49 (ix4 h b t e)) = ix3 h b t := by
  funext a
  match a with
  | ⟨0, _⟩ => rfl
  | ⟨1, _⟩ => rfl
  | ⟨2, _⟩ => rfl

theorem i52 (h b : Fin 8)  : idx_main_v51 (idx_main_v52 (ix2 h b)) = ix3 h b 2047 := by
  funext a
  match a with
  | ⟨0, _⟩ => exact Fin.ext (show (h.val * 8 + b.val) / 8 = h.val by omega)
  | ⟨1, _⟩ => exact Fin.ext (show (h.val * 8 + b.val) / 1 % 8 = b.val by omega)
  | ⟨2, _⟩ => rfl

theorem i54 (h b : Fin 8) (s : Fin 2048) : idx_main_v53 (idx_main_v54 (ix3 h b s)) = ix3 h b 2047 := by
  funext a
  match a with
  | ⟨0, _⟩ => rfl
  | ⟨1, _⟩ => rfl
  | ⟨2, _⟩ => rfl

theorem i58 (h b : Fin 8) (s : Fin 2048) : idx_main_v57 (idx_main_v58 (ix3 h b s)) = ix2 h b := by
  funext a
  match a with
  | ⟨0, _⟩ => rfl
  | ⟨1, _⟩ => rfl

theorem i62 (h b : Fin 8) (s : Fin 2048) (d : Fin 64) : idx_main_v61 (idx_main_v62 (ix4 h b s d)) = ix3 h b s := by
  funext a
  match a with
  | ⟨0, _⟩ => rfl
  | ⟨1, _⟩ => rfl
  | ⟨2, _⟩ => rfl

theorem l64 (h b : Fin 8) (s : Fin 2048) (d : Fin 64) (e : Fin 128) : lidx_main_v64 (ix4 b h d e) s = ix4 h b s d := by
  funext a
  match a with
  | ⟨0, _⟩ => rfl
  | ⟨1, _⟩ => rfl
  | ⟨2, _⟩ => rfl
  | ⟨3, _⟩ => rfl

theorem r64 (h b : Fin 8) (s : Fin 2048) (d : Fin 64) (e : Fin 128) : ridx_main_v64 (ix4 b h d e) s = ix4 h b s e := by
  funext a
  match a with
  | ⟨0, _⟩ => rfl
  | ⟨1, _⟩ => rfl
  | ⟨2, _⟩ => rfl
  | ⟨3, _⟩ => rfl

theorem l65 (h b : Fin 8) (s : Fin 2048) (d : Fin 64) : lidx_main_v65 (ix3 b h d) s = ix3 h b s := by
  funext a
  match a with
  | ⟨0, _⟩ => rfl
  | ⟨1, _⟩ => rfl
  | ⟨2, _⟩ => rfl

theorem r65 (h b : Fin 8) (s : Fin 2048) (d : Fin 64) : ridx_main_v65 (ix3 b h d) s = ix4 h b s d := by
  funext a
  match a with
  | ⟨0, _⟩ => rfl
  | ⟨1, _⟩ => rfl
  | ⟨2, _⟩ => rfl
  | ⟨3, _⟩ => rfl

theorem i66 (h b : Fin 8) (t : Fin 2048) (e : Fin 128) : idx_main_v66 (ix4 b t h e) = ix4 h b t e := by
  funext a
  match a with
  | ⟨0, _⟩ => rfl
  | ⟨1, _⟩ => rfl
  | ⟨2, _⟩ => rfl
  | ⟨3, _⟩ => rfl

theorem i68 (h b : Fin 8) (t : Fin 2048) (k : Fin 128) : idx_main_v68 (ix3 b t h) k = ix4 b t h k := by
  funext a
  match a with
  | ⟨0, _⟩ => rfl
  | ⟨1, _⟩ => rfl
  | ⟨2, _⟩ => rfl
  | ⟨3, _⟩ => rfl

theorem i75 (h b : Fin 8) (t : Fin 2048) (e : Fin 128) : idx_main_v69 (idx_main_v75 (ix4 b t h e)) = ix3 b t h := by
  funext a
  match a with
  | ⟨0, _⟩ => rfl
  | ⟨1, _⟩ => rfl
  | ⟨2, _⟩ => rfl

theorem i78 (h b : Fin 8) (t : Fin 2048) (e : Fin 128) : idx_main_v77 (idx_main_v78 (ix4 b t h e)) = ix2 h e := by
  funext a
  match a with
  | ⟨0, _⟩ => rfl
  | ⟨1, _⟩ => rfl

theorem i81 (h b : Fin 8) (d : Fin 64) : idx_main_v81 (ix4 b h d 0) = ix3 b h d := by
  funext a
  match a with
  | ⟨0, _⟩ => rfl
  | ⟨1, _⟩ => rfl
  | ⟨2, _⟩ => rfl

theorem i94 (h b : Fin 8) (i : Fin 8) (j : Fin 128) : idx_main_v92 (idx_main_v93 (idx_main_v94 (ix4 b h i j))) = ix2 h b := by
  funext a
  match a with
  | ⟨0, _⟩ => rfl
  | ⟨1, _⟩ => rfl

variable (x0 : (⟨S8x16384x64, .bf16⟩ : BufTy).Contents (Elt Ideal)) (x1 : (⟨S8x64x64x256, .bf16⟩ : BufTy).Contents (Elt Ideal))
  (x2 : (⟨S8x16384x128, .bf16⟩ : BufTy).Contents (Elt Ideal)) (x3 : (⟨S16384x1024, .f32⟩ : BufTy).Contents (Elt Ideal))
  (x4 : (⟨S16384x128, .f32⟩ : BufTy).Contents (Elt Ideal)) (x5 : (⟨S16, .f32⟩ : BufTy).Contents (Elt Ideal))
  (x6 : (⟨S8x128, .f32⟩ : BufTy).Contents (Elt Ideal))

/-- The keys scaled by a weight of their position. -/
theorem v63_apply (h b : Fin 8) (s : Fin 2048) (d : Fin 64) : val_main_v63 (F := Ideal) x1 x4 x5 (ix4 h b s d)
    = (val_main_v60 (F := Ideal) x4 x5 (ix3 h b s) : EReal) * val_main_v6 (F := Ideal) x1 (ix4 h b s d) := by
  rw [val_main_v63_apply, val_main_v62_apply, val_main_v61_apply]
  rw [i62]
  rfl

/-! ### The arrays by position -/

/-- The gates with their biases. -/
theorem v11_apply (b : Fin 8) (t : Fin 2048) (j : Fin 16) : val_main_v11 (F := Ideal) x4 x5 (ix3 b t j)
    = (x4 (ix2 (row b t.val) ⟨j.val, by omega⟩) + x5 (ix1 j) : EReal) := by
  rw [val_main_v11_apply, val_main_v10_apply, val_main_v7_apply, val_main_v9_apply, val_main_v8_apply]
  refine congrArg₂ (· + ·) (congrArg x4 ?_) (congrArg x5 ?_)
  · funext a
    match a with
    | ⟨0, _⟩ => exact Fin.ext (show ((b.val * 2048 + t.val) * 16 + j.val) / 16 = (b.val * 2048 + t.val) % 16384 by omega)
    | ⟨1, _⟩ => exact Fin.ext (show ((b.val * 2048 + t.val) * 16 + j.val) % 16 = j.val by omega)
  · funext a
    match a with
    | ⟨0, _⟩ => exact Fin.ext (show ((b.val * 2048 + t.val) * 16 + j.val) % 16 = j.val by omega)

/-- The mask: the earlier position is not after the later. -/
theorem mask_apply (t s : Fin 2048) : val_main_v23 (F := Ideal) (ix2 t s) = if s.val ≤ t.val then 1#1 else 0#1 :=
  MlMath.sle_nat s.val t.val (by omega) (by omega)

/-- The softplus of the negated forget gates. -/
theorem c0_apply (i : S8x2048x8.Idx) : val_main_call0_v1 (F := Ideal) x4 x5 i = softE (-(val_main_v14 (F := Ideal) x4 x5 i : EReal)) := by
  idx_vars i
  unfold val_main_call0_v1 val_main_call0_call0_v4 val_main_call0_call0_v6 val_main_call0_call0_v11 val_main_call0_call0_v10 val_main_call0_call0_v9
    val_main_call0_call0_v8 val_main_call0_call0_v7 val_main_call0_call0_v5 val_main_call0_call0_v3 val_main_call0_call0_v2 val_main_call0_call0_v1
    val_main_call0_call0_v0 val_main_call0_call0_cst val_main_call0_v0
  generalize val_main_v14 (F := Ideal) x4 x5 = y
  pointwise
  rw [if_neg (fun h => h rfl)]
  rfl

section
variable (R : Reals x0 x1 x2 x4 x5)
include R

theorem v11_coe (b : Fin 8) (t : Fin 2048) (j : Fin 16) : val_main_v11 (F := Ideal) x4 x5 (ix3 b t j) = (gR x4 x5 b j t.val : EReal) :=
  (v11_apply x4 x5 b t j).trans (R.hg _ j)

/-- The input gates. -/
theorem v13_apply (h b : Fin 8) (t : Fin 2048) : val_main_v13 (F := Ideal) x4 x5 (ix3 h b t) = (iR x4 x5 b h t.val : EReal) := by
  rw [val_main_v13_apply, val_main_v12_apply, i13]
  exact v11_coe x0 x1 x2 x4 x5 R b t ⟨h.val, by omega⟩

/-- The logarithms of the forget gates. -/
theorem v16_apply (h b : Fin 8) (t : Fin 2048) : val_main_v16 (F := Ideal) x4 x5 (ix3 h b t) = (fR x4 x5 b h t.val : EReal) := by
  rw [val_main_v16_apply, val_main_v15_apply, c0_apply, val_main_v14_apply]
  rw [i16, v11_coe x0 x1 x2 x4 x5 R, ← EReal.coe_neg, softE_coe]
  rfl

/-- Their running sums. -/
theorem v17_apply (h b : Fin 8) (t : Fin 2048) : val_main_v17 (F := Ideal) x4 x5 (ix3 h b t) = (S (fR x4 x5 b h) (t.val + 1) : EReal) := by
  have hx := v16_apply x0 x1 x2 x4 x5 R h b
  have hv : (val_main_call1_v0 (F := Ideal) (Shape.Idx.first h_S_) : EReal) = 0 := Ideal.ofBits_zero_f32
  unfold val_main_v17 Host.reduceWindowAdd
  generalize val_main_v16 (F := Ideal) x4 x5 = X at hx ⊢
  generalize val_main_call1_v0 (F := Ideal) (Shape.Idx.first h_S_) = v at hv ⊢
  refine (window_apply X v hv _ h b t).trans ?_
  rw [← window_sum _ _ t.isLt, coe_sum]
  refine Finset.sum_congr rfl fun n _ => ?_
  by_cases hn : 2047 ≤ t.val + n.val
  · rw [dif_pos hn, if_pos hn, hx]
  · rw [dif_neg hn, if_neg hn, EReal.coe_zero]

/-- The weights' exponents before the stabiliser: nothing after the position itself. -/
theorem v33_apply (h b : Fin 8) (t s : Fin 2048) : val_main_v33 (F := Ideal) x4 x5 (ix4 h b t s)
    = if s.val ≤ t.val then ((S (fR x4 x5 b h) (t.val + 1) + A (fR x4 x5 b h) (iR x4 x5 b h) s.val : ℝ) : EReal) else ⊥ := by
  rw [val_main_v33_apply, val_main_call2_v1_apply, val_main_v24_apply]
  rw [i24, mask_apply]
  have hd : val_main_v32 (F := Ideal) x4 x5 (ix4 h b t s)
      = ((S (fR x4 x5 b h) (t.val + 1) + A (fR x4 x5 b h) (iR x4 x5 b h) s.val : ℝ) : EReal) := by
    rw [val_main_v32_apply, val_main_v29_apply, val_main_v27_apply, val_main_v25_apply, val_main_v28_apply, val_main_v26_apply,
      val_main_v31_apply, val_main_v30_apply, i27, i28, i31]
    have e1 := v17_apply x0 x1 x2 x4 x5 R h b t
    have e2 := v17_apply x0 x1 x2 x4 x5 R h b s
    have e3 := v13_apply x0 x1 x2 x4 x5 R h b s
    refine (congrArg₂ (· + ·) (congrArg₂ (· - ·) e1 e2) e3 : (_ : EReal) = _).trans ?_
    rw [← EReal.coe_sub, ← EReal.coe_add]
    unfold A
    exact congrArg _ (by ring)
  have hn : (val_main_call2_v2 (F := Ideal) (ix4 h b t s) : EReal) = ⊥ := (val_main_call2_v2_apply _).trans MlMath.neg_inf
  rw [hd, hn]
  exact MlMath.select_ite _ _ _

/-- The stabiliser at a position. -/
theorem v35_apply (h b : Fin 8) (t : Fin 2048) : val_main_v35 (F := Ideal) x4 x5 (ix3 h b t)
    = (MlMath.M (fR x4 x5 b h) (iR x4 x5 b h) (t.val + 1) : EReal) := by
  rw [val_main_v35_apply]
  unfold val_main_v34
  have e := MlMath.sup_eq (fR x4 x5 b h) (iR x4 x5 b h) 2048 0 t (fun s => val_main_v33 (F := Ideal) x4 x5 (ix4 h b t s)) (fun s => by
    simp only [Nat.zero_add]
    exact v33_apply x0 x1 x2 x4 x5 R h b t s)
  simp only [Nat.zero_add] at e
  rw [show P (fR x4 x5 b h) (iR x4 x5 b h) 0 = 0 from rfl, add_zero] at e
  refine Eq.trans ?_ e
  exact congrArg₂ max (v17_apply x0 x1 x2 x4 x5 R h b t) (max_apply _ _ MlMath.neg_inf h b t)

/-- Queries, keys and values by position. -/
theorem v1_apply (h b : Fin 8) (t : Fin 2048) (d : Fin 64) : val_main_v1 (F := Ideal) x0 (ix4 h b t d) = (qR x0 b h t.val d : EReal) := by
  rw [val_main_v1_apply]
  refine Eq.trans (congrArg x0 ?_) (R.hq h (row b t.val) d)
  funext a
  match a with
  | ⟨0, _⟩ => exact Fin.ext (show (((h.val * 8 + b.val) * 2048 + t.val) * 64 + d.val) / 1048576 = h.val by omega)
  | ⟨1, _⟩ => exact Fin.ext (show (((h.val * 8 + b.val) * 2048 + t.val) * 64 + d.val) / 64 % 16384 = (b.val * 2048 + t.val) % 16384 by omega)
  | ⟨2, _⟩ => exact Fin.ext (show (((h.val * 8 + b.val) * 2048 + t.val) * 64 + d.val) % 64 = d.val by omega)

theorem v6_apply (h b : Fin 8) (t : Fin 2048) (d : Fin 64) : val_main_v6 (F := Ideal) x1 (ix4 h b t d) = (kR x1 b h d t.val : EReal) := by
  rw [val_main_v6_apply, val_main_v5_apply]
  refine Eq.trans (congrArg x1 ?_) (R.hk h ⟨(b.val * 8 + t.val / 256) % 64, by omega⟩ d ⟨t.val % 256, by omega⟩)
  funext a
  match a with
  | ⟨0, _⟩ => exact Fin.ext (show (((h.val * 8 + b.val) * 2048 + t.val) * 64 + d.val) / 1048576 = h.val by omega)
  | ⟨1, _⟩ => exact Fin.ext (show (((h.val * 8 + b.val) * 2048 + t.val) * 64 + d.val) / 16384 % 64 = (b.val * 8 + t.val / 256) % 64 by omega)
  | ⟨2, _⟩ => exact Fin.ext (show (((h.val * 8 + b.val) * 2048 + t.val) * 64 + d.val) % 64 = d.val by omega)
  | ⟨3, _⟩ => exact Fin.ext (show (((h.val * 8 + b.val) * 2048 + t.val) * 64 + d.val) / 64 % 256 = t.val % 256 by omega)

theorem v3_apply (h b : Fin 8) (t : Fin 2048) (e : Fin 128) : val_main_v3 (F := Ideal) x2 (ix4 h b t e)
    = (xR x2 b h ⟨e.val, by omega⟩ t.val : EReal) := by
  rw [val_main_v3_apply]
  unfold xR
  rw [dif_pos (show e.val < 128 from e.isLt)]
  refine Eq.trans (congrArg x2 ?_) (R.hv h (row b t.val) e)
  funext a
  match a with
  | ⟨0, _⟩ => exact Fin.ext (show (((h.val * 8 + b.val) * 2048 + t.val) * 128 + e.val) / 2097152 = h.val by omega)
  | ⟨1, _⟩ => exact Fin.ext (show (((h.val * 8 + b.val) * 2048 + t.val) * 128 + e.val) / 128 % 16384 = (b.val * 2048 + t.val) % 16384 by omega)
  | ⟨2, _⟩ => exact Fin.ext (show (((h.val * 8 + b.val) * 2048 + t.val) * 128 + e.val) % 128 = e.val by omega)

/-- The weights. -/
theorem v41_apply (h b : Fin 8) (t s : Fin 2048) : val_main_v41 (F := Ideal) x0 x1 x4 x5 (ix4 h b t s)
    = ((if s.val ≤ t.val then W (fR x4 x5 b h) (iR x4 x5 b h) (qkR x0 x1 b h) t.val s.val else 0 : ℝ) : EReal) := by
  have e := MlMath.W_coe (fR x4 x5 b h) (iR x4 x5 b h) (qkR x0 x1 b h) 0 t.val s.val
  simp only [Nat.zero_add] at e
  rw [← e, val_main_v41_apply, val_main_v39_apply, val_main_v38_apply, val_main_v37_apply, val_main_v36_apply, val_main_v40_apply, i37]
  refine congrArg₂ (· * ·) (congrArg Ideal.exp (congrArg₂ (· - ·) (v33_apply x0 x1 x2 x4 x5 R h b t s) (v35_apply x0 x1 x2 x4 x5 R h b t))) ?_
  unfold qkR
  rw [coe_sum]
  refine Finset.sum_congr rfl fun d _ => ?_
  rw [EReal.coe_mul, l40, r40]
  exact congrArg₂ (· * ·) (v1_apply x0 x1 x2 x4 x5 R h b t d) (v6_apply x0 x1 x2 x4 x5 R h b s d)

/-- The weighted sums of the values, and of the ones. -/
theorem v42_apply (h b : Fin 8) (t : Fin 2048) (e : Fin 128) : val_main_v42 (F := Ideal) x0 x1 x2 x4 x5 (ix4 h b t e)
    = (N (fR x4 x5 b h) (iR x4 x5 b h) (qkR x0 x1 b h) (xR x2 b h ⟨e.val, by omega⟩) t.val : EReal) := by
  rw [val_main_v42_apply]
  unfold N
  rw [← sum_mask _ _ _ t.isLt, coe_sum]
  refine Finset.sum_congr rfl fun s _ => ?_
  rw [EReal.coe_mul, l42, r42]
  exact congrArg₂ (· * ·) (v41_apply x0 x1 x2 x4 x5 R h b t s) (v3_apply x0 x1 x2 x4 x5 R h b s e)

theorem v43_apply (h b : Fin 8) (t : Fin 2048) : val_main_v43 (F := Ideal) x0 x1 x4 x5 (ix3 h b t)
    = (N (fR x4 x5 b h) (iR x4 x5 b h) (qkR x0 x1 b h) (xR x2 b h 128) t.val : EReal) := by
  rw [val_main_v43_apply]
  unfold N
  rw [← sum_mask _ _ _ t.isLt, coe_sum]
  refine (congrArg₂ (· + ·) (Ideal.ofBits_zero_f32 : (val_main_cst_1 (F := Ideal) (Shape.Idx.first h_S_) : EReal) = 0) rfl).trans ?_
  rw [zero_add]
  refine Finset.sum_congr rfl fun s _ => ?_
  rw [i43, show xR x2 b h 128 s.val = 1 from rfl, mul_one]
  exact v41_apply x0 x1 x2 x4 x5 R h b t s

/-- What the memory gives. -/
theorem v50_apply (h b : Fin 8) (t : Fin 2048) (e : Fin 128) : val_main_v50 (F := Ideal) x0 x1 x2 x4 x5 (ix4 h b t e)
    = hE x0 x1 x2 x4 x5 b h t.val e := by
  rw [val_main_v50_apply, val_main_v49_apply, val_main_v48_apply, val_main_v47_apply, val_main_v44_apply, val_main_v46_apply, val_main_v45_apply, i49]
  unfold hE
  have e1 := v43_apply x0 x1 x2 x4 x5 R h b t
  have e2 := v35_apply x0 x1 x2 x4 x5 R h b t
  refine congrArg₂ Ideal.div (v42_apply x0 x1 x2 x4 x5 R h b t e) ?_
  rw [coe_max]
  refine congrArg₂ max ?_ ?_
  · refine (congrArg (fun z : EReal => max z (-z)) e1).trans ?_
    rw [← EReal.coe_neg, ← coe_max]
    rfl
  · rw [Ideal.hostUnary_exp_def, Ideal.hostNegf_def, Ideal.negf_def, e2, ← EReal.coe_neg, exp_coe]

/-- The reference's first result is the output. -/
theorem v91_apply (i0 : Fin 16384) (i1 : Fin 1024) : val_main_v91 (F := Ideal) x0 x1 x2 x3 x4 x5 x6 (ix2 i0 i1)
    = outE x0 x1 x2 x3 x4 x5 x6 ⟨i0.val / 2048, by omega⟩ (i0.val % 2048) ⟨i1.val / 128, by omega⟩ ⟨i1.val % 128, by omega⟩ := by
  have hi : idx_main_v80 (ix2 i0 i1) = ix4 ⟨i0.val / 2048, by omega⟩ ⟨i0.val % 2048, by omega⟩ ⟨i1.val / 128, by omega⟩ ⟨i1.val % 128, by omega⟩ := by
    funext a
    match a with
    | ⟨0, _⟩ => exact Fin.ext (show (i0.val * 1024 + i1.val) / 2097152 = i0.val / 2048 by omega)
    | ⟨1, _⟩ => exact Fin.ext (show (i0.val * 1024 + i1.val) / 1024 % 2048 = i0.val % 2048 by omega)
    | ⟨2, _⟩ => exact Fin.ext (show (i0.val * 1024 + i1.val) / 128 % 8 = i1.val / 128 by omega)
    | ⟨3, _⟩ => exact Fin.ext (show (i0.val * 1024 + i1.val) % 128 = i1.val % 128 by omega)
  have hv : ∀ e : Fin 128, val_main_v66 (F := Ideal) x0 x1 x2 x4 x5 (ix4 ⟨i0.val / 2048, by omega⟩ ⟨i0.val % 2048, by omega⟩ ⟨i1.val / 128, by omega⟩ e)
      = hE x0 x1 x2 x4 x5 ⟨i0.val / 2048, by omega⟩ ⟨i1.val / 128, by omega⟩ (i0.val % 2048) e := fun e => by
    rw [val_main_v66_apply, i66]
    exact v50_apply x0 x1 x2 x4 x5 R ⟨i1.val / 128, by omega⟩ ⟨i0.val / 2048, by omega⟩ ⟨i0.val % 2048, by omega⟩ e
  rw [val_main_v91_apply, val_main_v90_apply, val_main_v89_apply, val_main_v87_apply, val_main_v85_apply, val_main_v84_apply, val_main_v80_apply, hi]
  rw [val_main_v79_apply, val_main_v76_apply, val_main_v75_apply, val_main_v74_apply, val_main_v73_apply, val_main_v71_apply, val_main_v69_apply,
    val_main_v68_apply, val_main_v78_apply, val_main_v77_apply, i75, i78, hv]
  unfold outE nrm
  have hs : (∑ k : Fin 128, val_main_v67 (F := Ideal) x0 x1 x2 x4 x5 (ix4 ⟨i0.val / 2048, by omega⟩ ⟨i0.val % 2048, by omega⟩ ⟨i1.val / 128, by omega⟩ k) : EReal)
      = ∑ k : Fin 128, hE x0 x1 x2 x4 x5 ⟨i0.val / 2048, by omega⟩ ⟨i1.val / 128, by omega⟩ (i0.val % 2048) k * hE x0 x1 x2 x4 x5 ⟨i0.val / 2048, by omega⟩ ⟨i1.val / 128, by omega⟩ (i0.val % 2048) k :=
    Finset.sum_congr rfl fun k _ => by
      rw [val_main_v67_apply]
      exact congrArg₂ (· * ·) (hv k) (hv k)
  have ho : (ix2 i0 i1 : S16384x1024.Idx) = ix2 (row ⟨i0.val / 2048, by omega⟩ (i0.val % 2048)) ⟨128 * (i1.val / 128) + i1.val % 128, by omega⟩ := by
    funext a
    match a with
    | ⟨0, _⟩ => exact Fin.ext (show i0.val = (i0.val / 2048 * 2048 + i0.val % 2048) % 16384 by omega)
    | ⟨1, _⟩ => exact Fin.ext (show i1.val = 128 * (i1.val / 128) + i1.val % 128 by omega)
  have c88 : (val_main_v88 (F := Ideal) (ix2 i0 i1) : EReal) = 1 := (val_main_v88_apply _).trans Ideal.ofBits_one_f32
  have c86 : (val_main_v86 (F := Ideal) (ix2 i0 i1) : EReal) = 1 := (val_main_v86_apply _).trans Ideal.ofBits_one_f32
  have c70 : ∀ i, (val_main_v70 (F := Ideal) i : EReal) = Ideal.ofBits .f32 0x43000000#32 := fun i => val_main_v70_apply i
  have c72 : ∀ i, (val_main_v72 (F := Ideal) i : EReal) = Ideal.ofBits .f32 0x358637BD#32 := fun i => val_main_v72_apply i
  have c2 : (val_main_cst_2 (F := Ideal) (Shape.Idx.first h_S_) : EReal) = 0 := Ideal.ofBits_zero_f32
  rw [← ho, ← hs]
  simp only [i68, Ideal.truncf_def, Ideal.mulf_def, Ideal.hostDivf_def, Ideal.addf_def, Ideal.hostUnary_exp_def, Ideal.hostUnary_rsqrt_def,
    Ideal.hostNegf_def, Ideal.negf_def, c70, c72]
  rw [c88, c86, c2, zero_add]

/-- The stabiliser after a sequence, and the weights against it. -/
theorem v52_apply (h b : Fin 8) : val_main_v52 (F := Ideal) x4 x5 (ix2 h b) = stabE x4 x5 b h := by
  rw [val_main_v52_apply, val_main_v51_apply]
  rw [i52]
  exact v35_apply x0 x1 x2 x4 x5 R h b 2047

theorem v60_apply (h b : Fin 8) (s : Fin 2048) : val_main_v60 (F := Ideal) x4 x5 (ix3 h b s)
    = (Real.exp (A (fR x4 x5 b h) (iR x4 x5 b h) s.val - P (fR x4 x5 b h) (iR x4 x5 b h) 2048) : EReal) := by
  rw [val_main_v60_apply, val_main_v59_apply, val_main_v56_apply, val_main_v55_apply, val_main_v54_apply, val_main_v53_apply, val_main_v58_apply,
    val_main_v57_apply, i54, i58]
  have e1 : val_main_v17 (F := Ideal) x4 x5 (ix3 h b 2047) = (S (fR x4 x5 b h) 2048 : EReal) := v17_apply x0 x1 x2 x4 x5 R h b 2047
  have e2 := v17_apply x0 x1 x2 x4 x5 R h b s
  have e3 := v13_apply x0 x1 x2 x4 x5 R h b s
  have e4 := v52_apply x0 x1 x2 x4 x5 R h b
  rw [Ideal.hostUnary_exp_def, Ideal.subf_def, Ideal.addf_def, Ideal.subf_def, e1, e2, e3, e4]
  unfold stabE
  rw [← EReal.coe_sub, ← EReal.coe_add, ← EReal.coe_sub, exp_coe]
  refine congrArg (fun z : ℝ => (Real.exp z : EReal)) ?_
  unfold MlMath.M A
  ring

/-- The memory's columns. -/
theorem v64_apply (b h : Fin 8) (d : Fin 64) (e : Fin 128) : val_main_v64 (F := Ideal) x1 x2 x4 x5 (ix4 b h d e)
    = memE x1 x2 x4 x5 b h d ⟨e.val, by omega⟩ := by
  rw [val_main_v64_apply]
  unfold memE C
  rw [← Fin.sum_univ_eq_sum_range (fun s => Real.exp (A (fR x4 x5 b h) (iR x4 x5 b h) s - P (fR x4 x5 b h) (iR x4 x5 b h) 2048)
    * (kR x1 b h d s * xR x2 b h ⟨e.val, by omega⟩ s)) 2048, coe_sum]
  refine Finset.sum_congr rfl fun s _ => ?_
  rw [← mul_assoc, EReal.coe_mul, EReal.coe_mul, l64, r64]
  refine congrArg₂ (· * ·) ((v63_apply x1 x4 x5 h b s d).trans ?_) (v3_apply x0 x1 x2 x4 x5 R h b s e)
  exact congrArg₂ (· * ·) (v60_apply x0 x1 x2 x4 x5 R h b s) (v6_apply x0 x1 x2 x4 x5 R h b s d)

theorem v65_apply (b h : Fin 8) (d : Fin 64) : val_main_v65 (F := Ideal) x1 x4 x5 (ix3 b h d) = memE x1 x2 x4 x5 b h d 128 := by
  rw [val_main_v65_apply]
  unfold memE C
  rw [← Fin.sum_univ_eq_sum_range (fun s => Real.exp (A (fR x4 x5 b h) (iR x4 x5 b h) s - P (fR x4 x5 b h) (iR x4 x5 b h) 2048)
    * (kR x1 b h d s * xR x2 b h 128 s)) 2048, coe_sum]
  refine Finset.sum_congr rfl fun s _ => ?_
  rw [show xR x2 b h 128 s.val = 1 from rfl, mul_one, EReal.coe_mul, l65, r65]
  exact congrArg₂ (· * ·) (v60_apply x0 x1 x2 x4 x5 R h b s) (v6_apply x0 x1 x2 x4 x5 R h b s d)

/-- The reference's second result is the memory. -/
theorem v83_apply (b h : Fin 8) (d : Fin 64) (e : Fin 256) : val_main_v83 (F := Ideal) x1 x2 x4 x5 (ix4 b h d e) = memE x1 x2 x4 x5 b h d e := by
  have h1 := v64_apply x0 x1 x2 x4 x5 R b h d
  have h2 := v65_apply x0 x1 x2 x4 x5 R b h d
  have h3 : ∀ i, (val_main_v82 (F := Ideal) i : EReal) = 0 := fun i => Ideal.ofBits_zero_f32
  have h4 : val_main_v81 (F := Ideal) x1 x4 x5 (ix4 b h d 0) = memE x1 x2 x4 x5 b h d 128 := by
    rw [val_main_v81_apply, i81]; exact h2
  unfold val_main_v83
  generalize val_main_v64 (F := Ideal) x1 x2 x4 x5 = y0 at h1 ⊢
  generalize val_main_v81 (F := Ideal) x1 x4 x5 = y1 at h4 ⊢
  generalize val_main_v82 (F := Ideal) = y2 at h3 ⊢
  have off : ∀ (n : ℕ) (j : Fin n) (a : Fin 4), a ≠ 3 → ((ix4 b h d j : (⟨4, ![8, 8, 64, n]⟩ : Shape).Idx) a).val = ((ix4 b h d e : S8x8x64x256.Idx) a).val := by
    intro n j a ha
    match a with
    | ⟨0, _⟩ => rfl
    | ⟨1, _⟩ => rfl
    | ⟨2, _⟩ => rfl
    | ⟨3, _⟩ => exact absurd rfl ha
  by_cases he : e.val < 128
  · exact (concatenate_apply_piece (t := S8x8x64x256) 3 [⟨S8x8x64x128, y0⟩, ⟨S8x8x64x1, y1⟩, ⟨S8x8x64x127, y2⟩] concatenates_S8x8x64x128_S8x8x64x1_S8x8x64x127_S8x8x64x256_d3 (ix4 b h d e) 0
      (show 0 < 3 by decide) S8x8x64x128 y0 rfl rfl 0 rfl (ix4 b h d ⟨e.val, he⟩) (fun a ha => off _ _ a ha) (Nat.zero_add _)).trans (h1 ⟨e.val, he⟩)
  · by_cases he' : e.val = 128
    · have ee : e = 128 := Fin.ext he'
      refine (concatenate_apply_piece (t := S8x8x64x256) 3 [⟨S8x8x64x128, y0⟩, ⟨S8x8x64x1, y1⟩, ⟨S8x8x64x127, y2⟩] concatenates_S8x8x64x128_S8x8x64x1_S8x8x64x127_S8x8x64x256_d3 (ix4 b h d e) 1
        (show 1 < 3 by decide) S8x8x64x1 y1 rfl rfl 128 rfl (ix4 b h d 0) (fun a ha => off _ _ a ha) he'.symm).trans (h4.trans ?_)
      rw [ee]
    · refine (concatenate_apply_piece (t := S8x8x64x256) 3 [⟨S8x8x64x128, y0⟩, ⟨S8x8x64x1, y1⟩, ⟨S8x8x64x127, y2⟩] concatenates_S8x8x64x128_S8x8x64x1_S8x8x64x127_S8x8x64x256_d3 (ix4 b h d e) 2
        (show 2 < 3 by decide) S8x8x64x127 y2 rfl rfl 129 rfl (ix4 b h d ⟨e.val - 129, by omega⟩) (fun a ha => off _ _ a ha)
        (show 129 + (e.val - 129) = e.val by omega)).trans ((h3 _).trans ?_)
      unfold memE C
      have hz : ∀ s, xR x2 b h e s = 0 := fun s => by unfold xR; rw [dif_neg he, if_neg he']
      simp [hz]

/-- The reference's third result is the stabiliser. -/
theorem v94_apply (b h i : Fin 8) (j : Fin 128) : val_main_v94 (F := Ideal) x4 x5 (ix4 b h i j) = stabE x4 x5 b h := by
  rw [val_main_v94_apply, val_main_v93_apply, val_main_v92_apply, i94]
  exact v52_apply x0 x1 x2 x4 x5 R h b
end

end Cert.Reference10Ideal.RefValue

end
-- ==== Proof.MlPre.lean ====
/- The memory's precondition: its queries, keys, values, gates and biases are finite, so each is a real number. -/
module

public import proofs.«01_k».proof.Pre_finite10
public import proofs.«01_k».proof.Proof.MlSpec
public import proofs.«01_k».proof.Proof.AttnPre

@[expose] public section

set_option maxRecDepth 16384

noncomputable section

namespace Cert.Pre_finite10

open Idealize.ShloMosaic Cert.MlSpec
open Cert.Pre_finite (real_of_lt and_one)

/-- The side conditions of the precondition's operations. -/
theorem facts : Facts where
  bitsLt_bf16_f32 := by decide
  bcast_S_S8x16384x64 := by decide
  reducesTo_S8x16384x64_S_d0_1_2 := by decide
  h_S_ := by decide
  bcast_S_S8x64x64x256 := by decide
  reducesTo_S8x64x64x256_S_d0_1_2_3 := by decide
  bcast_S_S8x16384x128 := by decide
  reducesTo_S8x16384x128_S_d0_1_2 := by decide
  slices_S16384x128_S16384x16_0_0 := by decide
  bcast_S_S16384x16 := by decide
  reducesTo_S16384x16_S_d0_1 := by decide
  bcast_S_S16 := by decide
  reducesTo_S16_S_d0 := by decide

instance : Subsingleton S_.Idx := ⟨fun a b => funext fun i => i.elim0⟩

/-- A number whose absolute value is below the infinity is the real number it is read as. -/
theorem self_of_lt (x : EReal) (h : Ideal.cmp .olt (max x (-x)) (Ideal.ofBits .f32 0x7F800000#32) = 1#1) : x = (x.toReal : EReal) := by
  obtain ⟨r, rfl⟩ := real_of_lt x h
  rfl

variable [hF : Facts]

/-- Where the precondition holds, the arrays are real numbers. -/
theorem reals_of_pre (x0 : FVec Ideal S8x16384x64 .bf16) (x1 : FVec Ideal S8x64x64x256 .bf16) (x2 : FVec Ideal S8x16384x128 .bf16)
    (x3 : FVec Ideal S16384x1024 .f32) (x4 : FVec Ideal S16384x128 .f32) (x5 : FVec Ideal S16 .f32) (x6 : FVec Ideal S8x128 .f32)
    (h : fn (F := Ideal) x0 x1 x2 x3 x4 x5 x6 = fun _ => 1#1) : Reals x0 x1 x2 x4 x5 := by
  have h0 := congrFun h (fun i => i.elim0)
  unfold fn fn_part1 at h0
  dsimp only at h0
  obtain ⟨h1, he⟩ := and_one _ _ h0
  obtain ⟨h2, hd⟩ := and_one _ _ h1
  obtain ⟨h3, hc⟩ := and_one _ _ h2
  obtain ⟨ha, hb⟩ := and_one _ _ h3
  refine ⟨fun h r d => self_of_lt _ ?_, fun h j d s => self_of_lt _ ?_, fun h r e => self_of_lt _ ?_, fun r j => ?_⟩
  · exact Host.reduce_andi_all _ _ _ _ _ ha (ix3 h r d)
  · exact Host.reduce_andi_all _ _ _ _ _ hb (ix4 h j d s)
  · exact Host.reduce_andi_all _ _ _ _ _ hc (ix3 h r e)
  · have e1 : x4 (ix2 r ⟨j.val, by omega⟩) = ((x4 (ix2 r ⟨j.val, by omega⟩)).toReal : EReal) := by
      have k := Host.reduce_andi_all _ _ _ _ _ hd (ix2 r j)
      refine self_of_lt _ (Eq.trans (congrArg (fun z : EReal => Ideal.cmp .olt (max z (-z)) (Ideal.ofBits .f32 0x7F800000#32)) ?_) k)
      pointwise
    have e2 : x5 (ix1 j) = ((x5 (ix1 j)).toReal : EReal) := self_of_lt _ (Host.reduce_andi_all _ _ _ _ _ he (ix1 j))
    rw [e1, e2, ← EReal.coe_add]
    rfl

end Cert.Pre_finite10

end
-- ==== Proof.lean ====
/- The proof of the certificate's claim.
   The feed-forward half step: Proof/FfnSpec.lean (the formulas), Proof/FfnBlock.lean (one block of the kernel),
   Proof/FfnRun.lean (the whole launch, and the reference).
   The stick-breaking attention: Proof/AttnSpec.lean and Proof/AttnMath.lean (the formulas), Proof/AttnPay.lean (the kernel's
   arithmetic), Proof/AttnTrip.lean (its loop over the earlier key blocks), Proof/AttnDiag.lean (the block holding the queries,
   and a grid point's output), Proof/AttnRun.lean (the whole launch), Proof/AttnRef.lean (the reference), Proof/AttnPre.lean
   (the precondition).
   The projections: Proof/ProjSpec.lean (the formula), Proof/SbProjRun.lean and Proof/MlProjRun.lean (blocks, launch, reference).
   The output projection: Proof/OutRun.lean. The per-layer embedding: Proof/PleSpec.lean (the formulas), Proof/PleRun.lean and
   Proof/PleNormRun.lean (without and with the final norm). The decode step's projections: Proof/StepRun.lean.
   The chunked memory layer: Proof/MlMath.lean and Proof/MlSpec.lean (the formulas and the sums over the reals),
   Proof/MlGate.lean, Proof/MlHead.lean, Proof/MlReal.lean and Proof/MlBlock.lean (one head of one chunk), Proof/MlStep.lean,
   Proof/MlFirst.lean and Proof/MlLast.lean (the state, from the first chunk to the last), Proof/MlPoint.lean (a grid point),
   Proof/MlRun.lean (the whole launch), Proof/MlRef.lean (the reference), Proof/MlPre.lean (the precondition). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.FfnRun
public import proofs.«01_k».proof.Proof.AttnRun
public import proofs.«01_k».proof.Proof.AttnRef
public import proofs.«01_k».proof.Proof.AttnPre
public import proofs.«01_k».proof.Proof.SbProjRun
public import proofs.«01_k».proof.Proof.MlProjRun
public import proofs.«01_k».proof.Proof.OutRun
public import proofs.«01_k».proof.Proof.PleRun
public import proofs.«01_k».proof.Proof.PleNormRun
public import proofs.«01_k».proof.Proof.StepRun
public import proofs.«01_k».proof.Proof.MlRun
public import proofs.«01_k».proof.Proof.MlRef
public import proofs.«01_k».proof.Proof.MlPre
public import Idealize.ShloMosaic.Adequacy
public import Idealize.ShloMosaic.Init

@[expose] public section

noncomputable section

/-! ## The claims -/

namespace Cert.Proof

open Idealize.ShloMosaic Idealize.SL.Sem

/-- The attention's reference returns with its arguments unchanged; a host program has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward reference returns with its arguments unchanged; a host program has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel and its reference end at the same array: the half step applied to the arguments. -/
theorem algebraic_ffn : Cert.algebraic_Kernel2Ideal_Reference2Ideal := by
  intro m ρ m' ρ' _ hagree
  refine ⟨fun c => Cert.Kernel2Ideal.RefValue.G m c, Cert.Kernel2Ideal.RefValue.run m ρ, ?_⟩
  refine (θ_run Cert.Reference2Ideal.defs _ _).mono (fun r h c => ⟨(h c).1.trans ?_, (h c).2⟩)
    (Cert.Reference2Ideal.Value.run (F := Ideal) m' ρ')
  obtain ⟨h0, h1, h2, h3⟩ := hagree c
  rw [Cert.Reference2Ideal.Read.val_main_v22_eq, Cert.Reference2Ideal.RefValue.v22_apply, h0, h1, h2, h3]
  rfl

/-- The attention kernel and its reference, from finite queries, keys and biases, end at the same array: the attention of the arguments. -/
theorem algebraic_attention : Cert.algebraic_KernelIdeal_ReferenceIdeal_pre_finite (hPre_finite := Cert.Pre_finite.facts) := by
  intro m ρ m' ρ' hpre hagree
  have H : ∀ c, Cert.KernelIdeal.RefValue.RealAt m c := fun c =>
    Cert.Pre_finite.real_of_pre (hF := Cert.Pre_finite.facts) _ _ _ _ (hpre c)
  refine ⟨fun c => Cert.KernelIdeal.RefValue.G m c, Cert.KernelIdeal.RefValue.run m ρ H, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3⟩ := hagree c
  rw [Cert.ReferenceIdeal.Read.val_main_v30_eq, h0, h1, h2, h3]
  exact Cert.ReferenceIdeal.RefValue.v30_apply _ _ _ _ (H c)

/-- The reference of the stick-breaking projection returns with its arguments unchanged; a host program has no semaphore. -/
theorem frame_reference3 : Cert.quiescent_Reference3Ideal := fun m ρ _ =>
  (θ_run Cert.Reference3Ideal.defs _ _).mono (fun r h => ⟨fun c => (h c).2.2.2.2.2, sem_eq_zero_of_no_sems (by decide) r.2⟩)
    (Cert.Reference3Ideal.Value.run (F := Ideal) m ρ)

/-- The reference of the mLSTM projection returns with its arguments unchanged; a host program has no semaphore. -/
theorem frame_reference4 : Cert.quiescent_Reference4Ideal := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- The reference of the output projection returns with its arguments unchanged; a host program has no semaphore. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the per-layer embedding returns with its arguments unchanged; a host program has no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of the per-layer embedding with the final norm returns with its arguments unchanged; a host program has no semaphore. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The stick-breaking projection's kernel and its reference end at the same five arrays. -/
theorem algebraic_sb_proj : Cert.algebraic_Kernel3Ideal_Reference3Ideal := by
  intro m ρ m' ρ' _ hagree
  refine ⟨fun c => Cert.Kernel3Ideal.RefValue.G3 m c, fun c => Cert.Kernel3Ideal.RefValue.G4 m c, fun c => Cert.Kernel3Ideal.RefValue.G5 m c,
    fun c => Cert.Kernel3Ideal.RefValue.G6 m c, fun c => Cert.Kernel3Ideal.RefValue.G7 m c, Cert.Kernel3Ideal.RefValue.run m ρ, ?_⟩
  refine (θ_run Cert.Reference3Ideal.defs _ _).mono (fun r h c => ⟨(h c).1.trans ?_, (h c).2.1.trans ?_, (h c).2.2.1.trans ?_,
    (h c).2.2.2.1.trans ?_, (h c).2.2.2.2.1.trans ?_, (h c).2.2.2.2.2⟩) (Cert.Reference3Ideal.Value.run (F := Ideal) m' ρ')
  · obtain ⟨h0, h1, h2⟩ := hagree c
    rw [Cert.Reference3Ideal.Read.val_main_v25_eq, Cert.Reference3Ideal.RefValue.v25_eq', h0, h1, h2]
    rfl
  · obtain ⟨h0, h1, h2⟩ := hagree c
    rw [Cert.Reference3Ideal.Read.val_main_v27_eq, Cert.Reference3Ideal.RefValue.v27_eq', h0, h1, h2]
    rfl
  · obtain ⟨h0, h1, h2⟩ := hagree c
    rw [Cert.Reference3Ideal.Read.val_main_v29_eq, Cert.Reference3Ideal.RefValue.v29_eq', h0, h1, h2]
    rfl
  · obtain ⟨h0, h1, h2⟩ := hagree c
    rw [Cert.Reference3Ideal.Read.val_main_v30_eq, Cert.Reference3Ideal.RefValue.v30_eq', h0, h1, h2]
    rfl
  · obtain ⟨h0, h1, h2⟩ := hagree c
    rw [Cert.Reference3Ideal.Read.val_main_v32_eq, Cert.Reference3Ideal.RefValue.v32_eq', h0, h1, h2]
    rfl

/-- The mLSTM projection's kernel and its reference end at the same five arrays. -/
theorem algebraic_ml_proj : Cert.algebraic_Kernel4Ideal_Reference4Ideal := by
  intro m ρ m' ρ' _ hagree
  refine ⟨fun c => Cert.Kernel4Ideal.RefValue.G3 m c, fun c => Cert.Kernel4Ideal.RefValue.G4 m c, fun c => Cert.Kernel4Ideal.RefValue.G5 m c,
    fun c => Cert.Kernel4Ideal.RefValue.G6 m c, fun c => Cert.Kernel4Ideal.RefValue.G7 m c, Cert.Kernel4Ideal.RefValue.run m ρ, ?_⟩
  refine (θ_run Cert.Reference4Ideal.defs _ _).mono (fun r h c => ⟨(h c).1.trans ?_, (h c).2.1.trans ?_, (h c).2.2.1.trans ?_,
    (h c).2.2.2.1.trans ?_, (h c).2.2.2.2.1.trans ?_, (h c).2.2.2.2.2⟩) (Cert.Reference4Ideal.Value.run (F := Ideal) m' ρ')
  · obtain ⟨h0, h1, h2⟩ := hagree c
    rw [Cert.Reference4Ideal.Read.val_main_v17_eq, Cert.Reference4Ideal.RefValue.v17_eq', h0, h1, h2]
    rfl
  · obtain ⟨h0, h1, h2⟩ := hagree c
    rw [Cert.Reference4Ideal.Read.val_main_v24_eq, Cert.Reference4Ideal.RefValue.v24_eq', h0, h1, h2]
    rfl
  · obtain ⟨h0, h1, h2⟩ := hagree c
    rw [Cert.Reference4Ideal.Read.val_main_v26_eq, Cert.Reference4Ideal.RefValue.v26_eq', h0, h1, h2]
    rfl
  · obtain ⟨h0, h1, h2⟩ := hagree c
    rw [Cert.Reference4Ideal.Read.val_main_v28_eq, Cert.Reference4Ideal.RefValue.v28_eq', h0, h1, h2]
    rfl
  · obtain ⟨h0, h1, h2⟩ := hagree c
    rw [Cert.Reference4Ideal.Read.val_main_v30_eq, Cert.Reference4Ideal.RefValue.v30_eq', h0, h1, h2]
    rfl

/-- The output projection's kernel and its reference end at the same array. -/
theorem algebraic_out_proj : Cert.algebraic_Kernel5Ideal_Reference5Ideal := by
  intro m ρ m' ρ' _ hagree
  refine ⟨fun c => Cert.Kernel5Ideal.RefValue.G m c, Cert.Kernel5Ideal.RefValue.run m ρ, ?_⟩
  refine (θ_run Cert.Reference5Ideal.defs _ _).mono (fun r h c => ⟨(h c).1.trans ?_, (h c).2⟩)
    (Cert.Reference5Ideal.Value.run (F := Ideal) m' ρ')
  obtain ⟨h0, h1, h2⟩ := hagree c
  rw [Cert.Reference5Ideal.Read.val_main_v2_eq, Cert.Reference5Ideal.RefValue.v2_apply, h0, h1, h2]
  rfl

/-- The per-layer embedding's kernel and its reference end at the same array. -/
theorem algebraic_ple : Cert.algebraic_Kernel6Ideal_Reference6Ideal := by
  intro m ρ m' ρ' _ hagree
  refine ⟨fun c => Cert.Kernel6Ideal.RefValue.G m c, Cert.Kernel6Ideal.RefValue.run m ρ, ?_⟩
  refine (θ_run Cert.Reference6Ideal.defs _ _).mono (fun r h c => ⟨(h c).1.trans ?_, (h c).2⟩)
    (Cert.Reference6Ideal.Value.run (F := Ideal) m' ρ')
  obtain ⟨h0, h1, h2, h3, h4⟩ := hagree c
  rw [Cert.Reference6Ideal.Read.val_main_v23_eq, Cert.Reference6Ideal.RefValue.v23_eq, h0, h1, h2, h3, h4]
  rfl

/-- The per-layer embedding with the final norm's kernel and its reference end at the same array. -/
theorem algebraic_ple_norm : Cert.algebraic_Kernel7Ideal_Reference7Ideal := by
  intro m ρ m' ρ' _ hagree
  refine ⟨fun c => Cert.Kernel7Ideal.RefValue.G m c, Cert.Kernel7Ideal.RefValue.run m ρ, ?_⟩
  refine (θ_run Cert.Reference7Ideal.defs _ _).mono (fun r h c => ⟨(h c).1.trans ?_, (h c).2⟩)
    (Cert.Reference7Ideal.Value.run (F := Ideal) m' ρ')
  obtain ⟨h0, h1, h2, h3, h4, h5⟩ := hagree c
  rw [Cert.Reference7Ideal.Read.val_main_v36_eq, Cert.Reference7Ideal.RefValue.v36_apply, h0, h1, h2, h3, h4, h5]
  rfl

/-- The reference of the decode step's projection for the attention returns with its arguments unchanged; a host program has no semaphore. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The decode step's projection for the attention: kernel and reference end at the same array. -/
theorem algebraic_step_sb : Cert.algebraic_Kernel8Ideal_Reference8Ideal := by
  intro m ρ m' ρ' _ hagree
  refine ⟨fun c => Cert.Kernel8Ideal.RefValue.G m c, Cert.Kernel8Ideal.RefValue.run m ρ, ?_⟩
  refine (θ_run Cert.Reference8Ideal.defs _ _).mono (fun r h c => ⟨(h c).1.trans ?_, (h c).2⟩)
    (Cert.Reference8Ideal.Value.run (F := Ideal) m' ρ')
  obtain ⟨h0, h1, h2⟩ := hagree c
  rw [Cert.Reference8Ideal.Read.val_main_v13_eq, Cert.Reference8Ideal.RefValue.v13_eq', h0, h1, h2]
  rfl

/-- The reference of the decode step's projection for the memory layer returns with its arguments unchanged; a host program has no semaphore. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The decode step's projection for the memory layer: kernel and reference end at the same array. -/
theorem algebraic_step_ml : Cert.algebraic_Kernel9Ideal_Reference9Ideal := by
  intro m ρ m' ρ' _ hagree
  refine ⟨fun c => Cert.Kernel9Ideal.RefValue.G m c, Cert.Kernel9Ideal.RefValue.run m ρ, ?_⟩
  refine (θ_run Cert.Reference9Ideal.defs _ _).mono (fun r h c => ⟨(h c).1.trans ?_, (h c).2⟩)
    (Cert.Reference9Ideal.Value.run (F := Ideal) m' ρ')
  obtain ⟨h0, h1, h2⟩ := hagree c
  rw [Cert.Reference9Ideal.Read.val_main_v14_eq, Cert.Reference9Ideal.RefValue.v14_eq', h0, h1, h2]
  rfl

/-- The tenth reference runs, ends, and leaves its arguments as they were. -/
theorem frame_reference10 : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

/-- The chunked memory layer: where queries, keys, values, gates and gate biases are numbers, kernel and reference end at the
    same output, memory and stabiliser. -/
theorem algebraic_ml_chunk : Cert.algebraic_Kernel10Ideal_Reference10Ideal_pre_finite10 (hPre_finite10 := Cert.Pre_finite10.facts) := by
  intro m ρ m' ρ' hpre hagree
  have H : ∀ c, Cert.Kernel10Ideal.Point.RealAt m c := fun c =>
    Cert.Pre_finite10.reals_of_pre (hF := Cert.Pre_finite10.facts) _ _ _ _ _ _ _ (hpre c)
  refine ⟨fun c => Cert.Kernel10Ideal.RefValue.G8 m c, fun c => Cert.Kernel10Ideal.RefValue.G9 m c,
    fun c => Cert.Kernel10Ideal.RefValue.G10 m c, Cert.Kernel10Ideal.RefValue.run m ρ H, ?_⟩
  refine (θ_run Cert.Reference10Ideal.defs _ _).mono (fun r h c => ⟨(h c).1.trans ?_, (h c).2.1.trans ?_, (h c).2.2.1.trans ?_,
    (h c).2.2.2⟩) (Cert.Reference10Ideal.Value.run (F := Ideal) m' ρ')
  · obtain ⟨h0, h1, h2, h3, h4, h5, h6⟩ := hagree c
    rw [Cert.Reference10Ideal.Read.val_main_v91_eq]
    refine (congr (congr (congr (congr (congr (congr (congrArg (Cert.Reference10Ideal.Read.val_main_v91 (F := Ideal)) h0) h1) h2) h3) h4) h5) h6).trans ?_
    funext i
    idx_vars i
    exact Cert.Reference10Ideal.RefValue.v91_apply _ _ _ _ _ _ _ (H c) _ _
  · obtain ⟨h0, h1, h2, h3, h4, h5, h6⟩ := hagree c
    rw [Cert.Reference10Ideal.Read.val_main_v83_eq]
    refine (congr (congr (congr (congrArg (Cert.Reference10Ideal.Read.val_main_v83 (F := Ideal)) h1) h2) h4) h5).trans ?_
    funext i
    idx_vars i
    exact Cert.Reference10Ideal.RefValue.v83_apply _ _ _ _ _ (H c) _ _ _ _
  · obtain ⟨h0, h1, h2, h3, h4, h5, h6⟩ := hagree c
    rw [Cert.Reference10Ideal.Read.val_main_v94_eq]
    refine (congr (congrArg (Cert.Reference10Ideal.Read.val_main_v94 (F := Ideal)) h4) h5).trans ?_
    funext i
    idx_vars i
    exact Cert.Reference10Ideal.RefValue.v94_apply _ _ _ _ _ (H c) _ _ _ _

/-- The certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_finite.facts, Cert.Pre_finite10.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, fun m ρ _ => Cert.Kernel10Ideal.Gen.frame m ρ,
  frame_reference10, fun m ρ _ => frame_reference10 m ρ trivial,
  trivial, trivial, trivial, trivial, trivial, trivial, trivial, trivial, trivial, trivial, algebraic_ffn, algebraic_attention, algebraic_sb_proj, algebraic_ml_proj, algebraic_out_proj, algebraic_ple, algebraic_ple_norm, algebraic_step_sb, algebraic_step_ml,
  algebraic_ml_chunk⟩

end Cert.Proof

end
